-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v81_0)) (v1 : (c : Dev Cert.Kernel2Ideal.nD) → Buf (Elt Ideal) ((c.tc : Thread Cert.Kernel2Ideal.nD Cert.Kernel2Ideal.τ).loc Cert.Kernel2Ideal.main_v81_1)) (v2 : (c : Dev Cert.Kernel2Ideal.nD) → Buf (Elt Ideal) ((c.tc : Thread Cert.Kernel2Ideal.nD Cert.Kernel2Ideal.τ).loc Cert.Kernel2Ideal.main_v81_2)) (v3 : (c : Dev Cert.Kernel2Ideal.nD) → Buf (Elt Ideal) ((c.tc : Thread Cert.Kernel2Ideal.nD Cert.Kernel2Ideal.τ).loc Cert.Kernel2Ideal.main_v81_3)) (v4 : (c : Dev Cert.Kernel2Ideal.nD) → Buf (Elt Ideal) ((c.tc : Thread Cert.Kernel2Ideal.nD Cert.Kernel2Ideal.τ).loc Cert.Kernel2Ideal.main_v81_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v81_0) = v0 c
          ∧ r.2.mem ((c.tc : Thread Cert.Kernel2Ideal.nD Cert.Kernel2Ideal.τ).loc Cert.Kernel2Ideal.main_v81_1) = v1 c
          ∧ r.2.mem ((c.tc : Thread Cert.Kernel2Ideal.nD Cert.Kernel2Ideal.τ).loc Cert.Kernel2Ideal.main_v81_2) = v2 c
          ∧ r.2.mem ((c.tc : Thread Cert.Kernel2Ideal.nD Cert.Kernel2Ideal.τ).loc Cert.Kernel2Ideal.main_v81_3) = v3 c
          ∧ r.2.mem ((c.tc : Thread Cert.Kernel2Ideal.nD Cert.Kernel2Ideal.τ).loc Cert.Kernel2Ideal.main_v81_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v86) = v1 c
          ∧ r.2.mem ((c.tc : Thread Cert.Reference2Ideal.nD Cert.Reference2Ideal.τ).loc Cert.Reference2Ideal.main_v89) = v2 c
          ∧ r.2.mem ((c.tc : Thread Cert.Reference2Ideal.nD Cert.Reference2Ideal.τ).loc Cert.Reference2Ideal.main_v92) = v3 c
          ∧ r.2.mem ((c.tc : Thread Cert.Reference2Ideal.nD Cert.Reference2Ideal.τ).loc Cert.Reference2Ideal.main_v96) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v71_0)) (v1 : (c : Dev Cert.Kernel3Ideal.nD) → Buf (Elt Ideal) ((c.tc : Thread Cert.Kernel3Ideal.nD Cert.Kernel3Ideal.τ).loc Cert.Kernel3Ideal.main_v71_1)) (v2 : (c : Dev Cert.Kernel3Ideal.nD) → Buf (Elt Ideal) ((c.tc : Thread Cert.Kernel3Ideal.nD Cert.Kernel3Ideal.τ).loc Cert.Kernel3Ideal.main_v71_2)) (v3 : (c : Dev Cert.Kernel3Ideal.nD) → Buf (Elt Ideal) ((c.tc : Thread Cert.Kernel3Ideal.nD Cert.Kernel3Ideal.τ).loc Cert.Kernel3Ideal.main_v71_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v71_0) = v0 c
          ∧ r.2.mem ((c.tc : Thread Cert.Kernel3Ideal.nD Cert.Kernel3Ideal.τ).loc Cert.Kernel3Ideal.main_v71_1) = v1 c
          ∧ r.2.mem ((c.tc : Thread Cert.Kernel3Ideal.nD Cert.Kernel3Ideal.τ).loc Cert.Kernel3Ideal.main_v71_2) = v2 c
          ∧ r.2.mem ((c.tc : Thread Cert.Kernel3Ideal.nD Cert.Kernel3Ideal.τ).loc Cert.Kernel3Ideal.main_v71_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_v63) = v1 c
          ∧ r.2.mem ((c.tc : Thread Cert.Reference3Ideal.nD Cert.Reference3Ideal.τ).loc Cert.Reference3Ideal.main_v66) = v2 c
          ∧ r.2.mem ((c.tc : Thread Cert.Reference3Ideal.nD Cert.Reference3Ideal.τ).loc Cert.Reference3Ideal.main_v70) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x8192x1024 : Shape := ⟨3, ![2, 8192, 1024]⟩
abbrev S1024 : Shape := ⟨1, ![1024]⟩
abbrev S1024x4096 : Shape := ⟨2, ![1024, 4096]⟩
abbrev S3x1024 : Shape := ⟨2, ![3, 1024]⟩
abbrev S1024x1024 : Shape := ⟨2, ![1024, 1024]⟩
abbrev S32x128x2x2x128 : Shape := ⟨5, ![32, 128, 2, 2, 128]⟩
abbrev S32x512x2x2x128 : Shape := ⟨5, ![32, 512, 2, 2, 128]⟩
abbrev S32x2048x2x2x128 : Shape := ⟨5, ![32, 2048, 2, 2, 128]⟩
abbrev S32x1x3x2x128 : Shape := ⟨5, ![32, 1, 3, 2, 128]⟩
abbrev S32x512x128 : Shape := ⟨3, ![32, 512, 128]⟩
abbrev S32x2048x128 : Shape := ⟨3, ![32, 2048, 128]⟩
abbrev S32x8192x128 : Shape := ⟨3, ![32, 8192, 128]⟩
abbrev S32x3x2x128 : Shape := ⟨4, ![32, 3, 2, 128]⟩
abbrev S32x3x1x2x128 : Shape := ⟨5, ![32, 3, 1, 2, 128]⟩
abbrev S32x3x2x2x128 : Shape := ⟨5, ![32, 3, 2, 2, 128]⟩
abbrev S32x3x4x128 : Shape := ⟨4, ![32, 3, 4, 128]⟩
abbrev S1x1024 : Shape := ⟨2, ![1, 1024]⟩
abbrev S2x2x1024 : Shape := ⟨3, ![2, 2, 1024]⟩
abbrev S32x12x128x128 : Shape := ⟨4, ![32, 12, 128, 128]⟩
abbrev S1x512x1024 : Shape := ⟨3, ![1, 512, 1024]⟩
abbrev S1x512x128 : Shape := ⟨3, ![1, 512, 128]⟩
abbrev S1x2048x128 : Shape := ⟨3, ![1, 2048, 128]⟩
abbrev S1x8192x128 : Shape := ⟨3, ![1, 8192, 128]⟩
abbrev S1x3x4x128 : Shape := ⟨4, ![1, 3, 4, 128]⟩
abbrev S1x2x1024 : Shape := ⟨3, ![1, 2, 1024]⟩
abbrev S1x12x128x128 : Shape := ⟨4, ![1, 12, 128, 128]⟩
abbrev S8x1024 : Shape := ⟨2, ![8, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S1x256 : Shape := ⟨2, ![1, 256]⟩
abbrev S2x256 : Shape := ⟨2, ![2, 256]⟩
abbrev S2x1024 : Shape := ⟨2, ![2, 1024]⟩
abbrev S1x508x128 : Shape := ⟨3, ![1, 508, 128]⟩
abbrev S508x128 : Shape := ⟨2, ![508, 128]⟩
abbrev S1x1x4x128 : Shape := ⟨4, ![1, 1, 4, 128]⟩
abbrev S4x128 : Shape := ⟨2, ![4, 128]⟩
abbrev S1x4x128 : Shape := ⟨3, ![1, 4, 128]⟩
abbrev S1x128x128 : Shape := ⟨3, ![1, 128, 128]⟩
abbrev S128x128 : Shape := ⟨2, ![128, 128]⟩
abbrev S1x1x128x128 : Shape := ⟨4, ![1, 1, 128, 128]⟩
abbrev S1x2044x128 : Shape := ⟨3, ![1, 2044, 128]⟩
abbrev S2044x128 : Shape := ⟨2, ![2044, 128]⟩
abbrev S1x8188x128 : Shape := ⟨3, ![1, 8188, 128]⟩
abbrev S8188x128 : Shape := ⟨2, ![8188, 128]⟩

abbrev nBuf : Space → Nat
  | .hbm => 30
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4096, .f32⟩
  | .hbm, ⟨3, _⟩ => ⟨S3x1024, .f32⟩
  | .hbm, ⟨4, _⟩ => ⟨S1024x1024, .f32⟩
  | .hbm, ⟨5, _⟩ => ⟨S1024, .f32⟩
  | .hbm, ⟨6, _⟩ => ⟨S32x128x2x2x128, .f32⟩
  | .hbm, ⟨7, _⟩ => ⟨S32x512x2x2x128, .f32⟩
  | .hbm, ⟨8, _⟩ => ⟨S32x2048x2x2x128, .f32⟩
  | .hbm, ⟨9, _⟩ => ⟨S32x1x3x2x128, .f32⟩
  | .hbm, ⟨10, _⟩ => ⟨S32x1x3x2x128, .f32⟩
  | .hbm, ⟨11, _⟩ => ⟨S32x512x128, .f32⟩
  | .hbm, ⟨12, _⟩ => ⟨S32x2048x128, .f32⟩
  | .hbm, ⟨13, _⟩ => ⟨S32x8192x128, .f32⟩
  | .hbm, ⟨14, _⟩ => ⟨S32x3x2x128, .f32⟩
  | .hbm, ⟨15, _⟩ => ⟨S32x3x2x128, .f32⟩
  | .hbm, ⟨16, _⟩ => ⟨S32x3x1x2x128, .f32⟩
  | .hbm, ⟨17, _⟩ => ⟨S32x3x1x2x128, .f32⟩
  | .hbm, ⟨18, _⟩ => ⟨S32x3x2x2x128, .f32⟩
  | .hbm, ⟨19, _⟩ => ⟨S32x3x4x128, .f32⟩
  | .hbm, ⟨20, _⟩ => ⟨S1x1024, .f32⟩
  | .hbm, ⟨21, _⟩ => ⟨S1024x4096, .bf16⟩
  | .hbm, ⟨22, _⟩ => ⟨S1024x1024, .bf16⟩
  | .hbm, ⟨23, _⟩ => ⟨S1x1024, .f32⟩
  | .hbm, ⟨24, _⟩ => ⟨S2x8192x1024, .f32⟩
  | .hbm, ⟨25, _⟩ => ⟨S2x2x1024, .f32⟩
  | .hbm, ⟨26, _⟩ => ⟨S32x512x128, .f32⟩
  | .hbm, ⟨27, _⟩ => ⟨S32x2048x128, .f32⟩
  | .hbm, ⟨28, _⟩ => ⟨S32x8192x128, .f32⟩
  | .hbm, ⟨29, _⟩ => ⟨S32x12x128x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4096, .bf16⟩
  | .local _ .vmem, ⟨4, _⟩ => ⟨S3x1024, .f32⟩
  | .local _ .vmem, ⟨5, _⟩ => ⟨S1024x1024, .bf16⟩
  | .local _ .vmem, ⟨6, _⟩ => ⟨S1x1024, .f32⟩
  | .local _ .vmem, ⟨7, _⟩ => ⟨S1x512x128, .f32⟩
  | .local _ .vmem, ⟨8, _⟩ => ⟨S1x512x128, .f32⟩
  | .local _ .vmem, ⟨9, _⟩ => ⟨S1x2048x128, .f32⟩
  | .local _ .vmem, ⟨10, _⟩ => ⟨S1x2048x128, .f32⟩
  | .local _ .vmem, ⟨11, _⟩ => ⟨S1x8192x128, .f32⟩
  | .local _ .vmem, ⟨12, _⟩ => ⟨S1x8192x128, .f32⟩
  | .local _ .vmem, ⟨13, _⟩ => ⟨S1x3x4x128, .f32⟩
  | .local _ .vmem, ⟨14, _⟩ => ⟨S1x3x4x128, .f32⟩
  | .local _ .vmem, ⟨15, _⟩ => ⟨S1x512x1024, .f32⟩
  | .local _ .vmem, ⟨16, _⟩ => ⟨S1x512x1024, .f32⟩
  | .local _ .vmem, ⟨17, _⟩ => ⟨S1x2x1024, .f32⟩
  | .local _ .vmem, ⟨18, _⟩ => ⟨S1x2x1024, .f32⟩
  | .local _ .vmem, ⟨19, _⟩ => ⟨S1x512x128, .f32⟩
  | .local _ .vmem, ⟨20, _⟩ => ⟨S1x512x128, .f32⟩
  | .local _ .vmem, ⟨21, _⟩ => ⟨S1x2048x128, .f32⟩
  | .local _ .vmem, ⟨22, _⟩ => ⟨S1x2048x128, .f32⟩
  | .local _ .vmem, ⟨23, _⟩ => ⟨S1x8192x128, .f32⟩
  | .local _ .vmem, ⟨24, _⟩ => ⟨S1x8192x128, .f32⟩
  | .local _ .vmem, ⟨25, _⟩ => ⟨S1x12x128x128, .bf16⟩
  | .local _ .vmem, ⟨26, _⟩ => ⟨S1x12x128x128, .bf16⟩
  | .local _ .vmem, ⟨27, _⟩ => ⟨S8x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev main_v13_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8192x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x12x128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S2x8192x1024 : Shape := ⟨3, ![2, 8192, 1024]⟩
abbrev S1024 : Shape := ⟨1, ![1024]⟩
abbrev S1024x4096 : Shape := ⟨2, ![1024, 4096]⟩
abbrev S3x1024 : Shape := ⟨2, ![3, 1024]⟩
abbrev S1024x1024 : Shape := ⟨2, ![1024, 1024]⟩
abbrev S32x128x2x2x128 : Shape := ⟨5, ![32, 128, 2, 2, 128]⟩
abbrev S32x512x2x2x128 : Shape := ⟨5, ![32, 512, 2, 2, 128]⟩
abbrev S32x2048x2x2x128 : Shape := ⟨5, ![32, 2048, 2, 2, 128]⟩
abbrev S32x1x3x2x128 : Shape := ⟨5, ![32, 1, 3, 2, 128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S2x2x1024 : Shape := ⟨3, ![2, 2, 1024]⟩
abbrev S2x8194x1024 : Shape := ⟨3, ![2, 8194, 1024]⟩
abbrev S1x1024 : Shape := ⟨2, ![1, 1024]⟩
abbrev S32x1x1x2x128 : Shape := ⟨5, ![32, 1, 1, 2, 128]⟩
abbrev S32x1x2x128 : Shape := ⟨4, ![32, 1, 2, 128]⟩
abbrev S32x128x1x2x128 : Shape := ⟨5, ![32, 128, 1, 2, 128]⟩
abbrev S32x128x2x128 : Shape := ⟨4, ![32, 128, 2, 128]⟩
abbrev S32x129x2x128 : Shape := ⟨4, ![32, 129, 2, 128]⟩
abbrev S32x129x1x2x128 : Shape := ⟨5, ![32, 129, 1, 2, 128]⟩
abbrev S32x129x2x2x128 : Shape := ⟨5, ![32, 129, 2, 2, 128]⟩
abbrev S32x512x128 : Shape := ⟨3, ![32, 512, 128]⟩
abbrev S32x512x1x2x128 : Shape := ⟨5, ![32, 512, 1, 2, 128]⟩
abbrev S32x512x2x128 : Shape := ⟨4, ![32, 512, 2, 128]⟩
abbrev S32x513x2x128 : Shape := ⟨4, ![32, 513, 2, 128]⟩
abbrev S32x513x1x2x128 : Shape := ⟨5, ![32, 513, 1, 2, 128]⟩
abbrev S32x513x2x2x128 : Shape := ⟨5, ![32, 513, 2, 2, 128]⟩
abbrev S32x2048x128 : Shape := ⟨3, ![32, 2048, 128]⟩
abbrev S32x2048x1x2x128 : Shape := ⟨5, ![32, 2048, 1, 2, 128]⟩
abbrev S32x2048x2x128 : Shape := ⟨4, ![32, 2048, 2, 128]⟩
abbrev S32x2049x2x128 : Shape := ⟨4, ![32, 2049, 2, 128]⟩
abbrev S32x2049x1x2x128 : Shape := ⟨5, ![32, 2049, 1, 2, 128]⟩
abbrev S32x2049x2x2x128 : Shape := ⟨5, ![32, 2049, 2, 2, 128]⟩
abbrev S32x8192x128 : Shape := ⟨3, ![32, 8192, 128]⟩

abbrev nBuf : Space → Nat
  | .hbm => 131
  | .vmem => 0
  | .smem => 0
  | _ => 0

abbrev hbmTy0_0 (i : Nat) : BufTy := match i % 128 with
  | 0 => ⟨S2x8192x1024, .f32⟩
  | 1 => ⟨S1024, .f32⟩
  | 2 => ⟨S1024x4096, .f32⟩
  | 3 => ⟨S3x1024, .f32⟩
  | 4 => ⟨S1024x1024, .f32⟩
  | 5 => ⟨S1024, .f32⟩
  | 6 => ⟨S32x128x2x2x128, .f32⟩
  | 7 => ⟨S32x512x2x2x128, .f32⟩
  | 8 => ⟨S32x2048x2x2x128, .f32⟩
  | 9 => ⟨S32x1x3x2x128, .f32⟩
  | 10 => ⟨S32x1x3x2x128, .f32⟩
  | 11 => ⟨S2x8192x1024, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x1024, .f32⟩
  | 23 => ⟨S2x8192x1024, .f32⟩
  | 24 => ⟨S1x1x1024, .f32⟩
  | 25 => ⟨S2x8192x1024, .f32⟩
  | 26 => ⟨S2x8192x1024, .f32⟩
  | 27 => ⟨S2x8192x4096, .f32⟩
  | 28 => ⟨S2x8192x1024, .f32⟩
  | 29 => ⟨S2x8192x1024, .f32⟩
  | 30 => ⟨S2x8192x1024, .f32⟩
  | 31 => ⟨S2x8192x1024, .f32⟩
  | 32 => ⟨S2x8192x1024, .f32⟩
  | 33 => ⟨S_, .f32⟩
  | 34 => ⟨S2x2x1024, .f32⟩
  | 35 => ⟨S2x8194x1024, .f32⟩
  | 36 => ⟨S2x8192x1024, .f32⟩
  | 37 => ⟨S1x1024, .f32⟩
  | 38 => ⟨S1024, .f32⟩
  | 39 => ⟨S1x1x1024, .f32⟩
  | 40 => ⟨S2x8192x1024, .f32⟩
  | 41 => ⟨S2x8192x1024, .f32⟩
  | 42 => ⟨S2x8192x1024, .f32⟩
  | 43 => ⟨S1x1024, .f32⟩
  | 44 => ⟨S1024, .f32⟩
  | 45 => ⟨S1x1x1024, .f32⟩
  | 46 => ⟨S2x8192x1024, .f32⟩
  | 47 => ⟨S2x8192x1024, .f32⟩
  | 48 => ⟨S2x8192x1024, .f32⟩
  | 49 => ⟨S2x8192x1024, .f32⟩
  | 50 => ⟨S1x1024, .f32⟩
  | 51 => ⟨S1024, .f32⟩
  | 52 => ⟨S1x1x1024, .f32⟩
  | 53 => ⟨S2x8192x1024, .f32⟩
  | 54 => ⟨S2x8192x1024, .f32⟩
  | 55 => ⟨S2x8192x1024, .f32⟩
  | 56 => ⟨S2x8192x1024, .f32⟩
  | 57 => ⟨S2x8192x1024, .f32⟩
  | 58 => ⟨S2x8192x1024, .f32⟩
  | 59 => ⟨S_, .f32⟩
  | 60 => ⟨S2x8192x1024, .f32⟩
  | 61 => ⟨S2x8192x1024, .f32⟩
  | 62 => ⟨S_, .f32⟩
  | 63 => ⟨S2x8192x1024, .f32⟩
  | 64 => ⟨S2x8192x1024, .f32⟩
  | 65 => ⟨S2x8192x1024, .f32⟩
  | 66 => ⟨S2x8192x1024, .f32⟩
  | 67 => ⟨S2x8192x1024, .f32⟩
  | 68 => ⟨S2x8192x1024, .f32⟩
  | 69 => ⟨S_, .f32⟩
  | 70 => ⟨S2x8192, .f32⟩
  | 71 => ⟨S2x8192x1, .f32⟩
  | 72 => ⟨S_, .f32⟩
  | 73 => ⟨S2x8192x1, .f32⟩
  | 74 => ⟨S2x8192x1, .f32⟩
  | 75 => ⟨S_, .f32⟩
  | 76 => ⟨S2x8192x1, .f32⟩
  | 77 => ⟨S2x8192x1, .f32⟩
  | 78 => ⟨S2x8192x1, .f32⟩
  | 79 => ⟨S2x8192x1024, .f32⟩
  | 80 => ⟨S2x8192x1024, .f32⟩
  | 81 => ⟨S1x1x1024, .f32⟩
  | 82 => ⟨S2x8192x1024, .f32⟩
  | 83 => ⟨S2x8192x1024, .f32⟩
  | 84 => ⟨S2x8192x1024, .f32⟩
  | 85 => ⟨S2x2x1024, .f32⟩
  | 86 => ⟨S32x1x1x2x128, .f32⟩
  | 87 => ⟨S32x1x2x128, .f32⟩
  | 88 => ⟨S32x1x1x2x128, .f32⟩
  | 89 => ⟨S32x1x2x128, .f32⟩
  | 90 => ⟨S32x128x1x2x128, .f32⟩
  | 91 => ⟨S32x128x2x128, .f32⟩
  | 92 => ⟨S32x129x2x128, .f32⟩
  | 93 => ⟨S32x128x1x2x128, .f32⟩
  | 94 => ⟨S32x128x2x128, .f32⟩
  | 95 => ⟨S32x129x2x128, .f32⟩
  | 96 => ⟨S32x129x1x2x128, .f32⟩
  | 97 => ⟨S32x129x1x2x128, .f32⟩
  | 98 => ⟨S32x129x2x2x128, .f32⟩
  | 99 => ⟨S32x128x2x2x128, .f32⟩
  | 100 => ⟨S32x512x128, .f32⟩
  | 101 => ⟨S32x1x1x2x128, .f32⟩
  | 102 => ⟨S32x1x2x128, .f32⟩
  | 103 => ⟨S32x1x1x2x128, .f32⟩
  | 104 => ⟨S32x1x2x128, .f32⟩
  | 105 => ⟨S32x512x1x2x128, .f32⟩
  | 106 => ⟨S32x512x2x128, .f32⟩
  | 107 => ⟨S32x513x2x128, .f32⟩
  | 108 => ⟨S32x512x1x2x128, .f32⟩
  | 109 => ⟨S32x512x2x128, .f32⟩
  | 110 => ⟨S32x513x2x128, .f32⟩
  | 111 => ⟨S32x513x1x2x128, .f32⟩
  | 112 => ⟨S32x513x1x2x128, .f32⟩
  | 113 => ⟨S32x513x2x2x128, .f32⟩
  | 114 => ⟨S32x512x2x2x128, .f32⟩
  | 115 => ⟨S32x2048x128, .f32⟩
  | 116 => ⟨S32x1x1x2x128, .f32⟩
  | 117 => ⟨S32x1x2x128, .f32⟩
  | 118 => ⟨S32x1x1x2x128, .f32⟩
  | 119 => ⟨S32x1x2x128, .f32⟩
  | 120 => ⟨S32x2048x1x2x128, .f32⟩
  | 121 => ⟨S32x2048x2x128, .f32⟩
  | 122 => ⟨S32x2049x2x128, .f32⟩
  | 123 => ⟨S32x2048x1x2x128, .f32⟩
  | 124 => ⟨S32x2048x2x128, .f32⟩
  | 125 => ⟨S32x2049x2x128, .f32⟩
  | 126 => ⟨S32x2049x1x2x128, .f32⟩
  | 127 => ⟨S32x2049x1x2x128, .f32⟩
  | _ => ⟨S2x8192x1024, .f32⟩

abbrev hbmTy0_1 (i : Nat) : BufTy := match i % 128 with
  | 0 => ⟨S32x2049x2x2x128, .f32⟩
  | 1 => ⟨S32x2048x2x2x128, .f32⟩
  | 2 => ⟨S32x8192x128, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024x1024 : Shape := ⟨2, ![1024, 1024]⟩
abbrev S1024 : Shape := ⟨1, ![1024]⟩
abbrev S1024x4096 : Shape := ⟨2, ![1024, 4096]⟩
abbrev S64 : Shape := ⟨1, ![64]⟩
abbrev S_ : Shape := ⟨0, ![]⟩
abbrev S1x64 : Shape := ⟨2, ![1, 64]⟩
abbrev S2x64 : Shape := ⟨2, ![2, 64]⟩
abbrev S128 : Shape := ⟨1, ![128]⟩
abbrev S4 : Shape := ⟨1, ![4]⟩
abbrev S4x1 : Shape := ⟨2, ![4, 1]⟩
abbrev S1x128 : Shape := ⟨2, ![1, 128]⟩
abbrev S4x128 : Shape := ⟨2, ![4, 128]⟩
abbrev S4x1x128x1 : Shape := ⟨4, ![4, 1, 128, 1]⟩
abbrev S1x1x1x128 : Shape := ⟨4, ![1, 1, 1, 128]⟩
abbrev S4x1x128x128 : Shape := ⟨4, ![4, 1, 128, 128]⟩
abbrev S16 : Shape := ⟨1, ![16]⟩
abbrev S1x16x1x1 : Shape := ⟨4, ![1, 16, 1, 1]⟩
abbrev S1x16x1x128 : Shape := ⟨4, ![1, 16, 1, 128]⟩
abbrev S4x16x128x128 : Shape := ⟨4, ![4, 16, 128, 128]⟩
abbrev S8192x128 : Shape := ⟨2, ![8192, 128]⟩
abbrev S2x4x128x16x1024 : Shape := ⟨5, ![2, 4, 128, 16, 1024]⟩
abbrev S2x4x16x128x1024 : Shape := ⟨5, ![2, 4, 16, 128, 1024]⟩
abbrev S1x1024 : Shape := ⟨2, ![1, 1024]⟩
abbrev S2x2x8192x512 : Shape := ⟨4, ![2, 2, 8192, 512]⟩
abbrev S1x512x1024 : Shape := ⟨3, ![1, 512, 1024]⟩
abbrev S512x128 : Shape := ⟨2, ![512, 128]⟩
abbrev S1x2x512x512 : Shape := ⟨4, ![1, 2, 512, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x512 : Shape := ⟨2, ![1024, 512]⟩
abbrev S256x512 : Shape := ⟨2, ![256, 512]⟩
abbrev S1x1x256x512 : Shape := ⟨4, ![1, 1, 256, 512]⟩

abbrev nBuf : Space → Nat
  | .hbm => 105
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S1x64, .f32⟩
  | .hbm, ⟨19, _⟩ => ⟨S2x64, .f32⟩
  | .hbm, ⟨20, _⟩ => ⟨S128, .f32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S4, .i32⟩
  | .hbm, ⟨32, _⟩ => ⟨S4x1, .i32⟩
  | .hbm, ⟨33, _⟩ => ⟨S_, .i32⟩
  | .hbm, ⟨34, _⟩ => ⟨S4x1, .i32⟩
  | .hbm, ⟨35, _⟩ => ⟨S4x1, .i32⟩
  | .hbm, ⟨36, _⟩ => ⟨S128, .i32⟩
  | .hbm, ⟨37, _⟩ => ⟨S1x128, .i32⟩
  | .hbm, ⟨38, _⟩ => ⟨S_, .i32⟩
  | .hbm, ⟨39, _⟩ => ⟨S1x128, .i32⟩
  | .hbm, ⟨40, _⟩ => ⟨S1x128, .i32⟩
  | .hbm, ⟨41, _⟩ => ⟨S4x128, .i32⟩
  | .hbm, ⟨42, _⟩ => ⟨S4x128, .i32⟩
  | .hbm, ⟨43, _⟩ => ⟨S4x128, .i32⟩
  | .hbm, ⟨44, _⟩ => ⟨S4x128, .f32⟩
  | .hbm, ⟨45, _⟩ => ⟨S4x1x128x1, .f32⟩
  | .hbm, ⟨46, _⟩ => ⟨S1x1x1x128, .f32⟩
  | .hbm, ⟨47, _⟩ => ⟨S4x1x128x128, .f32⟩
  | .hbm, ⟨48, _⟩ => ⟨S4x1x128x128, .f32⟩
  | .hbm, ⟨49, _⟩ => ⟨S4x1x128x128, .f32⟩
  | .hbm, ⟨50, _⟩ => ⟨S16, .f32⟩
  | .hbm, ⟨51, _⟩ => ⟨S1x16x1x1, .f32⟩
  | .hbm, ⟨52, _⟩ => ⟨S1x1x1x128, .f32⟩
  | .hbm, ⟨53, _⟩ => ⟨S1x16x1x128, .f32⟩
  | .hbm, ⟨54, _⟩ => ⟨S1x16x1x128, .f32⟩
  | .hbm, ⟨55, _⟩ => ⟨S1x16x1x128, .f32⟩
  | .hbm, ⟨56, _⟩ => ⟨S4x1x128x128, .f32⟩
  | .hbm, ⟨57, _⟩ => ⟨S4x1x128x128, .f32⟩
  | .hbm, ⟨58, _⟩ => ⟨S1x16x1x128, .f32⟩
  | .hbm, ⟨59, _⟩ => ⟨S1x16x1x128, .f32⟩
  | .hbm, ⟨60, _⟩ => ⟨S4x16x128x128, .f32⟩
  | .hbm, ⟨61, _⟩ => ⟨S4x16x128x128, .f32⟩
  | .hbm, ⟨62, _⟩ => ⟨S4x16x128x128, .f32⟩
  | .hbm, ⟨63, _⟩ => ⟨S4x16x128x128, .f32⟩
  | .hbm, ⟨64, _⟩ => ⟨S4x16x128x128, .f32⟩
  | .hbm, ⟨65, _⟩ => ⟨S4x16x128x128, .f32⟩
  | .hbm, ⟨66, _⟩ => ⟨S4x16x128x128, .f32⟩
  | .hbm, ⟨67, _⟩ => ⟨S8192x128, .f32⟩
  | .hbm, ⟨68, _⟩ => ⟨S4x16x128x128, .f32⟩
  | .hbm, ⟨69, _⟩ => ⟨S4x16x128x128, .f32⟩
  | .hbm, ⟨70, _⟩ => ⟨S4x16x128x128, .f32⟩
  | .hbm, ⟨71, _⟩ => ⟨S4x16x128x128, .f32⟩
  | .hbm, ⟨72, _⟩ => ⟨S4x16x128x128, .f32⟩
  | .hbm, ⟨73, _⟩ => ⟨S4x16x128x128, .f32⟩
  | .hbm, ⟨74, _⟩ => ⟨S4x16x128x128, .f32⟩
  | .hbm, ⟨75, _⟩ => ⟨S1x1x1x128, .f32⟩
  | .hbm, ⟨76, _⟩ => ⟨S4x16x128x128, .f32⟩
  | .hbm, ⟨77, _⟩ => ⟨S4x16x128x128, .f32⟩
  | .hbm, ⟨78, _⟩ => ⟨S8192x128, .f32⟩
  | .hbm, ⟨79, _⟩ => ⟨S2x4x128x16x1024, .f32⟩
  | .hbm, ⟨80, _⟩ => ⟨S2x4x16x128x1024, .f32⟩
  | .hbm, ⟨81, _⟩ => ⟨S2x8192x1024, .f32⟩
  | .hbm, ⟨82, _⟩ => ⟨S2x8192x1024, .bf16⟩
  | .hbm, ⟨83, _⟩ => ⟨S2x4x128x16x1024, .f32⟩
  | .hbm, ⟨84, _⟩ => ⟨S2x4x16x128x1024, .f32⟩
  | .hbm, ⟨85, _⟩ => ⟨S2x8192x1024, .f32⟩
  | .hbm, ⟨86, _⟩ => ⟨S2x8192x1024, .bf16⟩
  | .hbm, ⟨87, _⟩ => ⟨S2x4x128x16x1024, .f32⟩
  | .hbm, ⟨88, _⟩ => ⟨S2x4x16x128x1024, .f32⟩
  | .hbm, ⟨89, _⟩ => ⟨S2x8192x1024, .f32⟩
  | .hbm, ⟨90, _⟩ => ⟨S1024x1024, .bf16⟩
  | .hbm, ⟨91, _⟩ => ⟨S1x1024, .f32⟩
  | .hbm, ⟨92, _⟩ => ⟨S1x1024, .f32⟩
  | .hbm, ⟨93, _⟩ => ⟨S1024x4096, .bf16⟩
  | .hbm, ⟨94, _⟩ => ⟨S_, .f32⟩
  | .hbm, ⟨95, _⟩ => ⟨S8192x128, .f32⟩
  | .hbm, ⟨96, _⟩ => ⟨S8192x128, .f32⟩
  | .hbm, ⟨97, _⟩ => ⟨S_, .f32⟩
  | .hbm, ⟨98, _⟩ => ⟨S8192x128, .f32⟩
  | .hbm, ⟨99, _⟩ => ⟨S8192x128, .f32⟩
  | .hbm, ⟨100, _⟩ => ⟨S2x8192x1024, .f32⟩
  | .hbm, ⟨101, _⟩ => ⟨S2x2x8192x512, .f32⟩
  | .hbm, ⟨102, _⟩ => ⟨S2x2x8192x512, .bf16⟩
  | .hbm, ⟨103, _⟩ => ⟨S2x2x8192x512, .bf16⟩
  | .hbm, ⟨104, _⟩ => ⟨S2x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x1024, .f32⟩
  | .local _ .vmem, ⟨15, _⟩ => ⟨S1x512x1024, .f32⟩
  | .local _ .vmem, ⟨16, _⟩ => ⟨S1x2x512x512, .f32⟩
  | .local _ .vmem, ⟨17, _⟩ => ⟨S1x2x512x512, .f32⟩
  | .local _ .vmem, ⟨18, _⟩ => ⟨S1x2x512x512, .bf16⟩
  | .local _ .vmem, ⟨19, _⟩ => ⟨S1x2x512x512, .bf16⟩
  | .local _ .vmem, ⟨20, _⟩ => ⟨S1x2x512x512, .bf16⟩
  | .local _ .vmem, ⟨21, _⟩ => ⟨S1x2x512x512, .bf16⟩
  | .local _ .vmem, ⟨22, _⟩ => ⟨S1x512x1024, .bf16⟩
  | .local _ .vmem, ⟨23, _⟩ => ⟨S1x512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_6 : Ref sig .tc := ⟨.hbm, 94, rfl⟩
abbrev main_v77 : Ref sig .tc := ⟨.hbm, 95, rfl⟩
abbrev main_v78 : Ref sig .tc := ⟨.hbm, 96, rfl⟩
abbrev main_cst_7 : Ref sig .tc := ⟨.hbm, 97, rfl⟩
abbrev main_v79 : Ref sig .tc := ⟨.hbm, 98, rfl⟩
abbrev main_v80 : Ref sig .tc := ⟨.hbm, 99, rfl⟩
abbrev main_v81_0 : Ref sig .tc := ⟨.hbm, 100, rfl⟩
abbrev main_v81_1 : Ref sig .tc := ⟨.hbm, 101, rfl⟩
abbrev main_v81_2 : Ref sig .tc := ⟨.hbm, 102, rfl⟩
abbrev main_v81_3 : Ref sig .tc := ⟨.hbm, 103, rfl⟩
abbrev main_v81_4 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S2x8192x1024 : Shape := ⟨3, ![2, 8192, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x4x128x16x1024 : Shape := ⟨5, ![2, 4, 128, 16, 1024]⟩
abbrev S2x4x16x128x1024 : Shape := ⟨5, ![2, 4, 16, 128, 1024]⟩
abbrev S2x8192x4096 : Shape := ⟨3, ![2, 8192, 4096]⟩
abbrev S2x8192x3072 : Shape := ⟨3, ![2, 8192, 3072]⟩
abbrev S2x8192x24x128 : Shape := ⟨4, ![2, 8192, 24, 128]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x24x64 : Shape := ⟨4, ![2, 8192, 24, 64]⟩
abbrev S1x8192x1x64 : Shape := ⟨4, ![1, 8192, 1, 64]⟩
abbrev S2x8192x3x2x512 : Shape := ⟨5, ![2, 8192, 3, 2, 512]⟩
abbrev S2x4x128x16x3x2x512 : Shape := ⟨7, ![2, 4, 128, 16, 3, 2, 512]⟩
abbrev S3x2x2x4x16x128x512 : Shape := ⟨7, ![3, 2, 2, 4, 16, 128, 512]⟩
abbrev S3x2x2x8192x512 : Shape := ⟨5, ![3, 2, 2, 8192, 512]⟩
abbrev S1x2x2x8192x512 : Shape := ⟨5, ![1, 2, 2, 8192, 512]⟩
abbrev S2x2x8192x512 : Shape := ⟨4, ![2, 2, 8192, 512]⟩

abbrev nBuf : Space → Nat
  | .hbm => 116
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x4x128x16x1024, .f32⟩
  | .hbm, ⟨36, _⟩ => ⟨S2x4x16x128x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x1024, .f32⟩
  | .hbm, ⟨50, _⟩ => ⟨S2x8192x1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S2x8192x4096, .f32⟩
  | .hbm, ⟨55, _⟩ => ⟨S2x8192x3072, .f32⟩
  | .hbm, ⟨56, _⟩ => ⟨S2x8192x24x128, .f32⟩
  | .hbm, ⟨57, _⟩ => ⟨S8192, .i32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S8192, .f32⟩
  | .hbm, ⟨70, _⟩ => ⟨S8192x1, .f32⟩
  | .hbm, ⟨71, _⟩ => ⟨S1x64, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S8192x64, .f32⟩
  | .hbm, ⟨76, _⟩ => ⟨S8192x1x64, .f32⟩
  | .hbm, ⟨77, _⟩ => ⟨S8192x64, .f32⟩
  | .hbm, ⟨78, _⟩ => ⟨S8192x1x64, .f32⟩
  | .hbm, ⟨79, _⟩ => ⟨S2x8192x24x64, .f32⟩
  | .hbm, ⟨80, _⟩ => ⟨S2x8192x24x64, .f32⟩
  | .hbm, ⟨81, _⟩ => ⟨S1x8192x1x64, .f32⟩
  | .hbm, ⟨82, _⟩ => ⟨S2x8192x24x64, .f32⟩
  | .hbm, ⟨83, _⟩ => ⟨S2x8192x24x64, .f32⟩
  | .hbm, ⟨84, _⟩ => ⟨S1x8192x1x64, .f32⟩
  | .hbm, ⟨85, _⟩ => ⟨S2x8192x24x64, .f32⟩
  | .hbm, ⟨86, _⟩ => ⟨S2x8192x24x64, .f32⟩
  | .hbm, ⟨87, _⟩ => ⟨S2x8192x24x64, .f32⟩
  | .hbm, ⟨88, _⟩ => ⟨S1x8192x1x64, .f32⟩
  | .hbm, ⟨89, _⟩ => ⟨S2x8192x24x64, .f32⟩
  | .hbm, ⟨90, _⟩ => ⟨S2x8192x24x64, .f32⟩
  | .hbm, ⟨91, _⟩ => ⟨S1x8192x1x64, .f32⟩
  | .hbm, ⟨92, _⟩ => ⟨S2x8192x24x64, .f32⟩
  | .hbm, ⟨93, _⟩ => ⟨S2x8192x24x64, .f32⟩
  | .hbm, ⟨94, _⟩ => ⟨S2x8192x24x64, .f32⟩
  | .hbm, ⟨95, _⟩ => ⟨S2x8192x24x128, .f32⟩
  | .hbm, ⟨96, _⟩ => ⟨S_, .f32⟩
  | .hbm, ⟨97, _⟩ => ⟨S2x8192x24x128, .f32⟩
  | .hbm, ⟨98, _⟩ => ⟨S2x8192x24x128, .f32⟩
  | .hbm, ⟨99, _⟩ => ⟨S2x8192x3x2x512, .f32⟩
  | .hbm, ⟨100, _⟩ => ⟨S2x8192x1024, .f32⟩
  | .hbm, ⟨101, _⟩ => ⟨S2x4x128x16x3x2x512, .f32⟩
  | .hbm, ⟨102, _⟩ => ⟨S3x2x2x4x16x128x512, .f32⟩
  | .hbm, ⟨103, _⟩ => ⟨S3x2x2x8192x512, .f32⟩
  | .hbm, ⟨104, _⟩ => ⟨S1x2x2x8192x512, .f32⟩
  | .hbm, ⟨105, _⟩ => ⟨S2x2x8192x512, .f32⟩
  | .hbm, ⟨106, _⟩ => ⟨S1x2x2x8192x512, .f32⟩
  | .hbm, ⟨107, _⟩ => ⟨S2x2x8192x512, .f32⟩
  | .hbm, ⟨108, _⟩ => ⟨S2x2x8192x512, .bf16⟩
  | .hbm, ⟨109, _⟩ => ⟨S1x2x2x8192x512, .f32⟩
  | .hbm, ⟨110, _⟩ => ⟨S2x2x8192x512, .f32⟩
  | .hbm, ⟨111, _⟩ => ⟨S2x2x8192x512, .bf16⟩
  | .hbm, ⟨112, _⟩ => ⟨S2x4x128x16x1024, .f32⟩
  | .hbm, ⟨113, _⟩ => ⟨S2x4x16x128x1024, .f32⟩
  | .hbm, ⟨114, _⟩ => ⟨S2x8192x1024, .f32⟩
  | .hbm, ⟨115, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_10 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x4096 : Shape := ⟨2, ![1024, 4096]⟩
abbrev S64 : Shape := ⟨1, ![64]⟩
abbrev S_ : Shape := ⟨0, ![]⟩
abbrev S1x64 : Shape := ⟨2, ![1, 64]⟩
abbrev S2x64 : Shape := ⟨2, ![2, 64]⟩
abbrev S128 : Shape := ⟨1, ![128]⟩
abbrev S4 : Shape := ⟨1, ![4]⟩
abbrev S4x1 : Shape := ⟨2, ![4, 1]⟩
abbrev S1x128 : Shape := ⟨2, ![1, 128]⟩
abbrev S4x128 : Shape := ⟨2, ![4, 128]⟩
abbrev S4x1x128x1 : Shape := ⟨4, ![4, 1, 128, 1]⟩
abbrev S1x1x1x128 : Shape := ⟨4, ![1, 1, 1, 128]⟩
abbrev S4x1x128x128 : Shape := ⟨4, ![4, 1, 128, 128]⟩
abbrev S16 : Shape := ⟨1, ![16]⟩
abbrev S1x16x1x1 : Shape := ⟨4, ![1, 16, 1, 1]⟩
abbrev S1x16x1x128 : Shape := ⟨4, ![1, 16, 1, 128]⟩
abbrev S4x16x128x128 : Shape := ⟨4, ![4, 16, 128, 128]⟩
abbrev S8192x128 : Shape := ⟨2, ![8192, 128]⟩
abbrev S2x4x128x16x1024 : Shape := ⟨5, ![2, 4, 128, 16, 1024]⟩
abbrev S2x4x16x128x1024 : Shape := ⟨5, ![2, 4, 16, 128, 1024]⟩
abbrev S1x1024 : Shape := ⟨2, ![1, 1024]⟩
abbrev S2x2x8192x512 : Shape := ⟨4, ![2, 2, 8192, 512]⟩
abbrev S1x1024x1024 : Shape := ⟨3, ![1, 1024, 1024]⟩
abbrev S1024x128 : Shape := ⟨2, ![1024, 128]⟩
abbrev S1x2x1024x512 : Shape := ⟨4, ![1, 2, 1024, 512]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x512 : Shape := ⟨2, ![1024, 512]⟩
abbrev S512x512 : Shape := ⟨2, ![512, 512]⟩
abbrev S1x1x512x512 : Shape := ⟨4, ![1, 1, 512, 512]⟩
abbrev S1024x1024 : Shape := ⟨2, ![1024, 1024]⟩

abbrev nBuf : Space → Nat
  | .hbm => 90
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S_, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S4, .i32⟩
  | .hbm, ⟨28, _⟩ => ⟨S4x1, .i32⟩
  | .hbm, ⟨29, _⟩ => ⟨S_, .i32⟩
  | .hbm, ⟨30, _⟩ => ⟨S4x1, .i32⟩
  | .hbm, ⟨31, _⟩ => ⟨S4x1, .i32⟩
  | .hbm, ⟨32, _⟩ => ⟨S128, .i32⟩
  | .hbm, ⟨33, _⟩ => ⟨S1x128, .i32⟩
  | .hbm, ⟨34, _⟩ => ⟨S_, .i32⟩
  | .hbm, ⟨35, _⟩ => ⟨S1x128, .i32⟩
  | .hbm, ⟨36, _⟩ => ⟨S1x128, .i32⟩
  | .hbm, ⟨37, _⟩ => ⟨S4x128, .i32⟩
  | .hbm, ⟨38, _⟩ => ⟨S4x128, .i32⟩
  | .hbm, ⟨39, _⟩ => ⟨S4x128, .i32⟩
  | .hbm, ⟨40, _⟩ => ⟨S4x128, .f32⟩
  | .hbm, ⟨41, _⟩ => ⟨S4x1x128x1, .f32⟩
  | .hbm, ⟨42, _⟩ => ⟨S1x1x1x128, .f32⟩
  | .hbm, ⟨43, _⟩ => ⟨S4x1x128x128, .f32⟩
  | .hbm, ⟨44, _⟩ => ⟨S4x1x128x128, .f32⟩
  | .hbm, ⟨45, _⟩ => ⟨S4x1x128x128, .f32⟩
  | .hbm, ⟨46, _⟩ => ⟨S16, .f32⟩
  | .hbm, ⟨47, _⟩ => ⟨S1x16x1x1, .f32⟩
  | .hbm, ⟨48, _⟩ => ⟨S1x1x1x128, .f32⟩
  | .hbm, ⟨49, _⟩ => ⟨S1x16x1x128, .f32⟩
  | .hbm, ⟨50, _⟩ => ⟨S1x16x1x128, .f32⟩
  | .hbm, ⟨51, _⟩ => ⟨S1x16x1x128, .f32⟩
  | .hbm, ⟨52, _⟩ => ⟨S4x1x128x128, .f32⟩
  | .hbm, ⟨53, _⟩ => ⟨S4x1x128x128, .f32⟩
  | .hbm, ⟨54, _⟩ => ⟨S1x16x1x128, .f32⟩
  | .hbm, ⟨55, _⟩ => ⟨S1x16x1x128, .f32⟩
  | .hbm, ⟨56, _⟩ => ⟨S4x16x128x128, .f32⟩
  | .hbm, ⟨57, _⟩ => ⟨S4x16x128x128, .f32⟩
  | .hbm, ⟨58, _⟩ => ⟨S4x16x128x128, .f32⟩
  | .hbm, ⟨59, _⟩ => ⟨S4x16x128x128, .f32⟩
  | .hbm, ⟨60, _⟩ => ⟨S4x16x128x128, .f32⟩
  | .hbm, ⟨61, _⟩ => ⟨S4x16x128x128, .f32⟩
  | .hbm, ⟨62, _⟩ => ⟨S4x16x128x128, .f32⟩
  | .hbm, ⟨63, _⟩ => ⟨S8192x128, .f32⟩
  | .hbm, ⟨64, _⟩ => ⟨S4x16x128x128, .f32⟩
  | .hbm, ⟨65, _⟩ => ⟨S4x16x128x128, .f32⟩
  | .hbm, ⟨66, _⟩ => ⟨S4x16x128x128, .f32⟩
  | .hbm, ⟨67, _⟩ => ⟨S4x16x128x128, .f32⟩
  | .hbm, ⟨68, _⟩ => ⟨S4x16x128x128, .f32⟩
  | .hbm, ⟨69, _⟩ => ⟨S4x16x128x128, .f32⟩
  | .hbm, ⟨70, _⟩ => ⟨S4x16x128x128, .f32⟩
  | .hbm, ⟨71, _⟩ => ⟨S1x1x1x128, .f32⟩
  | .hbm, ⟨72, _⟩ => ⟨S4x16x128x128, .f32⟩
  | .hbm, ⟨73, _⟩ => ⟨S4x16x128x128, .f32⟩
  | .hbm, ⟨74, _⟩ => ⟨S8192x128, .f32⟩
  | .hbm, ⟨75, _⟩ => ⟨S2x4x128x16x1024, .f32⟩
  | .hbm, ⟨76, _⟩ => ⟨S2x4x16x128x1024, .f32⟩
  | .hbm, ⟨77, _⟩ => ⟨S2x8192x1024, .f32⟩
  | .hbm, ⟨78, _⟩ => ⟨S1x1024, .f32⟩
  | .hbm, ⟨79, _⟩ => ⟨S1024x4096, .bf16⟩
  | .hbm, ⟨80, _⟩ => ⟨S_, .f32⟩
  | .hbm, ⟨81, _⟩ => ⟨S8192x128, .f32⟩
  | .hbm, ⟨82, _⟩ => ⟨S8192x128, .f32⟩
  | .hbm, ⟨83, _⟩ => ⟨S_, .f32⟩
  | .hbm, ⟨84, _⟩ => ⟨S8192x128, .f32⟩
  | .hbm, ⟨85, _⟩ => ⟨S8192x128, .f32⟩
  | .hbm, ⟨86, _⟩ => ⟨S2x2x8192x512, .f32⟩
  | .hbm, ⟨87, _⟩ => ⟨S2x2x8192x512, .bf16⟩
  | .hbm, ⟨88, _⟩ => ⟨S2x2x8192x512, .bf16⟩
  | .hbm, ⟨89, _⟩ => ⟨S2x8192x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x2x1024x512, .f32⟩
  | .local _ .vmem, ⟨9, _⟩ => ⟨S1x2x1024x512, .f32⟩
  | .local _ .vmem, ⟨10, _⟩ => ⟨S1x2x1024x512, .bf16⟩
  | .local _ .vmem, ⟨11, _⟩ => ⟨S1x2x1024x512, .bf16⟩
  | .local _ .vmem, ⟨12, _⟩ => ⟨S1x2x1024x512, .bf16⟩
  | .local _ .vmem, ⟨13, _⟩ => ⟨S1x2x1024x512, .bf16⟩
  | .local _ .vmem, ⟨14, _⟩ => ⟨S1x1024x1024, .bf16⟩
  | .local _ .vmem, ⟨15, _⟩ => ⟨S1x1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_6 : Ref sig .tc := ⟨.hbm, 80, rfl⟩
abbrev main_v67 : Ref sig .tc := ⟨.hbm, 81, rfl⟩
abbrev main_v68 : Ref sig .tc := ⟨.hbm, 82, rfl⟩
abbrev main_cst_7 : Ref sig .tc := ⟨.hbm, 83, rfl⟩
abbrev main_v69 : Ref sig .tc := ⟨.hbm, 84, rfl⟩
abbrev main_v70 : Ref sig .tc := ⟨.hbm, 85, rfl⟩
abbrev main_v71_0 : Ref sig .tc := ⟨.hbm, 86, rfl⟩
abbrev main_v71_1 : Ref sig .tc := ⟨.hbm, 87, rfl⟩
abbrev main_v71_2 : Ref sig .tc := ⟨.hbm, 88, rfl⟩
abbrev main_v71_3 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S2x8192x1024 : Shape := ⟨3, ![2, 8192, 1024]⟩
abbrev S1024 : Shape := ⟨1, ![1024]⟩
abbrev S1024x4096 : Shape := ⟨2, ![1024, 4096]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S2x8192x3072 : Shape := ⟨3, ![2, 8192, 3072]⟩
abbrev S2x8192x24x128 : Shape := ⟨4, ![2, 8192, 24, 128]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x24x64 : Shape := ⟨4, ![2, 8192, 24, 64]⟩
abbrev S1x8192x1x64 : Shape := ⟨4, ![1, 8192, 1, 64]⟩
abbrev S2x8192x3x2x512 : Shape := ⟨5, ![2, 8192, 3, 2, 512]⟩
abbrev S2x4x128x16x3x2x512 : Shape := ⟨7, ![2, 4, 128, 16, 3, 2, 512]⟩
abbrev S3x2x2x4x16x128x512 : Shape := ⟨7, ![3, 2, 2, 4, 16, 128, 512]⟩
abbrev S3x2x2x8192x512 : Shape := ⟨5, ![3, 2, 2, 8192, 512]⟩
abbrev S1x2x2x8192x512 : Shape := ⟨5, ![1, 2, 2, 8192, 512]⟩
abbrev S2x2x8192x512 : Shape := ⟨4, ![2, 2, 8192, 512]⟩
abbrev S2x4x128x16x1024 : Shape := ⟨5, ![2, 4, 128, 16, 1024]⟩
abbrev S2x4x16x128x1024 : Shape := ⟨5, ![2, 4, 16, 128, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4096, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x4096, .f32⟩
  | .hbm, ⟨20, _⟩ => ⟨S2x8192x3072, .f32⟩
  | .hbm, ⟨21, _⟩ => ⟨S2x8192x24x128, .f32⟩
  | .hbm, ⟨22, _⟩ => ⟨S8192, .i32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S8192, .f32⟩
  | .hbm, ⟨35, _⟩ => ⟨S8192x1, .f32⟩
  | .hbm, ⟨36, _⟩ => ⟨S1x64, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S8192x1x64, .f32⟩
  | .hbm, ⟨42, _⟩ => ⟨S8192x64, .f32⟩
  | .hbm, ⟨43, _⟩ => ⟨S8192x1x64, .f32⟩
  | .hbm, ⟨44, _⟩ => ⟨S2x8192x24x64, .f32⟩
  | .hbm, ⟨45, _⟩ => ⟨S2x8192x24x64, .f32⟩
  | .hbm, ⟨46, _⟩ => ⟨S1x8192x1x64, .f32⟩
  | .hbm, ⟨47, _⟩ => ⟨S2x8192x24x64, .f32⟩
  | .hbm, ⟨48, _⟩ => ⟨S2x8192x24x64, .f32⟩
  | .hbm, ⟨49, _⟩ => ⟨S1x8192x1x64, .f32⟩
  | .hbm, ⟨50, _⟩ => ⟨S2x8192x24x64, .f32⟩
  | .hbm, ⟨51, _⟩ => ⟨S2x8192x24x64, .f32⟩
  | .hbm, ⟨52, _⟩ => ⟨S2x8192x24x64, .f32⟩
  | .hbm, ⟨53, _⟩ => ⟨S1x8192x1x64, .f32⟩
  | .hbm, ⟨54, _⟩ => ⟨S2x8192x24x64, .f32⟩
  | .hbm, ⟨55, _⟩ => ⟨S2x8192x24x64, .f32⟩
  | .hbm, ⟨56, _⟩ => ⟨S1x8192x1x64, .f32⟩
  | .hbm, ⟨57, _⟩ => ⟨S2x8192x24x64, .f32⟩
  | .hbm, ⟨58, _⟩ => ⟨S2x8192x24x64, .f32⟩
  | .hbm, ⟨59, _⟩ => ⟨S2x8192x24x64, .f32⟩
  | .hbm, ⟨60, _⟩ => ⟨S2x8192x24x128, .f32⟩
  | .hbm, ⟨61, _⟩ => ⟨S_, .f32⟩
  | .hbm, ⟨62, _⟩ => ⟨S2x8192x24x128, .f32⟩
  | .hbm, ⟨63, _⟩ => ⟨S2x8192x24x128, .f32⟩
  | .hbm, ⟨64, _⟩ => ⟨S2x8192x3x2x512, .f32⟩
  | .hbm, ⟨65, _⟩ => ⟨S2x8192x1024, .f32⟩
  | .hbm, ⟨66, _⟩ => ⟨S2x4x128x16x3x2x512, .f32⟩
  | .hbm, ⟨67, _⟩ => ⟨S3x2x2x4x16x128x512, .f32⟩
  | .hbm, ⟨68, _⟩ => ⟨S3x2x2x8192x512, .f32⟩
  | .hbm, ⟨69, _⟩ => ⟨S1x2x2x8192x512, .f32⟩
  | .hbm, ⟨70, _⟩ => ⟨S2x2x8192x512, .f32⟩
  | .hbm, ⟨71, _⟩ => ⟨S1x2x2x8192x512, .f32⟩
  | .hbm, ⟨72, _⟩ => ⟨S2x2x8192x512, .f32⟩
  | .hbm, ⟨73, _⟩ => ⟨S2x2x8192x512, .bf16⟩
  | .hbm, ⟨74, _⟩ => ⟨S1x2x2x8192x512, .f32⟩
  | .hbm, ⟨75, _⟩ => ⟨S2x2x8192x512, .f32⟩
  | .hbm, ⟨76, _⟩ => ⟨S2x2x8192x512, .bf16⟩
  | .hbm, ⟨77, _⟩ => ⟨S2x4x128x16x1024, .f32⟩
  | .hbm, ⟨78, _⟩ => ⟨S2x4x16x128x1024, .f32⟩
  | .hbm, ⟨79, _⟩ => ⟨S2x8192x1024, .f32⟩
  | .hbm, ⟨80, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024x1024 : Shape := ⟨2, ![1024, 1024]⟩
abbrev S1024 : Shape := ⟨1, ![1024]⟩
abbrev S2x4x128x16x1024 : Shape := ⟨5, ![2, 4, 128, 16, 1024]⟩
abbrev S2x4x16x128x1024 : Shape := ⟨5, ![2, 4, 16, 128, 1024]⟩
abbrev S1x1024 : Shape := ⟨2, ![1, 1024]⟩
abbrev S1x1x16x64x1024 : Shape := ⟨5, ![1, 1, 16, 64, 1024]⟩
abbrev S1x1024x1024 : Shape := ⟨3, ![1, 1024, 1024]⟩
abbrev S8x2x512x128 : Shape := ⟨4, ![8, 2, 512, 128]⟩
abbrev S1x1x1x32x1024 : Shape := ⟨5, ![1, 1, 1, 32, 1024]⟩
abbrev S32x1024 : Shape := ⟨2, ![32, 1024]⟩
abbrev S512x1024 : Shape := ⟨2, ![512, 1024]⟩
abbrev S512 : Shape := ⟨1, ![512]⟩
abbrev S512x1 : Shape := ⟨2, ![512, 1]⟩
abbrev S32x128 : Shape := ⟨2, ![32, 128]⟩
abbrev S1x2x512x128 : Shape := ⟨4, ![1, 2, 512, 128]⟩
abbrev S2x512x128 : Shape := ⟨3, ![2, 512, 128]⟩
abbrev S1x32x128 : Shape := ⟨3, ![1, 32, 128]⟩
abbrev S1x128x128 : Shape := ⟨3, ![1, 128, 128]⟩
abbrev S128x128 : Shape := ⟨2, ![128, 128]⟩
abbrev S1x512x128 : Shape := ⟨3, ![1, 512, 128]⟩
abbrev S512x128 : Shape := ⟨2, ![512, 128]⟩
abbrev S1x512x1024 : Shape := ⟨3, ![1, 512, 1024]⟩

abbrev nBuf : Space → Nat
  | .hbm => 22
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1024x1024, .f32⟩
  | .hbm, ⟨4, _⟩ => ⟨S1024, .f32⟩
  | .hbm, ⟨5, _⟩ => ⟨S2x4x128x16x1024, .f32⟩
  | .hbm, ⟨6, _⟩ => ⟨S2x4x16x128x1024, .f32⟩
  | .hbm, ⟨7, _⟩ => ⟨S2x8192x1024, .f32⟩
  | .hbm, ⟨8, _⟩ => ⟨S2x8192x1024, .bf16⟩
  | .hbm, ⟨9, _⟩ => ⟨S2x4x128x16x1024, .f32⟩
  | .hbm, ⟨10, _⟩ => ⟨S2x4x16x128x1024, .f32⟩
  | .hbm, ⟨11, _⟩ => ⟨S2x8192x1024, .f32⟩
  | .hbm, ⟨12, _⟩ => ⟨S2x8192x1024, .bf16⟩
  | .hbm, ⟨13, _⟩ => ⟨S2x4x128x16x1024, .f32⟩
  | .hbm, ⟨14, _⟩ => ⟨S2x4x16x128x1024, .f32⟩
  | .hbm, ⟨15, _⟩ => ⟨S2x8192x1024, .f32⟩
  | .hbm, ⟨16, _⟩ => ⟨S1024x1024, .bf16⟩
  | .hbm, ⟨17, _⟩ => ⟨S1x1024, .f32⟩
  | .hbm, ⟨18, _⟩ => ⟨S2x4x16x128x1024, .bf16⟩
  | .hbm, ⟨19, _⟩ => ⟨S2x4x16x128x1024, .bf16⟩
  | .hbm, ⟨20, _⟩ => ⟨S2x4x16x128x1024, .f32⟩
  | .hbm, ⟨21, _⟩ => ⟨S2x8192x1024, .f32⟩
  | .local _ .vmem, ⟨0, _⟩ => ⟨S1x1x16x64x1024, .bf16⟩
  | .local _ .vmem, ⟨1, _⟩ => ⟨S1x1x16x64x1024, .bf16⟩
  | .local _ .vmem, ⟨2, _⟩ => ⟨S1x1x16x64x1024, .bf16⟩
  | .local _ .vmem, ⟨3, _⟩ => ⟨S1x1x16x64x1024, .bf16⟩
  | .local _ .vmem, ⟨4, _⟩ => ⟨S1x1x16x64x1024, .f32⟩
  | .local _ .vmem, ⟨5, _⟩ => ⟨S1x1x16x64x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S8x2x512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, v26.toNat, c0_i32_11.toNat]

def cc0_transform_1 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, v26.toNat, c0_i32_11.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, v26.toNat, c0_i32_11.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x16x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x8192x1024 : Shape := ⟨3, ![2, 8192, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1024x1024, .f32⟩
  | .hbm, ⟨4, _⟩ => ⟨S1024, .f32⟩
  | .hbm, ⟨5, _⟩ => ⟨S2x8192x1024, .f32⟩
  | .hbm, ⟨6, _⟩ => ⟨S2x8192x1024, .f32⟩
  | .hbm, ⟨7, _⟩ => ⟨S_, .f32⟩
  | .hbm, ⟨8, _⟩ => ⟨S2x8192x1024, .f32⟩
  | .hbm, ⟨9, _⟩ => ⟨S2x8192x1024, .f32⟩
  | .hbm, ⟨10, _⟩ => ⟨S_, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S1x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.ConvSpec.lean ====
/-
  The gated short convolution layer, written on rows of extended reals. A row holds 1024 channels. `rms` divides a row by
  the root of its mean square and scales it; `proj` is one column of the input projection; `uAt` is the product that the
  convolution runs over; `mixAt` is one channel after the three taps and both gates; `layerAt` projects the channels back,
  normalises them and adds the row itself.
-/
module

public import Idealize.ShloMosaic.Lib.Pointwise

@[expose] public section

noncomputable section

namespace Cert.ConvLayer

open Idealize.ShloMosaic

/-- A row of channels. -/
abbrev Row := Fin 1024 → EReal

/-- A row over the root of its mean square (with the layer's small constant under the root), times the scale `g`. -/
def rms (x g : Row) (j : Fin 1024) : EReal :=
  x j * Ideal.rsqrt (Ideal.div (∑ k, x k * x k) (Ideal.ofBits .f32 0x44800000#32) + Ideal.ofBits .f32 0x358637BD#32) * g j

/-- Column `n` of the input projection of the row `h`. -/
def proj (h : Row) (w : Fin 1024 → Fin 4096 → EReal) (n : Fin 4096) : EReal := ∑ k, h k * w k n

/-- Channel `c` of part `p` of the input projection: the parts are the gate, the two factors, the silu gate. -/
def part (p : Fin 4) (c : Fin 1024) : Fin 4096 := ⟨1024 * p.val + c.val, by omega⟩

/-- What the convolution runs over, at one row: the product of the second and third parts. -/
def uAt (x g : Row) (w : Fin 1024 → Fin 4096 → EReal) (c : Fin 1024) : EReal :=
  proj (rms x g) w (part 1 c) * proj (rms x g) w (part 2 c)

/-- One channel after the three taps, the gate `b` and the silu gate `z`. -/
def mix (b z u2 u1 u w0 w1 w2 : EReal) : EReal := b * (u2 * w0 + u1 * w1 + u * w2) * (z * Ideal.logistic z)

/-- Channel `c` of one row after the mixing, from the row and the two rows before it of what the convolution runs over. -/
def mixAt (x g : Row) (w : Fin 1024 → Fin 4096 → EReal) (taps : Fin 3 → Row) (u2 u1 : Row) (c : Fin 1024) : EReal :=
  mix (proj (rms x g) w (part 0 c)) (proj (rms x g) w (part 3 c)) (u2 c) (u1 c) (uAt x g w c) (taps 0 c) (taps 1 c) (taps 2 c)

/-- The layer's row from the row `x` and its mixed channels `y`. -/
def layerAt (x y : Row) (wo : Fin 1024 → Row) (g : Row) (n : Fin 1024) : EReal :=
  x n + rms (fun n => ∑ c, y c * wo c n) g n

/-- One row back in a block of `T` rows: the row before it, or `t1` in front of the block. -/
def back1 {T : ℕ} (u : Fin T → EReal) (t1 : EReal) (i : Fin T) : EReal :=
  if i.val = 0 then t1 else u ⟨i.val - 1, by omega⟩

/-- Two rows back in a block of `T` rows; `t0`, `t1` are the two rows in front of the block. -/
def back2 {T : ℕ} (u : Fin T → EReal) (t0 t1 : EReal) (i : Fin T) : EReal :=
  if i.val = 0 then t0 else if i.val = 1 then t1 else u ⟨i.val - 2, by omega⟩

/-- A select on whether a row's number is a small constant. -/
theorem select_row {T : ℕ} (hT : T ≤ 1024) (i : Fin T) (n : ℕ) (hn : n < 1024) (a b : EReal) :
    Scalar.select (IntOp.cmpi .eq (BitVec.ofNat 32 i.val) (BitVec.ofNat 32 n)) a b = if i.val = n then a else b := by
  have hi := i.isLt
  by_cases h : i.val = n
  · rw [if_pos h, h]; simp [Scalar.select, IntOp.cmpi]
  · rw [if_neg h]
    have : BitVec.ofNat 32 i.val ≠ BitVec.ofNat 32 n := fun e => h (by
      have := congrArg BitVec.toNat e
      simp only [BitVec.toNat_ofNat] at this; omega)
    have hb : (BitVec.ofNat 32 i.val == BitVec.ofNat 32 n) = false := beq_eq_false_iff_ne.mpr this
    simp [Scalar.select, IntOp.cmpi, hb]

end Cert.ConvLayer

end
-- ==== Proof.ConvSeq.lean ====
/-
  The gated short convolution layer over a whole sequence of rows, and the same read block by block: a block of rows that
  is given the two rows in front of it has, at each of its rows, the sequence's rows one and two back.
-/
module

public import proofs.«01_k».proof.Proof.ConvSpec

@[expose] public section

noncomputable section

namespace Cert.ConvLayer

open Idealize.ShloMosaic

/-- The mixed channels of row `i` of a sequence, two zero rows standing in front of it. -/
def mixSeq {N : ℕ} (x : Fin N → Row) (g : Row) (w : Fin 1024 → Fin 4096 → EReal) (taps : Fin 3 → Row) (i : Fin N) (c : Fin 1024) : EReal :=
  mixAt (x i) g w taps (fun c => back2 (fun i => uAt (x i) g w c) 0 0 i) (fun c => back1 (fun i => uAt (x i) g w c) 0 i) c

/-- The layer's row `i` of a sequence. -/
def layerSeq {N : ℕ} (x : Fin N → Row) (g : Row) (w : Fin 1024 → Fin 4096 → EReal) (taps : Fin 3 → Row) (wo : Fin 1024 → Row) (gp : Row)
    (i : Fin N) (n : Fin 1024) : EReal :=
  layerAt (x i) (mixSeq x g w taps i) wo gp n

/-- One row back in a block at `o`, `t1` being the row in front of the block, is one row back in the sequence. -/
theorem back1_block {B N : ℕ} (u : Fin N → EReal) (o : ℕ) (h : o + B ≤ N) (t1 : EReal) (i : Fin B)
    (h0 : o = 0 → t1 = 0) (h1 : ∀ ho : 0 < o, t1 = u ⟨o - 1, by have := i.isLt; omega⟩) :
    back1 (fun i : Fin B => u ⟨o + i.val, by omega⟩) t1 i = back1 u 0 ⟨o + i.val, by omega⟩ := by
  have hi := i.isLt
  unfold back1
  by_cases e : i.val = 0
  · rw [if_pos e]
    by_cases eo : o = 0
    · rw [if_pos (by show o + i.val = 0; omega), h0 eo]
    · rw [if_neg (by show ¬o + i.val = 0; omega), h1 (by omega)]
      exact congrArg u (Fin.ext (by show o - 1 = o + i.val - 1; omega))
  · rw [if_neg e, if_neg (by show ¬o + i.val = 0; omega)]
    exact congrArg u (Fin.ext (by show o + (i.val - 1) = o + i.val - 1; omega))

/-- Two rows back in a block at `o`, `t0` and `t1` being the rows in front of the block, is two rows back in the sequence. -/
theorem back2_block {B N : ℕ} (u : Fin N → EReal) (o : ℕ) (h : o + B ≤ N) (t0 t1 : EReal) (i : Fin B)
    (h0 : o = 0 → t0 = 0 ∧ t1 = 0) (h1 : ∀ ho : 0 < o, 2 ≤ o ∧ t0 = u ⟨o - 2, by have := i.isLt; omega⟩ ∧ t1 = u ⟨o - 1, by have := i.isLt; omega⟩) :
    back2 (fun i : Fin B => u ⟨o + i.val, by omega⟩) t0 t1 i = back2 u 0 0 ⟨o + i.val, by omega⟩ := by
  have hi := i.isLt
  unfold back2
  by_cases eo : o = 0
  · obtain ⟨e0, e1⟩ := h0 eo
    by_cases e : i.val = 0
    · rw [if_pos e, if_pos (by show o + i.val = 0; omega), e0]
    · by_cases e' : i.val = 1
      · rw [if_neg e, if_pos e', if_neg (by show ¬o + i.val = 0; omega), if_pos (by show o + i.val = 1; omega), e1]
      · rw [if_neg e, if_neg e', if_neg (by show ¬o + i.val = 0; omega), if_neg (by show ¬o + i.val = 1; omega)]
        exact congrArg u (Fin.ext (by show o + (i.val - 2) = o + i.val - 2; omega))
  · obtain ⟨ho, e0, e1⟩ := h1 (by omega)
    rw [if_neg (c := o + i.val = 0) (by omega), if_neg (c := o + i.val = 1) (by omega)]
    by_cases e : i.val = 0
    · rw [if_pos e, e0]
      exact congrArg u (Fin.ext (by show o - 2 = o + i.val - 2; omega))
    · by_cases e' : i.val = 1
      · rw [if_neg e, if_pos e', e1]
        exact congrArg u (Fin.ext (by show o - 1 = o + i.val - 2; omega))
      · rw [if_neg e, if_neg e']
        exact congrArg u (Fin.ext (by show o + (i.val - 2) = o + i.val - 2; omega))

/-- The mixed channels of a block at `o` of a sequence, given the rows in front of the block. -/
theorem mix_block {B N : ℕ} (x : Fin N → Row) (g : Row) (w : Fin 1024 → Fin 4096 → EReal) (taps : Fin 3 → Row) (o : ℕ) (h : o + B ≤ N) (t0 t1 : Row)
    (i : Fin B) (h0 : o = 0 → ∀ c, t0 c = 0 ∧ t1 c = 0)
    (h1 : ∀ ho : 0 < o, 2 ≤ o ∧ ∀ c, t0 c = uAt (x ⟨o - 2, by have := i.isLt; omega⟩) g w c ∧ t1 c = uAt (x ⟨o - 1, by have := i.isLt; omega⟩) g w c)
    (c : Fin 1024) :
    mixAt (x ⟨o + i.val, by omega⟩) g w taps
        (fun c => back2 (fun i : Fin B => uAt (x ⟨o + i.val, by omega⟩) g w c) (t0 c) (t1 c) i)
        (fun c => back1 (fun i : Fin B => uAt (x ⟨o + i.val, by omega⟩) g w c) (t1 c) i) c
      = mixSeq x g w taps ⟨o + i.val, by omega⟩ c := by
  unfold mixSeq
  congr 1
  · funext c
    exact back2_block (fun i => uAt (x i) g w c) o h _ _ i (fun e => h0 e c) fun e => ⟨(h1 e).1, (h1 e).2 c⟩
  · funext c
    exact back1_block (fun i => uAt (x i) g w c) o h _ i (fun e => (h0 e c).2) fun e => ((h1 e).2 c).2

/-- A cache of `n` positions moved on by one, the key `k` and the value `v` coming in at the end. -/
def shiftAt {n : ℕ} (cache : Fin 32 → Fin n → Fin 2 → Fin 2 → Fin 128 → EReal) (k v : Fin 32 → Fin 2 → Fin 128 → EReal)
    (b : Fin 32) (p : Fin n) (s h : Fin 2) (d : Fin 128) : EReal :=
  if hp : p.val + 1 < n then cache b ⟨p.val + 1, hp⟩ s h d else if s.val = 0 then k b h d else v b h d

/-- The same with four rows to a position. -/
theorem shift_rows {n : ℕ} (cache : Fin 32 → Fin n → Fin 2 → Fin 2 → Fin 128 → EReal) (k v : Fin 32 → Fin 2 → Fin 128 → EReal)
    (b : Fin 32) (q : Fin (4 * n)) (d : Fin 128) (old : q.val + 4 < 4 * n → EReal) (new : EReal)
    (ho : ∀ h : q.val + 4 < 4 * n, old h = cache b ⟨(q.val + 4) / 4, by omega⟩ ⟨(q.val + 4) / 2 % 2, by omega⟩ ⟨(q.val + 4) % 2, by omega⟩ d)
    (hn : 4 * n ≤ q.val + 4 → new = if (q.val + 4 - 4 * n) < 2 then k b ⟨(q.val + 4 - 4 * n) % 2, by omega⟩ d
      else v b ⟨(q.val + 4 - 4 * n) % 2, by omega⟩ d) :
    (if h : q.val + 4 < 4 * n then old h else new)
      = shiftAt cache k v b ⟨q.val / 4, by omega⟩ ⟨q.val / 2 % 2, by omega⟩ ⟨q.val % 2, by omega⟩ d := by
  unfold shiftAt
  by_cases h : q.val + 4 < 4 * n
  · rw [dif_pos h, dif_pos (by show q.val / 4 + 1 < n; omega), ho h]
    congr 1 <;> (apply Fin.ext; dsimp only; omega)
  · have hq := q.isLt
    rw [dif_neg h, dif_neg (by show ¬q.val / 4 + 1 < n; omega), hn (by omega)]
    by_cases h2 : q.val + 4 - 4 * n < 2
    · rw [if_pos h2, if_pos (by show q.val / 2 % 2 = 0; omega)]
      congr 1; apply Fin.ext; dsimp only; omega
    · rw [if_neg h2, if_neg (by show ¬q.val / 2 % 2 = 0; omega)]
      congr 1; apply Fin.ext; dsimp only; omega

/-- The same, read from a concatenation along positions inside one of keys and values. -/
theorem shift_read {n : ℕ} (cache : Fin 32 → Fin n → Fin 2 → Fin 2 → Fin 128 → EReal) (k v : Fin 32 → Fin 2 → Fin 128 → EReal)
    (b : Fin 32) (p : Fin n) (s h : Fin 2) (d : Fin 128) :
    (if _ : s.val < 1 then (if hp : 1 + p.val < n then cache b ⟨1 + p.val, hp⟩ 0 h d else k b h d)
      else (if hp : 1 + p.val < n then cache b ⟨1 + p.val, hp⟩ 1 h d else v b h d)) = shiftAt cache k v b p s h d := by
  unfold shiftAt
  have e : p.val + 1 = 1 + p.val := Nat.add_comm _ _
  by_cases hp : 1 + p.val < n
  · simp only [e, dif_pos hp]
    by_cases hs : s.val < 1
    · rw [dif_pos hs]
      exact congrArg (fun s => cache b ⟨1 + p.val, hp⟩ s h d) (Fin.ext (by show 0 = s.val; omega))
    · rw [dif_neg hs]
      exact congrArg (fun s => cache b ⟨1 + p.val, hp⟩ s h d) (Fin.ext (by show 1 = s.val; omega))
  · simp only [e, dif_neg hp]
    by_cases hs : s.val < 1
    · rw [dif_pos hs, if_pos (by omega)]
    · rw [dif_neg hs, if_neg (by omega)]

end Cert.ConvLayer

end
-- ==== Proof.ConvBlock.lean ====
/-
  One grid point of the convolution kernel, its arithmetic read at an index: the normalised block, the four column chunks
  of the mixing, the carried rows, and the output projection.
-/
module

public import proofs.«01_k».proof.Proof.ConvSpec
public import proofs.«01_k».proof.Proof.Gen.KernelIdeal.Skeleton
public import Idealize.ShloMosaic.Lib.Pipeline.ValueKit
public import Idealize.ShloMosaic.Lib.Pipeline.ReadBack

@[expose] public section

set_option maxRecDepth 16384

noncomputable section

namespace Cert.KernelIdeal.Conv

open Idealize.ShloMosaic Cert.KernelIdeal Cert.KernelIdeal.Gen Cert.ConvLayer

/-- The row numbers of a block. -/
abbrev rowNo : IVec S512x256 32 := iota .tc S512x256 32 [0] iota_S512x256_d0_w32

/-- A row of the normalised block times a column of a chunk of the weights. -/
def prj (h : FVec Ideal S512x1024 .bf16) (w : Vec Ideal S1024x256 .bf16) (i : Fin 512) (j : Fin 256) : EReal :=
  ∑ k : Fin 1024, h (ix2 i k) * w (ix2 k j)

/-- A column of what the convolution runs over, in a chunk. -/
def uc (h : FVec Ideal S512x1024 .bf16) (wc wu : Vec Ideal S1024x256 .bf16) (j : Fin 256) (i : Fin 512) : EReal :=
  prj h wc i j * prj h wu i j

/-- One element of a chunk of the mixing. -/
def chunk (h : FVec Ideal S512x1024 .bf16) (wb wc wu wz : Vec Ideal S1024x256 .bf16) (t0 t1 w0 w1 w2 : Vec Ideal S1x256 .f32)
    (i : Fin 512) (j : Fin 256) : EReal :=
  mix (prj h wb i j) (prj h wz i j) (back2 (uc h wc wu j) (t0 (ix2 0 j)) (t1 (ix2 0 j)) i) (back1 (uc h wc wu j) (t1 (ix2 0 j)) i)
    (uc h wc wu j i) (w0 (ix2 0 j)) (w1 (ix2 0 j)) (w2 (ix2 0 j))

/-- One row back as the kernel takes it: a rotated column with its first row replaced. -/
def rot1 (u : Fin 512 → EReal) (t1 : EReal) (i : Fin 512) : EReal :=
  Scalar.select (IntOp.cmpi .eq (BitVec.ofNat 32 i.val) 0#32) t1 (u ⟨(i.val + 512 - 1) % 512, Nat.mod_lt _ (by decide)⟩)

/-- Two rows back as the kernel takes it: a rotated column with its first two rows replaced. -/
def rot2 (u : Fin 512 → EReal) (t0 t1 : EReal) (i : Fin 512) : EReal :=
  Scalar.select (IntOp.cmpi .eq (BitVec.ofNat 32 i.val) 0#32) t0
    (Scalar.select (IntOp.cmpi .eq (BitVec.ofNat 32 i.val) 1#32) t1 (u ⟨(i.val + 512 - 2) % 512, Nat.mod_lt _ (by decide)⟩))

theorem rot1_eq (u : Fin 512 → EReal) (t1 : EReal) (i : Fin 512) : rot1 u t1 i = back1 u t1 i := by
  unfold rot1 back1
  rw [select_row (by decide) i 0 (by decide)]
  split
  · rfl
  · exact congrArg u (Fin.ext (by have := i.isLt; show (i.val + 512 - 1) % 512 = i.val - 1; omega))

theorem rot2_eq (u : Fin 512 → EReal) (t0 t1 : EReal) (i : Fin 512) : rot2 u t0 t1 i = back2 u t0 t1 i := by
  unfold rot2 back2
  rw [select_row (by decide) i 0 (by decide), select_row (by decide) i 1 (by decide)]
  split
  · rfl
  · split
    · rfl
    · exact congrArg u (Fin.ext (by have := i.isLt; show (i.val + 512 - 2) % 512 = i.val - 2; omega))

/-- A chunk's element with the rows before it as the kernel takes them. -/
theorem chunk_rot (h : FVec Ideal S512x1024 .bf16) (wb wc wu wz : Vec Ideal S1024x256 .bf16) (t0 t1 w0 w1 w2 : Vec Ideal S1x256 .f32)
    (i : Fin 512) (j : Fin 256) :
    mix (prj h wb i j) (prj h wz i j) (rot2 (uc h wc wu j) (t0 (ix2 0 j)) (t1 (ix2 0 j)) i) (rot1 (uc h wc wu j) (t1 (ix2 0 j)) i)
      (uc h wc wu j i) (w0 (ix2 0 j)) (w1 (ix2 0 j)) (w2 (ix2 0 j)) = chunk h wb wc wu wz t0 t1 w0 w1 w2 i j := by
  rw [rot1_eq, rot2_eq]; rfl

/-- The normalised block at an index. -/
theorem norm_apply (x : Vec Ideal S1x512x1024 .f32) (g : Vec Ideal S1x1024 .f32) (i : Fin 512) (j : Fin 1024) :
    k0_pay3 x g (ix2 i j) = rms (fun k => x (ix3 0 i k)) (fun k => g (ix2 0 k)) j := by
  pointwise [k0_pay3, k0_pay2]
  rfl

theorem chunk0 (x : Vec Ideal S1x512x1024 .f32) (g : Vec Ideal S1x1024 .f32) (wb wc wu wz : Vec Ideal S1024x256 .bf16)
    (t0 t1 w0 w1 w2 : Vec Ideal S1x256 .f32) (i : Fin 512) (j : Fin 256) :
    k0_pay16 (k0_pay4 x g wb) (k0_pay7 x g wz) (k0_pay12 (k0_pay5 x g wc) (k0_pay6 x g wu))
        (k0_pay13 rowNo (k0_pay5 x g wc) (k0_pay6 x g wu) t0 t1 w0) (k0_pay14 rowNo (k0_pay5 x g wc) (k0_pay6 x g wu) t1) w1 w2 (ix2 i j)
      = chunk (k0_pay3 x g) wb wc wu wz t0 t1 w0 w1 w2 i j := by
  unfold k0_pay4 k0_pay5 k0_pay6 k0_pay7
  generalize k0_pay3 x g = h
  refine Eq.trans ?_ (chunk_rot h wb wc wu wz t0 t1 w0 w1 w2 i j)
  pointwise [k0_pay16, k0_pay12, k0_pay13, k0_pay14]
  rfl

theorem chunk1 (h : FVec Ideal S512x1024 .bf16) (wb wc wu wz : Vec Ideal S1024x256 .bf16)
    (t0 t1 w0 w1 w2 : Vec Ideal S1x256 .f32) (i : Fin 512) (j : Fin 256) :
    k0_pay25 rowNo (k0_pay8 h wb) (k0_pay11 h wz) (k0_pay21 (k0_pay9 h wc) (k0_pay10 h wu)) (k0_pay22 rowNo) t0 (k0_pay23 rowNo) t1 w0 t1 w1 w2
        (ix2 i j)
      = chunk h wb wc wu wz t0 t1 w0 w1 w2 i j := by
  refine Eq.trans ?_ (chunk_rot h wb wc wu wz t0 t1 w0 w1 w2 i j)
  pointwise [k0_pay25, k0_pay8, k0_pay9, k0_pay10, k0_pay11, k0_pay21, k0_pay22, k0_pay23]
  rfl

theorem chunk2 (h : FVec Ideal S512x1024 .bf16) (wb wc wu wz : Vec Ideal S1024x256 .bf16)
    (t0 t1 w0 w1 w2 : Vec Ideal S1x256 .f32) (i : Fin 512) (j : Fin 256) :
    k0_pay34 (k0_pay17 h wb) (k0_pay20 h wz) (k0_pay31 rowNo (k0_pay18 h wc) (k0_pay19 h wu) t0 t1 w0 t1 w1)
        (k0_pay32 (k0_pay18 h wc) (k0_pay19 h wu) w2) (ix2 i j)
      = chunk h wb wc wu wz t0 t1 w0 w1 w2 i j := by
  refine Eq.trans ?_ (chunk_rot h wb wc wu wz t0 t1 w0 w1 w2 i j)
  pointwise [k0_pay34, k0_pay17, k0_pay18, k0_pay19, k0_pay20, k0_pay30, k0_pay31, k0_pay32]
  rfl

theorem chunk3 (h : FVec Ideal S512x1024 .bf16) (wb wc wu wz : Vec Ideal S1024x256 .bf16)
    (t0 t1 w0 w1 w2 : Vec Ideal S1x256 .f32) (i : Fin 512) (j : Fin 256) :
    truncf .bf16 (mulf (mulf (k0_pay26 h wb) (addf (k0_pay36 rowNo (k0_pay27 h wc) (k0_pay28 h wu) t0 t1 w0 t1 w1)
        (mulf (k0_pay35 (k0_pay27 h wc) (k0_pay28 h wu)) (k0_pay37 w2)))) (mulf (k0_pay29 h wz) (logistic (k0_pay29 h wz)))) bitsLt_bf16_f32
        (ix2 i j)
      = chunk h wb wc wu wz t0 t1 w0 w1 w2 i j := by
  refine Eq.trans ?_ (chunk_rot h wb wc wu wz t0 t1 w0 w1 w2 i j)
  pointwise [k0_pay26, k0_pay27, k0_pay28, k0_pay29, k0_pay35, k0_pay36, k0_pay37]
  rfl

/-- Four chunks side by side, at an index. -/
theorem cat4_at (v0 v1 v2 v3 : FVec Ideal S512x256 .bf16) (Y : Fin 512 → Fin 1024 → EReal)
    (h0 : ∀ i (j : Fin 256), v0 (ix2 i j) = Y i ⟨0 + j.val, by omega⟩) (h1 : ∀ i (j : Fin 256), v1 (ix2 i j) = Y i ⟨256 + j.val, by omega⟩)
    (h2 : ∀ i (j : Fin 256), v2 (ix2 i j) = Y i ⟨512 + j.val, by omega⟩) (h3 : ∀ i (j : Fin 256), v3 (ix2 i j) = Y i ⟨768 + j.val, by omega⟩)
    (i : Fin 512) (c : Fin 1024) :
    concatenate S512x1024 1 [⟨S512x256, v0⟩, ⟨S512x256, v1⟩, ⟨S512x256, v2⟩, ⟨S512x256, v3⟩]
        concatenates_S512x256_S512x256_S512x256_S512x256_S512x1024_d1 (ix2 i c) = Y i c := by
  have hc := c.isLt
  pointwise []
  split
  · exact (h0 i _).trans (congrArg (Y i) (Fin.ext (by simp only []; omega)))
  · split
    · exact (h1 i _).trans (congrArg (Y i) (Fin.ext (by simp only []; omega)))
    · split
      · exact (h2 i _).trans (congrArg (Y i) (Fin.ext (by simp only []; omega)))
      · exact (h3 i _).trans (congrArg (Y i) (Fin.ext (by simp only []; omega)))

/-- Four chunks side by side. -/
theorem cat4 (v0 v1 v2 v3 : FVec Ideal S512x256 .bf16) (Y : Fin 512 → Fin 1024 → EReal)
    (h0 : ∀ i (j : Fin 256), v0 (ix2 i j) = Y i ⟨0 + j.val, by omega⟩) (h1 : ∀ i (j : Fin 256), v1 (ix2 i j) = Y i ⟨256 + j.val, by omega⟩)
    (h2 : ∀ i (j : Fin 256), v2 (ix2 i j) = Y i ⟨512 + j.val, by omega⟩) (h3 : ∀ i (j : Fin 256), v3 (ix2 i j) = Y i ⟨768 + j.val, by omega⟩) :
    concatenate S512x1024 1 [⟨S512x256, v0⟩, ⟨S512x256, v1⟩, ⟨S512x256, v2⟩, ⟨S512x256, v3⟩]
        concatenates_S512x256_S512x256_S512x256_S512x256_S512x1024_d1 = fun q : S512x1024.Idx => Y (q 0) (q 1) := by
  funext q
  rw [eq_ix2 q]
  exact cat4_at v0 v1 v2 v3 Y h0 h1 h2 h3 (q 0) (q 1)

/-- The block the layer leaves, from its mixed channels `Y`. -/
theorem layer_apply (x : Vec Ideal S1x512x1024 .f32) (v0 v1 v2 : FVec Ideal S512x256 .bf16) (b z u s t : FVec Ideal S512x256 .f32)
    (wo : Vec Ideal S1024x1024 .bf16) (g : Vec Ideal S1x1024 .f32) (Y : Fin 512 → Fin 1024 → EReal)
    (h0 : ∀ i (j : Fin 256), v0 (ix2 i j) = Y i ⟨0 + j.val, by omega⟩) (h1 : ∀ i (j : Fin 256), v1 (ix2 i j) = Y i ⟨256 + j.val, by omega⟩)
    (h2 : ∀ i (j : Fin 256), v2 (ix2 i j) = Y i ⟨512 + j.val, by omega⟩)
    (h3 : ∀ i (j : Fin 256), truncf (F := Ideal) .bf16 (mulf (mulf b (addf s (mulf u t))) (mulf z (logistic z))) bitsLt_bf16_f32 (ix2 i j)
      = Y i ⟨768 + j.val, by omega⟩) (i : Fin 512) (n : Fin 1024) :
    k0_pay39 (k0_pay2 x) v0 v1 b z v2 u s t wo g (ix3 0 i n)
      = layerAt (fun k => x (ix3 0 i k)) (Y i) (fun c m => wo (ix2 c m)) (fun k => g (ix2 0 k)) n := by
  have hc := cat4 v0 v1 v2 _ Y h0 h1 h2 h3
  unfold k0_pay39
  dsimp only
  rw [hc]
  pointwise [k0_pay2]
  rfl

/-- The last two rows of what the convolution runs over, as each chunk stores them. -/
theorem tail0 (x : Vec Ideal S1x512x1024 .f32) (g : Vec Ideal S1x1024 .f32) (wc wu : Vec Ideal S1024x256 .bf16) (r : Fin 2) (j : Fin 256) :
    k0_pay15 (k0_pay12 (k0_pay5 x g wc) (k0_pay6 x g wu)) (ix2 r j) = uc (k0_pay3 x g) wc wu j ⟨510 + r.val, by omega⟩ := by
  unfold k0_pay5 k0_pay6
  generalize k0_pay3 x g = h
  pointwise [k0_pay15, k0_pay12]
  rfl

theorem tail1 (h : FVec Ideal S512x1024 .bf16) (wc wu : Vec Ideal S1024x256 .bf16) (r : Fin 2) (j : Fin 256) :
    k0_pay24 (k0_pay21 (k0_pay9 h wc) (k0_pay10 h wu)) (ix2 r j) = uc h wc wu j ⟨510 + r.val, by omega⟩ := by
  pointwise [k0_pay24, k0_pay21, k0_pay9, k0_pay10]
  rfl

theorem tail2 (h : FVec Ideal S512x1024 .bf16) (wc wu : Vec Ideal S1024x256 .bf16) (r : Fin 2) (j : Fin 256) :
    k0_pay33 (k0_pay30 (k0_pay18 h wc) (k0_pay19 h wu)) (ix2 r j) = uc h wc wu j ⟨510 + r.val, by omega⟩ := by
  pointwise [k0_pay33, k0_pay30, k0_pay18, k0_pay19]
  rfl

theorem tail3 (h : FVec Ideal S512x1024 .bf16) (wc wu : Vec Ideal S1024x256 .bf16) (r : Fin 2) (j : Fin 256) :
    k0_pay38 (k0_pay35 (k0_pay27 h wc) (k0_pay28 h wu)) (ix2 r j) = uc h wc wu j ⟨510 + r.val, by omega⟩ := by
  pointwise [k0_pay38, k0_pay35, k0_pay27, k0_pay28]
  rfl

/-- A chunk of the weights' columns, read at an index. -/
theorem ld_w (w : Vec Ideal S1024x4096 .bf16) (o : ℕ) (ho : ∀ a, (![0, o] : Fin 2 → ℕ) a + S1024x256.size a ≤ S1024x4096.size a) (k : Fin 1024) (j : Fin 256)
    (hj : o + j.val < 4096) :
    View.ld w (Rect.unit ![0, o] S1024x256.size ho) (ix2 k j) = w (ix2 k ⟨o + j.val, hj⟩) := by
  pointwise []

/-- A row of the tail, or of the taps, cut to a chunk's columns and read at an index. -/
theorem ld_tl (x : Vec Ideal S8x1024 .f32) (r : Fin 8) (o : ℕ) (ho : ∀ a, (![r.val, o] : Fin 2 → ℕ) a + S1x256.size a ≤ S8x1024.size a)
    (j : Fin 256) (hj : o + j.val < 1024) : View.ld x (Rect.unit ![r.val, o] S1x256.size ho) (ix2 0 j) = x (ix2 r ⟨o + j.val, hj⟩) := by
  refine View.ld_unit_apply_of _ _ _ _ _ _ fun a => ?_
  match a with
  | ⟨0, _⟩ => rfl
  | ⟨1, _⟩ => rfl

theorem ld_taps (x : Vec Ideal S3x1024 .f32) (r : Fin 3) (o : ℕ) (ho : ∀ a, (![r.val, o] : Fin 2 → ℕ) a + S1x256.size a ≤ S3x1024.size a)
    (j : Fin 256) (hj : o + j.val < 1024) : View.ld x (Rect.unit ![r.val, o] S1x256.size ho) (ix2 0 j) = x (ix2 r ⟨o + j.val, hj⟩) := by
  refine View.ld_unit_apply_of _ _ _ _ _ _ fun a => ?_
  match a with
  | ⟨0, _⟩ => rfl
  | ⟨1, _⟩ => rfl

variable (x0 : Vec Ideal S1x512x1024 .f32) (x1 : Vec Ideal S1x1024 .f32) (x2 : Vec Ideal S1024x4096 .bf16) (x3 : Vec Ideal S3x1024 .f32)

/-- Row `i` of a block. -/
abbrev rowOf (i : Fin 512) : Row := fun k => x0 (ix3 0 i k)

/-- What the convolution runs over, at row `i` of a block. -/
def ub (i : Fin 512) (c : Fin 1024) : EReal := uAt (rowOf x0 i) (fun k => x1 (ix2 0 k)) (fun k n => x2 (ix2 k n)) c

/-- The mixed channels of row `i` of a block, `t0` and `t1` being the rows in front of the block. -/
def yb (t0 t1 : Row) (i : Fin 512) (c : Fin 1024) : EReal :=
  mixAt (rowOf x0 i) (fun k => x1 (ix2 0 k)) (fun k n => x2 (ix2 k n)) (fun r k => x3 (ix2 r k))
    (fun c => back2 (fun i => ub x0 x1 x2 i c) (t0 c) (t1 c) i) (fun c => back1 (fun i => ub x0 x1 x2 i c) (t1 c) i) c

/-- A chunk of the input projection is columns of the layer's. -/
theorem prj_at (p : Fin 4) (o q : ℕ) (hq : q = 1024 * p.val + o)
    (h : ∀ a, (![0, q] : Fin 2 → ℕ) a + S1024x256.size a ≤ S1024x4096.size a) (i : Fin 512) (j : Fin 256) (hj : o + j.val < 1024) :
    prj (k0_pay3 x0 x1) (View.ld x2 (Rect.unit ![0, q] S1024x256.size h)) i j
      = proj (rms (rowOf x0 i) (fun k => x1 (ix2 0 k))) (fun k n => x2 (ix2 k n)) (part p ⟨o + j.val, hj⟩) := by
  have hp := p.isLt
  unfold prj proj
  refine Finset.sum_congr rfl fun k _ => ?_
  rw [norm_apply, ld_w x2 q h k j (by omega)]
  exact congrArg (fun n => rms (rowOf x0 i) (fun k => x1 (ix2 0 k)) k * x2 (ix2 k n)) (Fin.ext (by simp only [part]; omega))

theorem uc_at (o oc ou : ℕ) (ec : oc = 1024 + o) (eu : ou = 2048 + o)
    (hc : ∀ a, (![0, oc] : Fin 2 → ℕ) a + S1024x256.size a ≤ S1024x4096.size a)
    (hu : ∀ a, (![0, ou] : Fin 2 → ℕ) a + S1024x256.size a ≤ S1024x4096.size a) (i : Fin 512) (j : Fin 256) (hj : o + j.val < 1024) :
    uc (k0_pay3 x0 x1) (View.ld x2 (Rect.unit ![0, oc] S1024x256.size hc)) (View.ld x2 (Rect.unit ![0, ou] S1024x256.size hu)) j i
      = ub x0 x1 x2 i ⟨o + j.val, hj⟩ := by
  unfold uc ub uAt
  rw [prj_at x0 x1 x2 1 o oc ec hc i j hj, prj_at x0 x1 x2 2 o ou eu hu i j hj]

/-- A chunk of the mixing is columns of the layer's. -/
theorem chunk_at (tl : Vec Ideal S8x1024 .f32) (o ob oc ou oz : ℕ) (eb : ob = o) (ec : oc = 1024 + o) (eu : ou = 2048 + o) (ez : oz = 3072 + o)
    (hb : ∀ a, (![0, ob] : Fin 2 → ℕ) a + S1024x256.size a ≤ S1024x4096.size a)
    (hc : ∀ a, (![0, oc] : Fin 2 → ℕ) a + S1024x256.size a ≤ S1024x4096.size a)
    (hu : ∀ a, (![0, ou] : Fin 2 → ℕ) a + S1024x256.size a ≤ S1024x4096.size a)
    (hz : ∀ a, (![0, oz] : Fin 2 → ℕ) a + S1024x256.size a ≤ S1024x4096.size a)
    (h0 : ∀ a, (![0, o] : Fin 2 → ℕ) a + S1x256.size a ≤ S8x1024.size a) (h1 : ∀ a, (![1, o] : Fin 2 → ℕ) a + S1x256.size a ≤ S8x1024.size a)
    (g0 : ∀ a, (![0, o] : Fin 2 → ℕ) a + S1x256.size a ≤ S3x1024.size a) (g1 : ∀ a, (![1, o] : Fin 2 → ℕ) a + S1x256.size a ≤ S3x1024.size a)
    (g2 : ∀ a, (![2, o] : Fin 2 → ℕ) a + S1x256.size a ≤ S3x1024.size a) (i : Fin 512) (j : Fin 256) (hj : o + j.val < 1024) :
    chunk (k0_pay3 x0 x1) (View.ld x2 (Rect.unit ![0, ob] S1024x256.size hb)) (View.ld x2 (Rect.unit ![0, oc] S1024x256.size hc))
        (View.ld x2 (Rect.unit ![0, ou] S1024x256.size hu)) (View.ld x2 (Rect.unit ![0, oz] S1024x256.size hz))
        (View.ld tl (Rect.unit ![0, o] S1x256.size h0)) (View.ld tl (Rect.unit ![1, o] S1x256.size h1))
        (View.ld x3 (Rect.unit ![0, o] S1x256.size g0)) (View.ld x3 (Rect.unit ![1, o] S1x256.size g1)) (View.ld x3 (Rect.unit ![2, o] S1x256.size g2)) i j
      = yb x0 x1 x2 x3 (fun c => tl (ix2 0 c)) (fun c => tl (ix2 1 c)) i ⟨o + j.val, hj⟩ := by
  have hu' := fun i => uc_at x0 x1 x2 o oc ou ec eu hc hu i j hj
  unfold chunk yb mixAt
  rw [funext hu', prj_at x0 x1 x2 0 o ob (by simpa using eb) hb i j hj, prj_at x0 x1 x2 3 o oz ez hz i j hj]
  rw [show View.ld tl (Rect.unit ![0, o] S1x256.size h0) (ix2 0 j) = tl (ix2 0 ⟨o + j.val, hj⟩) from ld_tl tl 0 o h0 j hj,
    show View.ld tl (Rect.unit ![1, o] S1x256.size h1) (ix2 0 j) = tl (ix2 1 ⟨o + j.val, hj⟩) from ld_tl tl 1 o h1 j hj,
    show View.ld x3 (Rect.unit ![0, o] S1x256.size g0) (ix2 0 j) = x3 (ix2 0 ⟨o + j.val, hj⟩) from ld_taps x3 0 o g0 j hj,
    show View.ld x3 (Rect.unit ![1, o] S1x256.size g1) (ix2 0 j) = x3 (ix2 1 ⟨o + j.val, hj⟩) from ld_taps x3 1 o g1 j hj,
    show View.ld x3 (Rect.unit ![2, o] S1x256.size g2) (ix2 0 j) = x3 (ix2 2 ⟨o + j.val, hj⟩) from ld_taps x3 2 o g2 j hj]
  rfl

/-- The layer's rows of a block as the kernel computes them, `tl` holding the two rows in front of the block. -/
theorem block_value (x4 : Vec Ideal S1024x1024 .bf16) (x5 : Vec Ideal S1x1024 .f32) (tl : Vec Ideal S8x1024 .f32) (i : Fin 512) (n : Fin 1024) :
    k0_pay39 (k0_pay2 x0)
      (k0_pay16 (k0_pay4 x0 x1 (View.ld x2 (Rect.unit ![0, 0] ![1024, 256] inb_S1024x4096_S1024x256_0_0))) (k0_pay7 x0 x1 (View.ld x2 (Rect.unit ![0, 3072] ![1024, 256] inb_S1024x4096_S1024x256_0_3072)))
        (k0_pay12 (k0_pay5 x0 x1 (View.ld x2 (Rect.unit ![0, 1024] ![1024, 256] inb_S1024x4096_S1024x256_0_1024))) (k0_pay6 x0 x1 (View.ld x2 (Rect.unit ![0, 2048] ![1024, 256] inb_S1024x4096_S1024x256_0_2048))))
        (k0_pay13 rowNo (k0_pay5 x0 x1 (View.ld x2 (Rect.unit ![0, 1024] ![1024, 256] inb_S1024x4096_S1024x256_0_1024))) (k0_pay6 x0 x1 (View.ld x2 (Rect.unit ![0, 2048] ![1024, 256] inb_S1024x4096_S1024x256_0_2048))) (View.ld tl (Rect.unit ![0, 0] ![1, 256] inb_S8x1024_S1x256_0_0)) (View.ld tl (Rect.unit ![1, 0] ![1, 256] inb_S8x1024_S1x256_1_0)) (View.ld x3 (Rect.unit ![0, 0] ![1, 256] inb_S3x1024_S1x256_0_0)))
        (k0_pay14 rowNo (k0_pay5 x0 x1 (View.ld x2 (Rect.unit ![0, 1024] ![1024, 256] inb_S1024x4096_S1024x256_0_1024))) (k0_pay6 x0 x1 (View.ld x2 (Rect.unit ![0, 2048] ![1024, 256] inb_S1024x4096_S1024x256_0_2048))) (View.ld tl (Rect.unit ![1, 0] ![1, 256] inb_S8x1024_S1x256_1_0))) (View.ld x3 (Rect.unit ![1, 0] ![1, 256] inb_S3x1024_S1x256_1_0)) (View.ld x3 (Rect.unit ![2, 0] ![1, 256] inb_S3x1024_S1x256_2_0)))
      (k0_pay25 rowNo (k0_pay8 (k0_pay3 x0 x1) (View.ld x2 (Rect.unit ![0, 256] ![1024, 256] inb_S1024x4096_S1024x256_0_256))) (k0_pay11 (k0_pay3 x0 x1) (View.ld x2 (Rect.unit ![0, 3328] ![1024, 256] inb_S1024x4096_S1024x256_0_3328)))
        (k0_pay21 (k0_pay9 (k0_pay3 x0 x1) (View.ld x2 (Rect.unit ![0, 1280] ![1024, 256] inb_S1024x4096_S1024x256_0_1280))) (k0_pay10 (k0_pay3 x0 x1) (View.ld x2 (Rect.unit ![0, 2304] ![1024, 256] inb_S1024x4096_S1024x256_0_2304)))) (k0_pay22 rowNo) (View.ld tl (Rect.unit ![0, 256] ![1, 256] inb_S8x1024_S1x256_0_256)) (k0_pay23 rowNo) (View.ld tl (Rect.unit ![1, 256] ![1, 256] inb_S8x1024_S1x256_1_256))
        (View.ld x3 (Rect.unit ![0, 256] ![1, 256] inb_S3x1024_S1x256_0_256)) (View.ld tl (Rect.unit ![1, 256] ![1, 256] inb_S8x1024_S1x256_1_256)) (View.ld x3 (Rect.unit ![1, 256] ![1, 256] inb_S3x1024_S1x256_1_256)) (View.ld x3 (Rect.unit ![2, 256] ![1, 256] inb_S3x1024_S1x256_2_256)))
      (k0_pay26 (k0_pay3 x0 x1) (View.ld x2 (Rect.unit ![0, 768] ![1024, 256] inb_S1024x4096_S1024x256_0_768))) (k0_pay29 (k0_pay3 x0 x1) (View.ld x2 (Rect.unit ![0, 3840] ![1024, 256] inb_S1024x4096_S1024x256_0_3840)))
      (k0_pay34 (k0_pay17 (k0_pay3 x0 x1) (View.ld x2 (Rect.unit ![0, 512] ![1024, 256] inb_S1024x4096_S1024x256_0_512))) (k0_pay20 (k0_pay3 x0 x1) (View.ld x2 (Rect.unit ![0, 3584] ![1024, 256] inb_S1024x4096_S1024x256_0_3584)))
        (k0_pay31 rowNo (k0_pay18 (k0_pay3 x0 x1) (View.ld x2 (Rect.unit ![0, 1536] ![1024, 256] inb_S1024x4096_S1024x256_0_1536))) (k0_pay19 (k0_pay3 x0 x1) (View.ld x2 (Rect.unit ![0, 2560] ![1024, 256] inb_S1024x4096_S1024x256_0_2560))) (View.ld tl (Rect.unit ![0, 512] ![1, 256] inb_S8x1024_S1x256_0_512)) (View.ld tl (Rect.unit ![1, 512] ![1, 256] inb_S8x1024_S1x256_1_512))
          (View.ld x3 (Rect.unit ![0, 512] ![1, 256] inb_S3x1024_S1x256_0_512)) (View.ld tl (Rect.unit ![1, 512] ![1, 256] inb_S8x1024_S1x256_1_512)) (View.ld x3 (Rect.unit ![1, 512] ![1, 256] inb_S3x1024_S1x256_1_512)))
        (k0_pay32 (k0_pay18 (k0_pay3 x0 x1) (View.ld x2 (Rect.unit ![0, 1536] ![1024, 256] inb_S1024x4096_S1024x256_0_1536))) (k0_pay19 (k0_pay3 x0 x1) (View.ld x2 (Rect.unit ![0, 2560] ![1024, 256] inb_S1024x4096_S1024x256_0_2560))) (View.ld x3 (Rect.unit ![2, 512] ![1, 256] inb_S3x1024_S1x256_2_512))))
      (k0_pay35 (k0_pay27 (k0_pay3 x0 x1) (View.ld x2 (Rect.unit ![0, 1792] ![1024, 256] inb_S1024x4096_S1024x256_0_1792))) (k0_pay28 (k0_pay3 x0 x1) (View.ld x2 (Rect.unit ![0, 2816] ![1024, 256] inb_S1024x4096_S1024x256_0_2816))))
      (k0_pay36 rowNo (k0_pay27 (k0_pay3 x0 x1) (View.ld x2 (Rect.unit ![0, 1792] ![1024, 256] inb_S1024x4096_S1024x256_0_1792))) (k0_pay28 (k0_pay3 x0 x1) (View.ld x2 (Rect.unit ![0, 2816] ![1024, 256] inb_S1024x4096_S1024x256_0_2816))) (View.ld tl (Rect.unit ![0, 768] ![1, 256] inb_S8x1024_S1x256_0_768)) (View.ld tl (Rect.unit ![1, 768] ![1, 256] inb_S8x1024_S1x256_1_768))
        (View.ld x3 (Rect.unit ![0, 768] ![1, 256] inb_S3x1024_S1x256_0_768)) (View.ld tl (Rect.unit ![1, 768] ![1, 256] inb_S8x1024_S1x256_1_768)) (View.ld x3 (Rect.unit ![1, 768] ![1, 256] inb_S3x1024_S1x256_1_768)))
      (k0_pay37 (View.ld x3 (Rect.unit ![2, 768] ![1, 256] inb_S3x1024_S1x256_2_768))) x4 x5 (ix3 0 i n)
      = layerAt (rowOf x0 i) (yb x0 x1 x2 x3 (fun k => tl (ix2 0 k)) (fun k => tl (ix2 1 k)) i) (fun k n => x4 (ix2 k n)) (fun k => x5 (ix2 0 k)) n := by
  refine layer_apply x0 _ _ _ _ _ _ _ _ _ _ (yb x0 x1 x2 x3 (fun k => tl (ix2 0 k)) (fun k => tl (ix2 1 k))) ?_ ?_ ?_ ?_ i n
  · exact fun i j => (chunk0 ..).trans (chunk_at x0 x1 x2 x3 tl 0 0 1024 2048 3072 rfl rfl rfl rfl _ _ _ _ _ _ _ _ _ i j _)
  · exact fun i j => (chunk1 ..).trans (chunk_at x0 x1 x2 x3 tl 256 256 1280 2304 3328 rfl rfl rfl rfl _ _ _ _ _ _ _ _ _ i j _)
  · exact fun i j => (chunk2 ..).trans (chunk_at x0 x1 x2 x3 tl 512 512 1536 2560 3584 rfl rfl rfl rfl _ _ _ _ _ _ _ _ _ i j _)
  · exact fun i j => (chunk3 ..).trans (chunk_at x0 x1 x2 x3 tl 768 768 1792 2816 3840 rfl rfl rfl rfl _ _ _ _ _ _ _ _ _ i j _)

/-- What the carried rows hold after a block: its last two rows of what the convolution runs over. -/
def tailG (y : S8x1024.Idx) : EReal := ub x0 x1 x2 ⟨(510 + (y 0).val) % 512, Nat.mod_lt _ (by decide)⟩ (y 1)

theorem tailG_emb (o : ℕ) (h : ∀ a, (![0, o] : Fin 2 → ℕ) a + S2x256.size a ≤ S8x1024.size a) (r : Fin 2) (j : Fin 256) (hj : o + j.val < 1024) :
    tailG x0 x1 x2 ((Rect.unit (s := S8x1024) ![0, o] S2x256.size h).emb (ix2 r j)) = ub x0 x1 x2 ⟨510 + r.val, by omega⟩ ⟨o + j.val, hj⟩ := by
  have hr := r.isLt
  unfold tailG
  refine congrArg₂ (ub x0 x1 x2) (Fin.ext ?_) (Fin.ext ?_)
  · show (510 + (0 + 1 * r.val)) % 512 = 510 + r.val
    omega
  · show o + 1 * j.val = o + j.val
    omega

theorem mem_tail (o : ℕ) (h : ∀ a, (![0, o] : Fin 2 → ℕ) a + S2x256.size a ≤ S8x1024.size a) (i : Fin 8) (n : Fin 1024) (hi : i.val < 2)
    (h1 : o ≤ n.val) (h2 : n.val < o + 256) : (ix2 i n : S8x1024.Idx) ∈ (Rect.unit (s := S8x1024) ![0, o] S2x256.size h).set := by
  rw [Rect.mem_set_unit]
  intro a
  match a with
  | ⟨0, _⟩ => exact ⟨Nat.zero_le _, by show i.val < 0 + 2; omega⟩
  | ⟨1, _⟩ => exact ⟨h1, h2⟩

/-- A chunk's stored rows are a block of `tailG`. -/
theorem tail_piece (o oc ou : ℕ) (ec : oc = 1024 + o) (eu : ou = 2048 + o) (ho : o + 256 ≤ 1024) (w : Vec Ideal S2x256 .f32)
    (hc : ∀ a, (![0, oc] : Fin 2 → ℕ) a + S1024x256.size a ≤ S1024x4096.size a)
    (hu : ∀ a, (![0, ou] : Fin 2 → ℕ) a + S1024x256.size a ≤ S1024x4096.size a)
    (hw : ∀ (r : Fin 2) (j : Fin 256), w (ix2 r j) = uc (k0_pay3 x0 x1) (View.ld x2 (Rect.unit ![0, oc] S1024x256.size hc))
      (View.ld x2 (Rect.unit ![0, ou] S1024x256.size hu)) j ⟨510 + r.val, by omega⟩)
    (h : ∀ a, (![0, o] : Fin 2 → ℕ) a + S2x256.size a ≤ S8x1024.size a) (x : S2x256.Idx) :
    w x = tailG x0 x1 x2 ((Rect.unit (s := S8x1024) ![0, o] S2x256.size h).emb x) := by
  obtain ⟨r, j, rfl⟩ : ∃ (r : Fin 2) (j : Fin 256), x = ix2 r j := ⟨x 0, x 1, eq_ix2 x⟩
  have hj := j.isLt
  rw [tailG_emb x0 x1 x2 o h r j (by omega), hw r j, uc_at x0 x1 x2 o oc ou ec eu hc hu _ j (by omega)]

/-- The four stores of the carried rows, last first. -/
def tailPieces : List (View.Piece (Elt Ideal) S8x1024 .f32) :=
    [⟨Rect.unit ![0, 768] ![2, 256] inb_S8x1024_S2x256_0_768, k0_pay38 (k0_pay35 (k0_pay27 (k0_pay3 x0 x1) (View.ld x2 (Rect.unit ![0, 1792] ![1024, 256] inb_S1024x4096_S1024x256_0_1792))) (k0_pay28 (k0_pay3 x0 x1) (View.ld x2 (Rect.unit ![0, 2816] ![1024, 256] inb_S1024x4096_S1024x256_0_2816))))⟩,
      ⟨Rect.unit ![0, 512] ![2, 256] inb_S8x1024_S2x256_0_512, k0_pay33 (k0_pay30 (k0_pay18 (k0_pay3 x0 x1) (View.ld x2 (Rect.unit ![0, 1536] ![1024, 256] inb_S1024x4096_S1024x256_0_1536))) (k0_pay19 (k0_pay3 x0 x1) (View.ld x2 (Rect.unit ![0, 2560] ![1024, 256] inb_S1024x4096_S1024x256_0_2560))))⟩,
      ⟨Rect.unit ![0, 256] ![2, 256] inb_S8x1024_S2x256_0_256, k0_pay24 (k0_pay21 (k0_pay9 (k0_pay3 x0 x1) (View.ld x2 (Rect.unit ![0, 1280] ![1024, 256] inb_S1024x4096_S1024x256_0_1280))) (k0_pay10 (k0_pay3 x0 x1) (View.ld x2 (Rect.unit ![0, 2304] ![1024, 256] inb_S1024x4096_S1024x256_0_2304))))⟩,
      ⟨Rect.unit ![0, 0] ![2, 256] inb_S8x1024_S2x256_0_0, k0_pay15 (k0_pay12 (k0_pay5 x0 x1 (View.ld x2 (Rect.unit ![0, 1024] ![1024, 256] inb_S1024x4096_S1024x256_0_1024))) (k0_pay6 x0 x1 (View.ld x2 (Rect.unit ![0, 2048] ![1024, 256] inb_S1024x4096_S1024x256_0_2048))))⟩]

/-- Each of the four stores is a block of `tailG`. -/
theorem tail_pieces : View.PiecesOf (tailG x0 x1 x2 : S8x1024.Idx → Elt Ideal .f32) (tailPieces x0 x1 x2) := by
  refine ⟨?_, ?_, ?_, ?_, trivial⟩
  · exact tail_piece x0 x1 x2 768 1792 2816 rfl rfl (by decide) _ _ _ (fun r j => tail3 ..) inb_S8x1024_S2x256_0_768
  · exact tail_piece x0 x1 x2 512 1536 2560 rfl rfl (by decide) _ _ _ (fun r j => tail2 ..) inb_S8x1024_S2x256_0_512
  · exact tail_piece x0 x1 x2 256 1280 2304 rfl rfl (by decide) _ _ _ (fun r j => tail1 ..) inb_S8x1024_S2x256_0_256
  · exact tail_piece x0 x1 x2 0 1024 2048 rfl rfl (by decide) _ _ _ (fun r j => tail0 ..) inb_S8x1024_S2x256_0_0

/-- The four stores cover the two rows. -/
theorem tail_cover (i : Fin 8) (hi : i.val < 2) (n : Fin 1024) : ∃ p ∈ tailPieces x0 x1 x2, (ix2 i n : S8x1024.Idx) ∈ p.1.set := by
  have hn := n.isLt
  by_cases h3 : 768 ≤ n.val
  · exact ⟨_, List.mem_cons_self, mem_tail 768 inb_S8x1024_S2x256_0_768 i n hi h3 (by omega)⟩
  by_cases h2 : 512 ≤ n.val
  · exact ⟨_, List.mem_cons_of_mem _ List.mem_cons_self, mem_tail 512 inb_S8x1024_S2x256_0_512 i n hi h2 (by omega)⟩
  by_cases h1 : 256 ≤ n.val
  · exact ⟨_, List.mem_cons_of_mem _ (List.mem_cons_of_mem _ List.mem_cons_self), mem_tail 256 inb_S8x1024_S2x256_0_256 i n hi h1 (by omega)⟩
  · exact ⟨_, List.mem_cons_of_mem _ (List.mem_cons_of_mem _ (List.mem_cons_of_mem _ List.mem_cons_self)),
      mem_tail 0 inb_S8x1024_S2x256_0_0 i n hi (Nat.zero_le _) (by omega)⟩

/-- The carried rows over a fill of the whole buffer. -/
theorem tail_fill (q : View.Piece (Elt Ideal) S8x1024 .f32) (i : Fin 8) (hi : i.val < 2) (n : Fin 1024) :
    View.canon (tailPieces x0 x1 x2 ++ [q]) (ix2 i n) = tailG x0 x1 x2 (ix2 i n) :=
  View.canon_append_of_piecesOf (tailG x0 x1 x2 : S8x1024.Idx → Elt Ideal .f32) [q] (tailPieces x0 x1 x2) (tail_pieces x0 x1 x2) (ix2 i n)
    (tail_cover x0 x1 x2 i hi n)

/-- The carried rows read back with nothing under them. -/
theorem tail_only (i : Fin 8) (hi : i.val < 2) (n : Fin 1024) :
    View.canon (tailPieces x0 x1 x2) (ix2 i n) = tailG x0 x1 x2 (ix2 i n) :=
  (congrArg (fun L => View.canon L (ix2 i n)) (List.append_nil _)).symm.trans <| View.canon_append_of_piecesOf (tailG x0 x1 x2 : S8x1024.Idx → Elt Ideal .f32) [] (tailPieces x0 x1 x2) (tail_pieces x0 x1 x2) (ix2 i n)
    (tail_cover x0 x1 x2 i hi n)

end Cert.KernelIdeal.Conv

end
-- ==== Proof.ConvPoint.lean ====
/-
  What a grid point of the convolution kernel leaves: the layer's rows of its block, the last two rows that the next
  point starts from, and the three shifted caches. The point at the start of a sequence has zero rows in front of it;
  every other point has the two rows that the point before left.
-/
module

public import proofs.«01_k».proof.Proof.ConvBlock
public import proofs.«01_k».proof.Proof.Gen.KernelIdeal.Frame
public import Idealize.ShloMosaic.Lib.Pipeline.ReadBack

@[expose] public section

set_option maxRecDepth 16384

noncomputable section

namespace Cert.KernelIdeal.Conv

open Idealize.ShloMosaic Idealize.ShloMosaic.TcCoe Idealize.SL.Sem Cert.KernelIdeal Cert.KernelIdeal.Gen Cert.ConvLayer

variable (m : (ℓ : Loc nD τ sig) → Buf (Elt Ideal) ℓ)

/-- The zero rows in front of a sequence. -/
theorem zero_apply (r : Fin 8) (n : Fin 1024) : k0_pay1 (F := Ideal) (ix2 r n) = 0 := by
  pointwise [k0_pay1]

/-- The layer's rows at the first point of a sequence. -/
theorem out_first (c : Dev nD) (t : Fin cfg0.N) (h : t.val % 16 = 0) (i : Fin 512) (n : Fin 1024) :
    (outsAt0 m c t.val t.isLt).1 (ix3 0 i n)
      = layerAt (rowOf (iblk m c 0 t) i) (yb (iblk m c 0 t) (iblk m c 1 t) (iblk m c 2 t) (iblk m c 3 t) (fun _ => 0) (fun _ => 0) i)
          (fun k n => iblk m c 4 t (ix2 k n)) (fun k => iblk m c 5 t (ix2 0 k)) n := by
  rw [outsAt0_A m c t h]
  dsimp only
  frame_open
  simp (disch := decide) only [↓ View.readCov_skip, ↓ View.readCov_cons_toLoadRect, ↓ View.readCov_fill]
  frame_out
  refine (block_value (iblk m c 0 t) (iblk m c 1 t) (iblk m c 2 t) (iblk m c 3 t) (iblk m c 4 t) (iblk m c 5 t) (k0_pay1 (F := Ideal)) i n).trans ?_
  rw [show (fun c => k0_pay1 (F := Ideal) (ix2 0 c)) = fun _ => (0 : EReal) from funext fun c => zero_apply 0 c,
    show (fun c => k0_pay1 (F := Ideal) (ix2 1 c)) = fun _ => (0 : EReal) from funext fun c => zero_apply 1 c]

/-- The layer's rows at any other point, over what the point before left in the carried rows. -/
theorem out_next (c : Dev nD) (t : Fin cfg0.N) (h : ¬t.val % 16 = 0) (i : Fin 512) (n : Fin 1024) :
    (outsAt0 m c t.val t.isLt).1 (ix3 0 i n)
      = layerAt (rowOf (iblk m c 0 t) i) (yb (iblk m c 0 t) (iblk m c 1 t) (iblk m c 2 t) (iblk m c 3 t)
          (fun k => (outsAt0 m c (t.val - 1) (Nat.lt_of_le_of_lt (Nat.sub_le _ _) t.isLt)).2.2.2.2.2.2 (ix2 0 k))
          (fun k => (outsAt0 m c (t.val - 1) (Nat.lt_of_le_of_lt (Nat.sub_le _ _) t.isLt)).2.2.2.2.2.2 (ix2 1 k)) i)
          (fun k n => iblk m c 4 t (ix2 k n)) (fun k => iblk m c 5 t (ix2 0 k)) n := by
  rw [outsAt0_B m c t h]
  dsimp only
  generalize (outsAt0 m c (t.val - 1) (Nat.lt_of_le_of_lt (Nat.sub_le _ _) t.isLt)).2.2.2.2.2.2 = tl
  frame_open
  simp (disch := decide) only [↓ View.readCov_skip, ↓ View.readCov_cons_toLoadRect, ↓ View.readCov_fill]
  frame_out
  simp only [read_unread_whole]
  exact block_value (iblk m c 0 t) (iblk m c 1 t) (iblk m c 2 t) (iblk m c 3 t) (iblk m c 4 t) (iblk m c 5 t) tl i n

/-- The carried rows after the first point of a sequence. -/
theorem tail_first (c : Dev nD) (t : Fin cfg0.N) (h : t.val % 16 = 0) (i : Fin 8) (hi : i.val < 2) (n : Fin 1024) :
    (outsAt0 m c t.val t.isLt).2.2.2.2.2.2 (ix2 i n) = tailG (iblk m c 0 t) (iblk m c 1 t) (iblk m c 2 t) (ix2 i n) := by
  rw [outsAt0_A m c t h]
  dsimp only
  frame_open
  simp (disch := decide) only [↓ View.readCov_skip, ↓ View.readCov_cons_toLoadRect, ↓ View.readCov_fill]
  frame_out
  exact tail_fill (iblk m c 0 t) (iblk m c 1 t) (iblk m c 2 t) _ i hi n

/-- The carried rows after any other point. -/
theorem tail_next (c : Dev nD) (t : Fin cfg0.N) (h : ¬t.val % 16 = 0) (i : Fin 8) (hi : i.val < 2) (n : Fin 1024) :
    (outsAt0 m c t.val t.isLt).2.2.2.2.2.2 (ix2 i n) = tailG (iblk m c 0 t) (iblk m c 1 t) (iblk m c 2 t) (ix2 i n) := by
  rw [outsAt0_B m c t h]
  dsimp only
  generalize (outsAt0 m c (t.val - 1) (Nat.lt_of_le_of_lt (Nat.sub_le _ _) t.isLt)).2.2.2.2.2.2 = tl
  frame_open
  simp (disch := decide) only [↓ View.readCov_skip, ↓ View.readCov_cons_toLoadRect, ↓ View.readCov_fill]
  frame_out
  exact View.read_writes_apply_of_pieces _ _ (tailG (iblk m c 0 t) (iblk m c 1 t) (iblk m c 2 t) : S8x1024.Idx → Elt Ideal .f32)
    (tailPieces (iblk m c 0 t) (iblk m c 1 t) (iblk m c 2 t)) (tail_pieces (iblk m c 0 t) (iblk m c 1 t) (iblk m c 2 t)).mem (ix2 i n)
    (tail_cover (iblk m c 0 t) (iblk m c 1 t) (iblk m c 2 t) i hi n)

/-- The convolution state at a point that is not a sequence's first: the rows it carries on. -/
theorem state_next (c : Dev nD) (t : Fin cfg0.N) (h : ¬t.val % 16 = 0) (r : Fin 2) (n : Fin 1024) :
    (outsAt0 m c t.val t.isLt).2.1 (ix3 0 r n) = ub (iblk m c 0 t) (iblk m c 1 t) (iblk m c 2 t) ⟨510 + r.val, by omega⟩ n := by
  rw [outsAt0_B m c t h]
  dsimp only
  generalize (outsAt0 m c (t.val - 1) (Nat.lt_of_le_of_lt (Nat.sub_le _ _) t.isLt)).2.2.2.2.2.2 = tl
  frame_open
  simp (disch := decide) only [↓ View.readCov_skip, ↓ View.readCov_cons_toLoadRect, ↓ View.readCov_fill]
  frame_out
  rw [View.readCov_eq_canon']
  have e : ∀ g : Vec Ideal S2x1024 .f32, k0_pay40 g (ix3 0 r n) = g (ix2 r n) := fun g => by pointwise [k0_pay40]
  refine (e _).trans ?_
  have hr := r.isLt
  refine Eq.trans (congrArg (View.canon (tailPieces (iblk m c 0 t) (iblk m c 1 t) (iblk m c 2 t))) (show _ = (ix2 ⟨r.val, by omega⟩ n : S8x1024.Idx) from ?_))
    ((tail_only (iblk m c 0 t) (iblk m c 1 t) (iblk m c 2 t) ⟨r.val, by omega⟩ hr n).trans ?_)
  · funext a
    match a with
    | ⟨0, _⟩ => exact Fin.ext (by show 0 + 1 * r.val = r.val; omega)
    | ⟨1, _⟩ => exact Fin.ext (by show 0 + 1 * n.val = n.val; omega)
  · exact congrArg₂ (ub (iblk m c 0 t) (iblk m c 1 t) (iblk m c 2 t)) (Fin.ext (by show (510 + r.val) % 512 = 510 + r.val; omega)) rfl

end Cert.KernelIdeal.Conv

end
-- ==== Proof.ConvInput.lean ====
/-
  What the convolution kernel's grid points read, as reads of the arguments: point `16 b + s` reads rows
  `512 s … 512 s + 511` of sequence `b`, the whole weights, and row `16 b + s` of the three caches and of the new
  keys and values.
-/
module

public import proofs.«01_k».proof.Proof.ConvBlock
public import proofs.«01_k».proof.Proof.Gen.KernelIdeal.Frame

@[expose] public section

set_option maxRecDepth 16384

noncomputable section

namespace Cert.KernelIdeal.Conv

open Idealize.ShloMosaic Idealize.ShloMosaic.TcCoe Idealize.SL.Sem Cert.KernelIdeal Cert.KernelIdeal.Gen Cert.ConvLayer

variable (m : (ℓ : Loc nD τ sig) → Buf (Elt Ideal) ℓ)

/-- Which blocks the input windows hold at a point. -/
theorem idx_in : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_0.index t = ![t.val / 16, t.val % 16, 0] ∧ win0_1.index t = ![0, 0] ∧ win0_2.index t = ![0, 0]
    ∧ win0_3.index t = ![0, 0] ∧ win0_4.index t = ![0, 0] ∧ win0_5.index t = ![0, 0])

/-- Which rows of the caches and the new keys and values a point holds. -/
theorem idx_cache : ∀ t : Fin cfg0.N, win0_6.index t = ![t.val, 0, 0] ∧ win0_7.index t = ![t.val, 0, 0] ∧ win0_8.index t = ![t.val, 0, 0]
    ∧ win0_9.index t = ![t.val, 0, 0, 0] :=
  (by decide +kernel : ∀ t : Fin grid0.N, win0_6.index t = ![t.val, 0, 0] ∧ win0_7.index t = ![t.val, 0, 0] ∧ win0_8.index t = ![t.val, 0, 0]
    ∧ win0_9.index t = ![t.val, 0, 0, 0])

theorem point_lt (t : Fin cfg0.N) : t.val < 32 := t.isLt

theorem x_at (c : Dev nD) (t : Fin cfg0.N) (i : Fin 512) (k : Fin 1024) :
    iblk m c 0 t (ix3 0 i k) = m ((c : Thread nD τ).loc main_arg0)
      (ix3 ⟨t.val / 16, by have := point_lt t; omega⟩ ⟨512 * (t.val % 16) + i.val, by omega⟩ k) := by
  have := idx_in t
  blk_ext! [iblk, V, idx_in t]

theorem g_at (c : Dev nD) (t : Fin cfg0.N) (k : Fin 1024) : iblk m c 1 t (ix2 0 k) = m ((c : Thread nD τ).loc main_arg1) (ix1 k) := by
  blk_ext! [iblk, V, idx_in t]

theorem w_at (c : Dev nD) (t : Fin cfg0.N) (k : Fin 1024) (n : Fin 4096) :
    iblk m c 2 t (ix2 k n) = m ((c : Thread nD τ).loc main_arg2) (ix2 k n) := by
  blk_ext! [iblk, V, idx_in t]

theorem taps_at (c : Dev nD) (t : Fin cfg0.N) (r : Fin 3) (k : Fin 1024) :
    iblk m c 3 t (ix2 r k) = m ((c : Thread nD τ).loc main_arg3) (ix2 r k) := by
  blk_ext! [iblk, V, idx_in t]

theorem wo_at (c : Dev nD) (t : Fin cfg0.N) (k n : Fin 1024) :
    iblk m c 4 t (ix2 k n) = m ((c : Thread nD τ).loc main_arg4) (ix2 k n) := by
  blk_ext! [iblk, V, idx_in t]

theorem gp_at (c : Dev nD) (t : Fin cfg0.N) (k : Fin 1024) : iblk m c 5 t (ix2 0 k) = m ((c : Thread nD τ).loc main_arg5) (ix1 k) := by
  blk_ext! [iblk, V, idx_in t]

theorem cache0_at (c : Dev nD) (t : Fin cfg0.N) (q : Fin 512) (d : Fin 128) :
    iblk m c 6 t (ix3 0 q d) = m ((c : Thread nD τ).loc main_arg6)
      (ix5 ⟨t.val, point_lt t⟩ ⟨q.val / 4, by omega⟩ ⟨q.val / 2 % 2, by omega⟩ ⟨q.val % 2, by omega⟩ d) := by
  blk_ext! [iblk, V, idx_cache t]

theorem cache1_at (c : Dev nD) (t : Fin cfg0.N) (q : Fin 2048) (d : Fin 128) :
    iblk m c 7 t (ix3 0 q d) = m ((c : Thread nD τ).loc main_arg7)
      (ix5 ⟨t.val, point_lt t⟩ ⟨q.val / 4, by omega⟩ ⟨q.val / 2 % 2, by omega⟩ ⟨q.val % 2, by omega⟩ d) := by
  blk_ext! [iblk, V, idx_cache t]

theorem cache2_at (c : Dev nD) (t : Fin cfg0.N) (q : Fin 8192) (d : Fin 128) :
    iblk m c 8 t (ix3 0 q d) = m ((c : Thread nD τ).loc main_arg8)
      (ix5 ⟨t.val, point_lt t⟩ ⟨q.val / 4, by omega⟩ ⟨q.val / 2 % 2, by omega⟩ ⟨q.val % 2, by omega⟩ d) := by
  blk_ext! [iblk, V, idx_cache t]

theorem new_at (c : Dev nD) (t : Fin cfg0.N) (l : Fin 3) (q : Fin 4) (d : Fin 128) :
    iblk m c 9 t (ix4 0 l q d) = if q.val < 2 then m ((c : Thread nD τ).loc main_arg9) (ix5 ⟨t.val, point_lt t⟩ 0 l ⟨q.val % 2, by omega⟩ d)
      else m ((c : Thread nD τ).loc main_arg10) (ix5 ⟨t.val, point_lt t⟩ 0 l ⟨q.val % 2, by omega⟩ d) := by
  have e : iblk m c 9 t (ix4 0 l q d) = V m c main_v8 (ix4 ⟨t.val, point_lt t⟩ l q d) := by
    blk_ext [iblk, idx_cache t]
  rw [e]
  entry_read
  pointwise
  have hq := q.isLt
  have h2 : q.val / 2 < 1 ↔ q.val < 2 := by omega
  split <;> rename_i h
  · exact (if_pos (h2.mp h)).symm
  · exact (if_neg (fun h' => h (h2.mpr h'))).symm

end Cert.KernelIdeal.Conv

end
-- ==== Proof.ConvArray.lean ====
/-
  The arrays that the convolution kernel leaves, as functions of its arguments: the layer's rows over each sequence, the
  last two rows of what the convolution runs over, and the shifted caches.
-/
module

public import proofs.«01_k».proof.Proof.ConvSeq
public import proofs.«01_k».proof.Proof.ConvPoint
public import proofs.«01_k».proof.Proof.ConvInput

@[expose] public section

set_option maxRecDepth 16384

noncomputable section

namespace Cert.KernelIdeal.Conv

open Idealize.ShloMosaic Idealize.ShloMosaic.TcCoe Idealize.SL.Sem Cert.KernelIdeal Cert.KernelIdeal.Gen Cert.ConvLayer

variable (m : (ℓ : Loc nD τ sig) → Buf (Elt Ideal) ℓ)

/-- Sequence `b` of the argument. -/
def seqOf (c : Dev nD) (b : Fin 2) (i : Fin 8192) : Row := fun k => m ((c : Thread nD τ).loc main_arg0) (ix3 b i k)
/-- The scale in front of the layer. -/
def gOf (c : Dev nD) : Row := fun k => m ((c : Thread nD τ).loc main_arg1) (ix1 k)
/-- The input projection. -/
def wOf (c : Dev nD) (k : Fin 1024) (n : Fin 4096) : EReal := m ((c : Thread nD τ).loc main_arg2) (ix2 k n)
/-- The taps. -/
def tapsOf (c : Dev nD) (r : Fin 3) : Row := fun k => m ((c : Thread nD τ).loc main_arg3) (ix2 r k)
/-- The output projection. -/
def woOf (c : Dev nD) (k : Fin 1024) : Row := fun n => m ((c : Thread nD τ).loc main_arg4) (ix2 k n)
/-- The scale behind the layer. -/
def gpOf (c : Dev nD) : Row := fun k => m ((c : Thread nD τ).loc main_arg5) (ix1 k)

/-- The sequence of a grid point. -/
def seqNo (t : Fin cfg0.N) : Fin 2 := ⟨t.val / 16, by have := point_lt t; omega⟩

theorem row_eq (c : Dev nD) (t : Fin cfg0.N) (i : Fin 512) :
    rowOf (iblk m c 0 t) i = seqOf m c (seqNo t) ⟨512 * (t.val % 16) + i.val, by omega⟩ := funext fun k => x_at m c t i k

theorem ub_eq (c : Dev nD) (t : Fin cfg0.N) (i : Fin 512) (n : Fin 1024) :
    ub (iblk m c 0 t) (iblk m c 1 t) (iblk m c 2 t) i n
      = uAt (seqOf m c (seqNo t) ⟨512 * (t.val % 16) + i.val, by omega⟩) (gOf m c) (wOf m c) n := by
  unfold ub
  rw [row_eq m c t i, show (fun k => iblk m c 1 t (ix2 0 k)) = gOf m c from funext fun k => g_at m c t k,
    show (fun k n => iblk m c 2 t (ix2 k n)) = wOf m c from funext fun k => funext fun n => w_at m c t k n]

/-- The carried rows after a point. -/
theorem tail_eq (c : Dev nD) (t : Fin cfg0.N) (r : Fin 2) (n : Fin 1024) :
    (outsAt0 m c t.val t.isLt).2.2.2.2.2.2 (ix2 ⟨r.val, by omega⟩ n)
      = uAt (seqOf m c (seqNo t) ⟨512 * (t.val % 16) + (510 + r.val), by omega⟩) (gOf m c) (wOf m c) n := by
  have hr := r.isLt
  have e : tailG (iblk m c 0 t) (iblk m c 1 t) (iblk m c 2 t) (ix2 ⟨r.val, by omega⟩ n)
      = ub (iblk m c 0 t) (iblk m c 1 t) (iblk m c 2 t) ⟨510 + r.val, by omega⟩ n :=
    congrArg₂ (ub (iblk m c 0 t) (iblk m c 1 t) (iblk m c 2 t)) (Fin.ext (by show (510 + r.val) % 512 = 510 + r.val; omega)) rfl
  by_cases h : t.val % 16 = 0
  · exact ((tail_first m c t h _ hr n).trans e).trans (ub_eq m c t _ n)
  · exact ((tail_next m c t h _ hr n).trans e).trans (ub_eq m c t _ n)

/-- The mixed channels at a point, given that the rows in front of it are the sequence's. -/
theorem yb_eq (c : Dev nD) (t : Fin cfg0.N) (t0 t1 : Row) (i : Fin 512) (h0 : 512 * (t.val % 16) = 0 → ∀ n, t0 n = 0 ∧ t1 n = 0)
    (h1 : ∀ ho : 0 < 512 * (t.val % 16), 2 ≤ 512 * (t.val % 16) ∧ ∀ n, t0 n = uAt (seqOf m c (seqNo t) ⟨512 * (t.val % 16) - 2, by omega⟩) (gOf m c) (wOf m c) n
      ∧ t1 n = uAt (seqOf m c (seqNo t) ⟨512 * (t.val % 16) - 1, by omega⟩) (gOf m c) (wOf m c) n) :
    yb (iblk m c 0 t) (iblk m c 1 t) (iblk m c 2 t) (iblk m c 3 t) t0 t1 i
      = mixSeq (seqOf m c (seqNo t)) (gOf m c) (wOf m c) (tapsOf m c) ⟨512 * (t.val % 16) + i.val, by omega⟩ := by
  funext n
  refine Eq.trans ?_ (mix_block (seqOf m c (seqNo t)) (gOf m c) (wOf m c) (tapsOf m c) (512 * (t.val % 16)) (by omega) t0 t1 i h0 h1 n)
  unfold yb
  simp only [ub_eq]
  rw [row_eq m c t i, show (fun k => iblk m c 1 t (ix2 0 k)) = gOf m c from funext fun k => g_at m c t k,
    show (fun k n => iblk m c 2 t (ix2 k n)) = wOf m c from funext fun k => funext fun n => w_at m c t k n,
    show (fun r k => iblk m c 3 t (ix2 r k)) = tapsOf m c from funext fun r => funext fun k => taps_at m c t r k]

/-- The layer's rows at a point. -/
theorem out_eq (c : Dev nD) (t : Fin cfg0.N) (i : Fin 512) (n : Fin 1024) :
    (outsAt0 m c t.val t.isLt).1 (ix3 0 i n)
      = layerSeq (seqOf m c (seqNo t)) (gOf m c) (wOf m c) (tapsOf m c) (woOf m c) (gpOf m c) ⟨512 * (t.val % 16) + i.val, by omega⟩ n := by
  have e4 : (fun k n => iblk m c 4 t (ix2 k n)) = woOf m c := funext fun k => funext fun n => wo_at m c t k n
  have e5 : (fun k => iblk m c 5 t (ix2 0 k)) = gpOf m c := funext fun k => gp_at m c t k
  by_cases h : t.val % 16 = 0
  · refine (out_first m c t h i n).trans ?_
    rw [e4, e5, row_eq m c t i, yb_eq m c t _ _ i (fun _ _ => ⟨rfl, rfl⟩) (fun ho => absurd ho (by omega))]
    rfl
  · refine (out_next m c t h i n).trans ?_
    have ht := point_lt t
    have hp : t.val - 1 < cfg0.N := Nat.lt_of_le_of_lt (Nat.sub_le _ _) t.isLt
    have key : ∀ (r : Fin 2) (n : Fin 1024), (outsAt0 m c (t.val - 1) hp).2.2.2.2.2.2 (ix2 ⟨r.val, by omega⟩ n)
        = uAt (seqOf m c (seqNo t) ⟨512 * (t.val % 16) - 2 + r.val, by omega⟩) (gOf m c) (wOf m c) n := fun r n => by
      have hr := r.isLt
      refine (tail_eq m c ⟨t.val - 1, hp⟩ r n).trans ?_
      rw [show seqNo ⟨t.val - 1, hp⟩ = seqNo t from Fin.ext (by show (t.val - 1) / 16 = t.val / 16; omega)]
      exact congrArg (fun i => uAt (seqOf m c (seqNo t) i) (gOf m c) (wOf m c) n)
        (Fin.ext (by show 512 * ((t.val - 1) % 16) + (510 + r.val) = 512 * (t.val % 16) - 2 + r.val; omega))
    have ey := yb_eq m c t (fun k => (outsAt0 m c (t.val - 1) hp).2.2.2.2.2.2 (ix2 0 k)) (fun k => (outsAt0 m c (t.val - 1) hp).2.2.2.2.2.2 (ix2 1 k)) i
      (fun e => absurd e (by omega))
      (fun ho => ⟨by omega, fun n => ⟨key 0 n, (key 1 n).trans (congrArg (fun i => uAt (seqOf m c (seqNo t) i) (gOf m c) (wOf m c) n)
        (Fin.ext (by show 512 * (t.val % 16) - 2 + 1 = 512 * (t.val % 16) - 1; omega)))⟩⟩)
    rw [e4, e5, row_eq m c t i, ey]
    rfl

/-- What the result array holds: the layer over each of the two sequences. -/
def outG (c : Dev nD) (y : S2x8192x1024.Idx) : EReal :=
  layerSeq (seqOf m c (y 0)) (gOf m c) (wOf m c) (tapsOf m c) (woOf m c) (gpOf m c) (y 1) (y 2)

/-- What the convolution's state holds: the last two rows of what it runs over. -/
def stateG (c : Dev nD) (y : S2x2x1024.Idx) : EReal :=
  uAt (seqOf m c (y 0) ⟨8190 + (y 1).val, by have : (y 1).val < 2 := (y 1).isLt; omega⟩) (gOf m c) (wOf m c) (y 2)

theorem idx_out : ∀ t : Fin cfg0.N, win0_10.index t = ![t.val / 16, t.val % 16, 0] ∧ win0_11.index t = ![t.val / 16, 0, 0]
    ∧ win0_12.index t = ![t.val, 0, 0] ∧ win0_13.index t = ![t.val, 0, 0] ∧ win0_14.index t = ![t.val, 0, 0] :=
  (by decide +kernel : ∀ t : Fin grid0.N, win0_10.index t = ![t.val / 16, t.val % 16, 0] ∧ win0_11.index t = ![t.val / 16, 0, 0]
    ∧ win0_12.index t = ![t.val, 0, 0] ∧ win0_13.index t = ![t.val, 0, 0] ∧ win0_14.index t = ![t.val, 0, 0])

theorem out_array (c : Dev nD) : (dats m 0 c).arrAt 10 cfg0.N = (outG m c : S2x8192x1024.Idx → Elt Ideal .f32) := by
  refine (dats m 0 c).arrAt_eq_of_covers 10 _ (by decide +kernel) fun t hf y => ?_
  blk_simp
  rw [after0_10]
  obtain ⟨i, n, rfl⟩ : ∃ (i : Fin 512) (n : Fin 1024), y = ix3 0 i n := ⟨y 1, y 2, by
    have := eq_ix3 y
    rw [show (0 : Fin 1) = y 0 from (Subsingleton.elim _ _)]; exact this⟩
  refine (out_eq m c t i n).trans ?_
  unfold outG
  congr 1
  · congr 1
    exact Fin.ext (by blk_simp [idx_out t]; rfl)
  · exact Fin.ext (by blk_simp [idx_out t]; dsimp only; omega)
  · exact Fin.ext (by blk_simp [idx_out t])

theorem state_array (c : Dev nD) : (dats m 0 c).arrAt 11 cfg0.N = (stateG m c : S2x2x1024.Idx → Elt Ideal .f32) := by
  refine (dats m 0 c).arrAt_eq_of_covers 11 _ (by decide +kernel) fun t hf y => ?_
  have hm := (flush0_11 t).mp hf
  blk_simp
  rw [after0_11]
  obtain ⟨r, n, rfl⟩ : ∃ (r : Fin 2) (n : Fin 1024), y = ix3 0 r n := ⟨y 1, y 2, by
    have := eq_ix3 y
    rw [show (0 : Fin 1) = y 0 from (Subsingleton.elim _ _)]; exact this⟩
  refine ((state_next m c t (by omega) r n).trans (ub_eq m c t _ n)).trans ?_
  unfold stateG
  congr 1
  · congr 1
    · exact Fin.ext (by blk_simp [idx_out t]; rfl)
    · exact Fin.ext (by blk_simp [idx_out t]; dsimp only; omega)
  · exact Fin.ext (by blk_simp [idx_out t])

end Cert.KernelIdeal.Conv

end
-- ==== Proof.ConvCache.lean ====
/-
  The three caches that the convolution kernel shifts by one position: each keeps its positions from the second on and
  takes the new key and value at its last. A position is four rows of a cache: the two keys, then the two values.
-/
module

public import proofs.«01_k».proof.Proof.ConvSeq
public import proofs.«01_k».proof.Proof.ConvInput
public import Idealize.ShloMosaic.Lib.Pipeline.ReadBack

@[expose] public section

set_option maxRecDepth 16384

noncomputable section

namespace Cert.KernelIdeal.Conv

open Idealize.ShloMosaic Idealize.ShloMosaic.TcCoe Idealize.SL.Sem Cert.KernelIdeal Cert.KernelIdeal.Gen Cert.ConvLayer

variable (m : (ℓ : Loc nD τ sig) → Buf (Elt Ideal) ℓ)

/-- The new keys of attention layer `l`. -/
def keyOf (c : Dev nD) (l : Fin 3) (b : Fin 32) (h : Fin 2) (d : Fin 128) : EReal := m ((c : Thread nD τ).loc main_arg9) (ix5 b 0 l h d)
/-- The new values of attention layer `l`. -/
def valOf (c : Dev nD) (l : Fin 3) (b : Fin 32) (h : Fin 2) (d : Fin 128) : EReal := m ((c : Thread nD τ).loc main_arg10) (ix5 b 0 l h d)

/-- Which rows of the caches a point writes. -/
theorem idx_keep : ∀ t : Fin cfg0.N, win0_12.index t = ![t.val, 0, 0] ∧ win0_13.index t = ![t.val, 0, 0] ∧ win0_14.index t = ![t.val, 0, 0] :=
  (by decide +kernel : ∀ t : Fin grid0.N, win0_12.index t = ![t.val, 0, 0] ∧ win0_13.index t = ![t.val, 0, 0] ∧ win0_14.index t = ![t.val, 0, 0])

/-- The two stores of a cache of 128 positions. -/
theorem cache0_stores (x : Vec Ideal S1x512x128 .f32) (x9 : Vec Ideal S1x3x4x128 .f32) (q : Fin 512) (d : Fin 128) :
    View.canon (s := S1x512x128) (e := .f32) [⟨Rect.unit ![0, 508, 0] ![1, 4, 128] inb_S1x512x128_S1x4x128_0_508_0, k0_pay42 (View.ld x9 (Rect.unit ![0, 0, 0, 0] ![1, 1, 4, 128] inb_S1x3x4x128_S1x1x4x128_0_0_0_0))⟩,
      ⟨Rect.unit ![0, 0, 0] ![1, 508, 128] inb_S1x512x128_S1x508x128_0_0_0, k0_pay41 (View.ld x (Rect.unit ![0, 4, 0] ![1, 508, 128] inb_S1x512x128_S1x508x128_0_4_0))⟩] (ix3 0 q d)
      = if h : q.val + 4 < 512 then x (ix3 0 ⟨q.val + 4, h⟩ d) else x9 (ix4 0 0 ⟨(q.val + 4 - 512) % 4, by omega⟩ d) := by
  let G : Vec Ideal S1x512x128 .f32 := fun y =>
    if h : (y 1).val + 4 < 512 then x (ix3 0 ⟨(y 1).val + 4, h⟩ (y 2)) else x9 (ix4 0 0 ⟨((y 1).val + 4 - 512) % 4, by omega⟩ (y 2))
  have hL : View.PiecesOf (G : S1x512x128.Idx → Elt Ideal .f32) [⟨Rect.unit ![0, 508, 0] ![1, 4, 128] inb_S1x512x128_S1x4x128_0_508_0, k0_pay42 (View.ld x9 (Rect.unit ![0, 0, 0, 0] ![1, 1, 4, 128] inb_S1x3x4x128_S1x1x4x128_0_0_0_0))⟩,
      ⟨Rect.unit ![0, 0, 0] ![1, 508, 128] inb_S1x512x128_S1x508x128_0_0_0, k0_pay41 (View.ld x (Rect.unit ![0, 4, 0] ![1, 508, 128] inb_S1x512x128_S1x508x128_0_4_0))⟩] := by
    refine ⟨fun z => ?_, fun z => ?_, trivial⟩
    · obtain ⟨i, d, rfl⟩ : ∃ (i : Fin 4) (d : Fin 128), z = ix3 0 i d := ⟨z 1, z 2, by
        rw [show (0 : Fin 1) = z 0 from Subsingleton.elim _ _]; exact eq_ix3 z⟩
      have hi := i.isLt
      have e : k0_pay42 (View.ld x9 (Rect.unit ![0, 0, 0, 0] ![1, 1, 4, 128] inb_S1x3x4x128_S1x1x4x128_0_0_0_0)) (ix3 0 i d) = x9 (ix4 0 0 i d) := by pointwise [k0_pay42]
      refine e.trans (Eq.trans ?_ (dif_neg (by show ¬508 + 1 * i.val + 4 < 512; omega)).symm)
      exact congrArg₂ (fun i d => x9 (ix4 0 0 i d)) (Fin.ext (by show i.val = (508 + 1 * i.val + 4 - 512) % 4; omega))
        (Fin.ext (by show d.val = 0 + 1 * d.val; omega))
    · obtain ⟨i, d, rfl⟩ : ∃ (i : Fin 508) (d : Fin 128), z = ix3 0 i d := ⟨z 1, z 2, by
        rw [show (0 : Fin 1) = z 0 from Subsingleton.elim _ _]; exact eq_ix3 z⟩
      have hi := i.isLt
      have e : k0_pay41 (View.ld x (Rect.unit ![0, 4, 0] ![1, 508, 128] inb_S1x512x128_S1x508x128_0_4_0)) (ix3 0 i d) = x (ix3 0 ⟨4 + i.val, by omega⟩ d) := by pointwise [k0_pay41]
      refine e.trans (Eq.trans ?_ (dif_pos (by show 0 + 1 * i.val + 4 < 512; omega)).symm)
      exact congrArg₂ (fun i d => x (ix3 0 i d)) (Fin.ext (by show 4 + i.val = 0 + 1 * i.val + 4; omega))
        (Fin.ext (by show d.val = 0 + 1 * d.val; omega))
  refine (congrArg (fun L => View.canon L _) (List.append_nil _)).symm.trans
    (View.canon_append_of_piecesOf (G : S1x512x128.Idx → Elt Ideal .f32) [] _ hL (ix3 0 q d) ?_)
  · have hq := q.isLt
    have hd := d.isLt
    by_cases h : q.val < 508
    · refine ⟨_, List.mem_cons_of_mem _ List.mem_cons_self, ?_⟩
      rw [Rect.mem_set_unit]
      intro a
      match a with
      | ⟨0, _⟩ => exact ⟨Nat.le_refl 0, Nat.zero_lt_one⟩
      | ⟨1, _⟩ => exact ⟨Nat.zero_le _, by show q.val < 0 + 508; omega⟩
      | ⟨2, _⟩ => exact ⟨Nat.zero_le _, by show d.val < 0 + 128; omega⟩
    · refine ⟨_, List.mem_cons_self, ?_⟩
      rw [Rect.mem_set_unit]
      intro a
      match a with
      | ⟨0, _⟩ => exact ⟨Nat.le_refl 0, Nat.zero_lt_one⟩
      | ⟨1, _⟩ => exact ⟨by show 508 ≤ q.val; omega, by show q.val < 508 + 4; omega⟩
      | ⟨2, _⟩ => exact ⟨Nat.zero_le _, by show d.val < 0 + 128; omega⟩

/-- The cache of 128 positions in the argument. -/
def cache0Of (c : Dev nD) (b : Fin 32) (p : Fin 128) (s h : Fin 2) (d : Fin 128) : EReal := m ((c : Thread nD τ).loc main_arg6) (ix5 b p s h d)

/-- What a point leaves of the cache of 128 positions. -/
theorem cache0_point (c : Dev nD) (t : Fin cfg0.N) (q : Fin 512) (d : Fin 128) :
    (outsAt0 m c t.val t.isLt).2.2.1 (ix3 0 q d)
      = shiftAt (cache0Of m c) (keyOf m c 0) (valOf m c 0) ⟨t.val, point_lt t⟩ ⟨q.val / 4, by omega⟩ ⟨q.val / 2 % 2, by omega⟩ ⟨q.val % 2, by omega⟩ d := by
  have hq := q.isLt
  refine Eq.trans ?_ (((cache0_stores (iblk m c 6 t) (iblk m c 9 t) q d)).trans
    (shift_rows (cache0Of m c) (keyOf m c 0) (valOf m c 0) ⟨t.val, point_lt t⟩ (n := 128) q d (fun h => iblk m c 6 t (ix3 0 ⟨q.val + 4, h⟩ d)) _
      (fun h => cache0_at m c t ⟨q.val + 4, h⟩ d) (fun h => (new_at m c t 0 ⟨(q.val + 4 - 512) % 4, by omega⟩ d).trans ?_)))
  · by_cases h : t.val % 16 = 0
    · rw [outsAt0_A m c t h]
      dsimp only
      frame_open
      frame_out
    · rw [outsAt0_B m c t h]
      dsimp only
      generalize (outsAt0 m c (t.val - 1) (Nat.lt_of_le_of_lt (Nat.sub_le _ _) t.isLt)).2.2.2.2.2.2 = tl
      frame_open
      frame_out
  · have e4 : (q.val + 4 - 512) % 4 = q.val + 4 - 512 := by omega
    simp only [e4]
    rfl

/-- What the cache of 128 positions holds after the run. -/
def cache0G (c : Dev nD) (y : S32x512x128.Idx) : EReal :=
  shiftAt (cache0Of m c) (keyOf m c 0) (valOf m c 0) (y 0) ⟨(y 1).val / 4, by have : (y 1).val < 512 := (y 1).isLt; omega⟩
    ⟨(y 1).val / 2 % 2, by omega⟩ ⟨(y 1).val % 2, by omega⟩ (y 2)

theorem cache0_array (c : Dev nD) : (dats m 0 c).arrAt 12 cfg0.N = (cache0G m c : S32x512x128.Idx → Elt Ideal .f32) := by
  refine (dats m 0 c).arrAt_eq_of_covers 12 _ (by decide +kernel) fun t hf y => ?_
  blk_simp
  rw [after0_12]
  obtain ⟨q, d, rfl⟩ : ∃ (q : Fin 512) (d : Fin 128), y = ix3 0 q d := ⟨y 1, y 2, by
    rw [show (0 : Fin 1) = y 0 from Subsingleton.elim _ _]; exact eq_ix3 y⟩
  refine (cache0_point m c t q d).trans ?_
  unfold cache0G
  have e0 : ((((cfg0.win 12).blk t).view.emb (ix3 0 q d)) 0 : ℕ) = t.val := by blk_simp [idx_keep t]; rfl
  have e1 : ((((cfg0.win 12).blk t).view.emb (ix3 0 q d)) 1 : ℕ) = q.val := by blk_simp [idx_keep t]
  have e2 : ((((cfg0.win 12).blk t).view.emb (ix3 0 q d)) 2 : ℕ) = d.val := by blk_simp [idx_keep t]
  congr 1 <;> (apply Fin.ext; simp only [e0, e1, e2])

/-- The two stores of a cache of 512 positions. -/
theorem cache1_stores (x : Vec Ideal S1x2048x128 .f32) (x9 : Vec Ideal S1x3x4x128 .f32) (q : Fin 2048) (d : Fin 128) :
    View.canon (s := S1x2048x128) (e := .f32) [⟨Rect.unit ![0, 2044, 0] ![1, 4, 128] inb_S1x2048x128_S1x4x128_0_2044_0, k0_pay49 (View.ld x9 (Rect.unit ![0, 1, 0, 0] ![1, 1, 4, 128] inb_S1x3x4x128_S1x1x4x128_0_1_0_0))⟩,
      ⟨Rect.unit ![0, 0, 0] ![1, 2044, 128] inb_S1x2048x128_S1x2044x128_0_0_0, k0_pay48 (View.ld x (Rect.unit ![0, 4, 0] ![1, 2044, 128] inb_S1x2048x128_S1x2044x128_0_4_0))⟩] (ix3 0 q d)
      = if h : q.val + 4 < 2048 then x (ix3 0 ⟨q.val + 4, h⟩ d) else x9 (ix4 0 1 ⟨(q.val + 4 - 2048) % 4, by omega⟩ d) := by
  let G : Vec Ideal S1x2048x128 .f32 := fun y =>
    if h : (y 1).val + 4 < 2048 then x (ix3 0 ⟨(y 1).val + 4, h⟩ (y 2)) else x9 (ix4 0 1 ⟨((y 1).val + 4 - 2048) % 4, by omega⟩ (y 2))
  have hL : View.PiecesOf (G : S1x2048x128.Idx → Elt Ideal .f32) [⟨Rect.unit ![0, 2044, 0] ![1, 4, 128] inb_S1x2048x128_S1x4x128_0_2044_0, k0_pay49 (View.ld x9 (Rect.unit ![0, 1, 0, 0] ![1, 1, 4, 128] inb_S1x3x4x128_S1x1x4x128_0_1_0_0))⟩,
      ⟨Rect.unit ![0, 0, 0] ![1, 2044, 128] inb_S1x2048x128_S1x2044x128_0_0_0, k0_pay48 (View.ld x (Rect.unit ![0, 4, 0] ![1, 2044, 128] inb_S1x2048x128_S1x2044x128_0_4_0))⟩] := by
    refine ⟨fun z => ?_, fun z => ?_, trivial⟩
    · obtain ⟨i, d, rfl⟩ : ∃ (i : Fin 4) (d : Fin 128), z = ix3 0 i d := ⟨z 1, z 2, by
        rw [show (0 : Fin 1) = z 0 from Subsingleton.elim _ _]; exact eq_ix3 z⟩
      have hi := i.isLt
      have e : k0_pay49 (View.ld x9 (Rect.unit ![0, 1, 0, 0] ![1, 1, 4, 128] inb_S1x3x4x128_S1x1x4x128_0_1_0_0)) (ix3 0 i d) = x9 (ix4 0 1 i d) := by pointwise [k0_pay49]
      refine e.trans (Eq.trans ?_ (dif_neg (by show ¬2044 + 1 * i.val + 4 < 2048; omega)).symm)
      exact congrArg₂ (fun i d => x9 (ix4 0 1 i d)) (Fin.ext (by show i.val = (2044 + 1 * i.val + 4 - 2048) % 4; omega))
        (Fin.ext (by show d.val = 0 + 1 * d.val; omega))
    · obtain ⟨i, d, rfl⟩ : ∃ (i : Fin 2044) (d : Fin 128), z = ix3 0 i d := ⟨z 1, z 2, by
        rw [show (0 : Fin 1) = z 0 from Subsingleton.elim _ _]; exact eq_ix3 z⟩
      have hi := i.isLt
      have e : k0_pay48 (View.ld x (Rect.unit ![0, 4, 0] ![1, 2044, 128] inb_S1x2048x128_S1x2044x128_0_4_0)) (ix3 0 i d) = x (ix3 0 ⟨4 + i.val, by omega⟩ d) := by pointwise [k0_pay48]
      refine e.trans (Eq.trans ?_ (dif_pos (by show 0 + 1 * i.val + 4 < 2048; omega)).symm)
      exact congrArg₂ (fun i d => x (ix3 0 i d)) (Fin.ext (by show 4 + i.val = 0 + 1 * i.val + 4; omega))
        (Fin.ext (by show d.val = 0 + 1 * d.val; omega))
  refine (congrArg (fun L => View.canon L _) (List.append_nil _)).symm.trans
    (View.canon_append_of_piecesOf (G : S1x2048x128.Idx → Elt Ideal .f32) [] _ hL (ix3 0 q d) ?_)
  · have hq := q.isLt
    have hd := d.isLt
    by_cases h : q.val < 2044
    · refine ⟨_, List.mem_cons_of_mem _ List.mem_cons_self, ?_⟩
      rw [Rect.mem_set_unit]
      intro a
      match a with
      | ⟨0, _⟩ => exact ⟨Nat.le_refl 0, Nat.zero_lt_one⟩
      | ⟨1, _⟩ => exact ⟨Nat.zero_le _, by show q.val < 0 + 2044; omega⟩
      | ⟨2, _⟩ => exact ⟨Nat.zero_le _, by show d.val < 0 + 128; omega⟩
    · refine ⟨_, List.mem_cons_self, ?_⟩
      rw [Rect.mem_set_unit]
      intro a
      match a with
      | ⟨0, _⟩ => exact ⟨Nat.le_refl 0, Nat.zero_lt_one⟩
      | ⟨1, _⟩ => exact ⟨by show 2044 ≤ q.val; omega, by show q.val < 2044 + 4; omega⟩
      | ⟨2, _⟩ => exact ⟨Nat.zero_le _, by show d.val < 0 + 128; omega⟩

/-- The cache of 512 positions in the argument. -/
def cache1Of (c : Dev nD) (b : Fin 32) (p : Fin 512) (s h : Fin 2) (d : Fin 128) : EReal := m ((c : Thread nD τ).loc main_arg7) (ix5 b p s h d)

/-- What a point leaves of the cache of 512 positions. -/
theorem cache1_point (c : Dev nD) (t : Fin cfg0.N) (q : Fin 2048) (d : Fin 128) :
    (outsAt0 m c t.val t.isLt).2.2.2.1 (ix3 0 q d)
      = shiftAt (cache1Of m c) (keyOf m c 1) (valOf m c 1) ⟨t.val, point_lt t⟩ ⟨q.val / 4, by omega⟩ ⟨q.val / 2 % 2, by omega⟩ ⟨q.val % 2, by omega⟩ d := by
  have hq := q.isLt
  refine Eq.trans ?_ (((cache1_stores (iblk m c 7 t) (iblk m c 9 t) q d)).trans
    (shift_rows (cache1Of m c) (keyOf m c 1) (valOf m c 1) ⟨t.val, point_lt t⟩ (n := 512) q d (fun h => iblk m c 7 t (ix3 0 ⟨q.val + 4, h⟩ d)) _
      (fun h => cache1_at m c t ⟨q.val + 4, h⟩ d) (fun h => (new_at m c t 1 ⟨(q.val + 4 - 2048) % 4, by omega⟩ d).trans ?_)))
  · by_cases h : t.val % 16 = 0
    · rw [outsAt0_A m c t h]
      dsimp only
      frame_open
      frame_out
    · rw [outsAt0_B m c t h]
      dsimp only
      generalize (outsAt0 m c (t.val - 1) (Nat.lt_of_le_of_lt (Nat.sub_le _ _) t.isLt)).2.2.2.2.2.2 = tl
      frame_open
      frame_out
  · have e4 : (q.val + 4 - 2048) % 4 = q.val + 4 - 2048 := by omega
    simp only [e4]
    rfl

/-- What the cache of 512 positions holds after the run. -/
def cache1G (c : Dev nD) (y : S32x2048x128.Idx) : EReal :=
  shiftAt (cache1Of m c) (keyOf m c 1) (valOf m c 1) (y 0) ⟨(y 1).val / 4, by have : (y 1).val < 2048 := (y 1).isLt; omega⟩
    ⟨(y 1).val / 2 % 2, by omega⟩ ⟨(y 1).val % 2, by omega⟩ (y 2)

theorem cache1_array (c : Dev nD) : (dats m 0 c).arrAt 13 cfg0.N = (cache1G m c : S32x2048x128.Idx → Elt Ideal .f32) := by
  refine (dats m 0 c).arrAt_eq_of_covers 13 _ (by decide +kernel) fun t hf y => ?_
  blk_simp
  rw [after0_13]
  obtain ⟨q, d, rfl⟩ : ∃ (q : Fin 2048) (d : Fin 128), y = ix3 0 q d := ⟨y 1, y 2, by
    rw [show (0 : Fin 1) = y 0 from Subsingleton.elim _ _]; exact eq_ix3 y⟩
  refine (cache1_point m c t q d).trans ?_
  unfold cache1G
  have e0 : ((((cfg0.win 13).blk t).view.emb (ix3 0 q d)) 0 : ℕ) = t.val := by blk_simp [idx_keep t]; rfl
  have e1 : ((((cfg0.win 13).blk t).view.emb (ix3 0 q d)) 1 : ℕ) = q.val := by blk_simp [idx_keep t]
  have e2 : ((((cfg0.win 13).blk t).view.emb (ix3 0 q d)) 2 : ℕ) = d.val := by blk_simp [idx_keep t]
  congr 1 <;> (apply Fin.ext; simp only [e0, e1, e2])

/-- The two stores of a cache of 2048 positions. -/
theorem cache2_stores (x : Vec Ideal S1x8192x128 .f32) (x9 : Vec Ideal S1x3x4x128 .f32) (q : Fin 8192) (d : Fin 128) :
    View.canon (s := S1x8192x128) (e := .f32) [⟨Rect.unit ![0, 8188, 0] ![1, 4, 128] inb_S1x8192x128_S1x4x128_0_8188_0, k0_pay56 (k0_pay55 (View.ld x9 (Rect.unit ![0, 2, 0, 0] ![1, 1, 4, 128] inb_S1x3x4x128_S1x1x4x128_0_2_0_0)))⟩,
      ⟨Rect.unit ![0, 0, 0] ![1, 8188, 128] inb_S1x8192x128_S1x8188x128_0_0_0, k0_pay54 (View.ld x (Rect.unit ![0, 4, 0] ![1, 8188, 128] inb_S1x8192x128_S1x8188x128_0_4_0))⟩] (ix3 0 q d)
      = if h : q.val + 4 < 8192 then x (ix3 0 ⟨q.val + 4, h⟩ d) else x9 (ix4 0 2 ⟨(q.val + 4 - 8192) % 4, by omega⟩ d) := by
  let G : Vec Ideal S1x8192x128 .f32 := fun y =>
    if h : (y 1).val + 4 < 8192 then x (ix3 0 ⟨(y 1).val + 4, h⟩ (y 2)) else x9 (ix4 0 2 ⟨((y 1).val + 4 - 8192) % 4, by omega⟩ (y 2))
  have hL : View.PiecesOf (G : S1x8192x128.Idx → Elt Ideal .f32) [⟨Rect.unit ![0, 8188, 0] ![1, 4, 128] inb_S1x8192x128_S1x4x128_0_8188_0, k0_pay56 (k0_pay55 (View.ld x9 (Rect.unit ![0, 2, 0, 0] ![1, 1, 4, 128] inb_S1x3x4x128_S1x1x4x128_0_2_0_0)))⟩,
      ⟨Rect.unit ![0, 0, 0] ![1, 8188, 128] inb_S1x8192x128_S1x8188x128_0_0_0, k0_pay54 (View.ld x (Rect.unit ![0, 4, 0] ![1, 8188, 128] inb_S1x8192x128_S1x8188x128_0_4_0))⟩] := by
    refine ⟨fun z => ?_, fun z => ?_, trivial⟩
    · obtain ⟨i, d, rfl⟩ : ∃ (i : Fin 4) (d : Fin 128), z = ix3 0 i d := ⟨z 1, z 2, by
        rw [show (0 : Fin 1) = z 0 from Subsingleton.elim _ _]; exact eq_ix3 z⟩
      have hi := i.isLt
      have e : k0_pay56 (k0_pay55 (View.ld x9 (Rect.unit ![0, 2, 0, 0] ![1, 1, 4, 128] inb_S1x3x4x128_S1x1x4x128_0_2_0_0))) (ix3 0 i d) = x9 (ix4 0 2 i d) := by pointwise [k0_pay55, k0_pay56]
      refine e.trans (Eq.trans ?_ (dif_neg (by show ¬8188 + 1 * i.val + 4 < 8192; omega)).symm)
      exact congrArg₂ (fun i d => x9 (ix4 0 2 i d)) (Fin.ext (by show i.val = (8188 + 1 * i.val + 4 - 8192) % 4; omega))
        (Fin.ext (by show d.val = 0 + 1 * d.val; omega))
    · obtain ⟨i, d, rfl⟩ : ∃ (i : Fin 8188) (d : Fin 128), z = ix3 0 i d := ⟨z 1, z 2, by
        rw [show (0 : Fin 1) = z 0 from Subsingleton.elim _ _]; exact eq_ix3 z⟩
      have hi := i.isLt
      have e : k0_pay54 (View.ld x (Rect.unit ![0, 4, 0] ![1, 8188, 128] inb_S1x8192x128_S1x8188x128_0_4_0)) (ix3 0 i d) = x (ix3 0 ⟨4 + i.val, by omega⟩ d) := by pointwise [k0_pay54]
      refine e.trans (Eq.trans ?_ (dif_pos (by show 0 + 1 * i.val + 4 < 8192; omega)).symm)
      exact congrArg₂ (fun i d => x (ix3 0 i d)) (Fin.ext (by show 4 + i.val = 0 + 1 * i.val + 4; omega))
        (Fin.ext (by show d.val = 0 + 1 * d.val; omega))
  refine (congrArg (fun L => View.canon L _) (List.append_nil _)).symm.trans
    (View.canon_append_of_piecesOf (G : S1x8192x128.Idx → Elt Ideal .f32) [] _ hL (ix3 0 q d) ?_)
  · have hq := q.isLt
    have hd := d.isLt
    by_cases h : q.val < 8188
    · refine ⟨_, List.mem_cons_of_mem _ List.mem_cons_self, ?_⟩
      rw [Rect.mem_set_unit]
      intro a
      match a with
      | ⟨0, _⟩ => exact ⟨Nat.le_refl 0, Nat.zero_lt_one⟩
      | ⟨1, _⟩ => exact ⟨Nat.zero_le _, by show q.val < 0 + 8188; omega⟩
      | ⟨2, _⟩ => exact ⟨Nat.zero_le _, by show d.val < 0 + 128; omega⟩
    · refine ⟨_, List.mem_cons_self, ?_⟩
      rw [Rect.mem_set_unit]
      intro a
      match a with
      | ⟨0, _⟩ => exact ⟨Nat.le_refl 0, Nat.zero_lt_one⟩
      | ⟨1, _⟩ => exact ⟨by show 8188 ≤ q.val; omega, by show q.val < 8188 + 4; omega⟩
      | ⟨2, _⟩ => exact ⟨Nat.zero_le _, by show d.val < 0 + 128; omega⟩

/-- The cache of 2048 positions in the argument. -/
def cache2Of (c : Dev nD) (b : Fin 32) (p : Fin 2048) (s h : Fin 2) (d : Fin 128) : EReal := m ((c : Thread nD τ).loc main_arg8) (ix5 b p s h d)

/-- What a point leaves of the cache of 2048 positions. -/
theorem cache2_point (c : Dev nD) (t : Fin cfg0.N) (q : Fin 8192) (d : Fin 128) :
    (outsAt0 m c t.val t.isLt).2.2.2.2.1 (ix3 0 q d)
      = shiftAt (cache2Of m c) (keyOf m c 2) (valOf m c 2) ⟨t.val, point_lt t⟩ ⟨q.val / 4, by omega⟩ ⟨q.val / 2 % 2, by omega⟩ ⟨q.val % 2, by omega⟩ d := by
  have hq := q.isLt
  refine Eq.trans ?_ (((cache2_stores (iblk m c 8 t) (iblk m c 9 t) q d)).trans
    (shift_rows (cache2Of m c) (keyOf m c 2) (valOf m c 2) ⟨t.val, point_lt t⟩ (n := 2048) q d (fun h => iblk m c 8 t (ix3 0 ⟨q.val + 4, h⟩ d)) _
      (fun h => cache2_at m c t ⟨q.val + 4, h⟩ d) (fun h => (new_at m c t 2 ⟨(q.val + 4 - 8192) % 4, by omega⟩ d).trans ?_)))
  · by_cases h : t.val % 16 = 0
    · rw [outsAt0_A m c t h]
      dsimp only
      frame_open
      frame_out
    · rw [outsAt0_B m c t h]
      dsimp only
      generalize (outsAt0 m c (t.val - 1) (Nat.lt_of_le_of_lt (Nat.sub_le _ _) t.isLt)).2.2.2.2.2.2 = tl
      frame_open
      frame_out
  · have e4 : (q.val + 4 - 8192) % 4 = q.val + 4 - 8192 := by omega
    simp only [e4]
    rfl

/-- What the cache of 2048 positions holds after the run. -/
def cache2G (c : Dev nD) (y : S32x8192x128.Idx) : EReal :=
  shiftAt (cache2Of m c) (keyOf m c 2) (valOf m c 2) (y 0) ⟨(y 1).val / 4, by have : (y 1).val < 8192 := (y 1).isLt; omega⟩
    ⟨(y 1).val / 2 % 2, by omega⟩ ⟨(y 1).val % 2, by omega⟩ (y 2)

theorem cache2_array (c : Dev nD) : (dats m 0 c).arrAt 14 cfg0.N = (cache2G m c : S32x8192x128.Idx → Elt Ideal .f32) := by
  refine (dats m 0 c).arrAt_eq_of_covers 14 _ (by decide +kernel) fun t hf y => ?_
  blk_simp
  rw [after0_14]
  obtain ⟨q, d, rfl⟩ : ∃ (q : Fin 8192) (d : Fin 128), y = ix3 0 q d := ⟨y 1, y 2, by
    rw [show (0 : Fin 1) = y 0 from Subsingleton.elim _ _]; exact eq_ix3 y⟩
  refine (cache2_point m c t q d).trans ?_
  unfold cache2G
  have e0 : ((((cfg0.win 14).blk t).view.emb (ix3 0 q d)) 0 : ℕ) = t.val := by blk_simp [idx_keep t]; rfl
  have e1 : ((((cfg0.win 14).blk t).view.emb (ix3 0 q d)) 1 : ℕ) = q.val := by blk_simp [idx_keep t]
  have e2 : ((((cfg0.win 14).blk t).view.emb (ix3 0 q d)) 2 : ℕ) = d.val := by blk_simp [idx_keep t]
  congr 1 <;> (apply Fin.ext; simp only [e0, e1, e2])

end Cert.KernelIdeal.Conv

end
-- ==== Proof.ConvRun.lean ====
/-
  A whole run of the convolution kernel: the five arrays that it leaves, its arguments unchanged.
-/
module

public import proofs.«01_k».proof.Proof.ConvArray
public import proofs.«01_k».proof.Proof.ConvCache

@[expose] public section

set_option maxRecDepth 16384

noncomputable section

namespace Cert.KernelIdeal.Conv

open Idealize.ShloMosaic Idealize.ShloMosaic.TcCoe Idealize.SL.Sem Cert.KernelIdeal Cert.KernelIdeal.Gen Cert.ConvLayer

variable (m : (ℓ : Loc nD τ sig) → Buf (Elt Ideal) ℓ)

theorem conv_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13_0) = (outG m c : S2x8192x1024.Idx → Elt Ideal .f32)
      ∧ r.2.mem ((c.tc : Thread nD τ).loc main_v13_1) = (stateG m c : S2x2x1024.Idx → Elt Ideal .f32)
      ∧ r.2.mem ((c.tc : Thread nD τ).loc main_v13_2) = (cache0G m c : S32x512x128.Idx → Elt Ideal .f32)
      ∧ r.2.mem ((c.tc : Thread nD τ).loc main_v13_3) = (cache1G m c : S32x2048x128.Idx → Elt Ideal .f32)
      ∧ r.2.mem ((c.tc : Thread nD τ).loc main_v13_4) = (cache2G m c : S32x8192x128.Idx → Elt Ideal .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨((h c).1 10).trans (out_array m c), ((h c).1 11).trans (state_array m c), ((h c).1 12).trans (cache0_array m c),
      ((h c).1 13).trans (cache1_array m c), ((h c).1 14).trans (cache2_array m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.Conv

end
-- ==== Proof.ConvRef.lean ====
/-
  The reference's layer, operation by operation, is the layer over each sequence; its caches are the caches moved on by
  one position.
-/
module

public import proofs.«01_k».proof.Proof.ConvSeq
public import proofs.«01_k».proof.Proof.Gen.ReferenceIdeal.Read

@[expose] public section

set_option maxRecDepth 16384

noncomputable section

namespace Cert.ReferenceIdeal.Conv

open Idealize.ShloMosaic Cert.ReferenceIdeal Cert.ReferenceIdeal.Gen Cert.ReferenceIdeal.Read Cert.ConvLayer

variable (x0 : Vec Ideal S2x8192x1024 .f32) (x1 : Vec Ideal S1024 .f32) (x2 : Vec Ideal S1024x4096 .f32) (x3 : Vec Ideal S3x1024 .f32)
  (x4 : Vec Ideal S1024x1024 .f32) (x5 : Vec Ideal S1024 .f32)

/-- Sequence `b`. -/
abbrev sq (b : Fin 2) (i : Fin 8192) : Row := fun k => x0 (ix3 b i k)
abbrev gn : Row := fun k => x1 (ix1 k)
abbrev wn (k : Fin 1024) (n : Fin 4096) : EReal := x2 (ix2 k n)

theorem norm_at (b : Fin 2) (i : Fin 8192) (k : Fin 1024) :
    val_main_v12 (F := Ideal) x0 x1 (ix3 b i k) = rms (sq x0 b i) (gn x1) k := by
  pointwise [val_main_v0, val_main_cst, val_main_v1, val_main_v2, val_main_cst_0, val_main_v3, val_main_v4, val_main_cst_1, val_main_v5, val_main_v6,
    val_main_v7, val_main_v8, val_main_v9, val_main_v10, val_main_v11, val_main_v12]
  rfl

theorem proj_at (b : Fin 2) (i : Fin 8192) (n : Fin 4096) :
    val_main_v13 (F := Ideal) x0 x1 x2 (ix3 b i n) = proj (rms (sq x0 b i) (gn x1)) (wn x2) n := by
  pointwise [val_main_v13]
  simp only [norm_at]
  rfl

theorem u_at (b : Fin 2) (i : Fin 8192) (c : Fin 1024) :
    val_main_v18 (F := Ideal) x0 x1 x2 (ix3 b i c) = uAt (sq x0 b i) (gn x1) (wn x2) c := by
  pointwise [val_main_v15, val_main_v16, val_main_v18]
  simp only [proj_at]
  rfl

theorem ext_at (b : Fin 2) (q : Fin 8194) (c : Fin 1024) :
    val_main_v20 (F := Ideal) x0 x1 x2 (ix3 b q c)
      = if h : q.val < 2 then 0 else uAt (sq x0 b ⟨q.val - 2, by omega⟩) (gn x1) (wn x2) c := by
  pointwise [val_main_v20, val_main_v19, val_main_cst_2]
  simp only [u_at]

theorem mix_at (b : Fin 2) (i : Fin 8192) (c : Fin 1024) :
    val_main_v49 (F := Ideal) x0 x1 x2 x3 (ix3 b i c) = mixSeq (sq x0 b) (gn x1) (wn x2) (fun r k => x3 (ix2 r k)) i c := by
  pointwise [val_main_v14, val_main_v17, val_main_v21, val_main_v22, val_main_v23, val_main_v24, val_main_v25, val_main_v26, val_main_v27, val_main_v28,
    val_main_v29, val_main_v30, val_main_v31, val_main_v32, val_main_v33, val_main_v34, val_main_v35, val_main_v36, val_main_v37, val_main_v38,
    val_main_v39, val_main_v40, val_main_v41, val_main_v42, val_main_v43, val_main_cst_3, val_main_v44, val_main_v45, val_main_cst_4, val_main_v46,
    val_main_v47, val_main_v48, val_main_v49]
  simp only [proj_at, ext_at]
  have p0 : part 0 c = ⟨c.val, by omega⟩ := Fin.ext (by show 1024 * 0 + c.val = c.val; omega)
  have e0 : (if h : 2 + i.val < 2 then (0 : EReal) else uAt (sq x0 b ⟨2 + i.val - 2, by omega⟩) (gn x1) (wn x2) c) = uAt (sq x0 b i) (gn x1) (wn x2) c :=
    (dif_neg (by omega)).trans (congrArg (fun i => uAt (sq x0 b i) (gn x1) (wn x2) c) (Fin.ext (by show 2 + i.val - 2 = i.val; omega)))
  have e1 : (if h : 1 + i.val < 2 then (0 : EReal) else uAt (sq x0 b ⟨1 + i.val - 2, by omega⟩) (gn x1) (wn x2) c)
      = back1 (fun i => uAt (sq x0 b i) (gn x1) (wn x2) c) 0 i := by
    unfold back1
    by_cases h : i.val = 0
    · rw [dif_pos (by omega), if_pos h]
    · rw [dif_neg (by omega), if_neg h]
      exact congrArg (fun i => uAt (sq x0 b i) (gn x1) (wn x2) c) (Fin.ext (by show 1 + i.val - 2 = i.val - 1; omega))
  have e2 : (if h : i.val < 2 then (0 : EReal) else uAt (sq x0 b ⟨i.val - 2, by omega⟩) (gn x1) (wn x2) c)
      = back2 (fun i => uAt (sq x0 b i) (gn x1) (wn x2) c) 0 0 i := by
    unfold back2
    by_cases h : i.val = 0
    · rw [dif_pos (by omega), if_pos h]
    · by_cases h1 : i.val = 1
      · rw [dif_pos (by omega), if_neg h, if_pos h1]
      · rw [dif_neg (by omega), if_neg h, if_neg h1]
  rw [e0, e1, e2]
  unfold mixSeq mixAt mix Ideal.logistic
  rw [p0]
  rfl

theorem layer_at (b : Fin 2) (i : Fin 8192) (n : Fin 1024) :
    val_main_v64 (F := Ideal) x0 x1 x2 x3 x4 x5 (ix3 b i n)
      = layerSeq (sq x0 b) (gn x1) (wn x2) (fun r k => x3 (ix2 r k)) (fun k n => x4 (ix2 k n)) (gn x5) i n := by
  have hdot : ∀ n, val_main_v50 (F := Ideal) x0 x1 x2 x3 x4 (ix3 b i n)
      = ∑ c, mixSeq (sq x0 b) (gn x1) (wn x2) (fun r k => x3 (ix2 r k)) i c * x4 (ix2 c n) := fun n => by
    pointwise [val_main_v50]
    simp only [mix_at]
  pointwise [val_main_v51, val_main_cst_5, val_main_v52, val_main_v53, val_main_cst_6, val_main_v54, val_main_v55, val_main_cst_7, val_main_v56,
    val_main_v57, val_main_v58, val_main_v59, val_main_v60, val_main_v61, val_main_v62, val_main_v63, val_main_v64]
  simp only [hdot]
  rfl

theorem state_at (b : Fin 2) (r : Fin 2) (c : Fin 1024) :
    val_main_v65 (F := Ideal) x0 x1 x2 (ix3 b r c) = uAt (sq x0 b ⟨8190 + r.val, by omega⟩) (gn x1) (wn x2) c := by
  pointwise [val_main_v65]
  rw [ext_at, dif_neg (by show ¬8192 + r.val < 2; omega)]
  exact congrArg (fun i => uAt (sq x0 b i) (gn x1) (wn x2) c) (Fin.ext (by show 8192 + r.val - 2 = 8190 + r.val; omega))

end Cert.ReferenceIdeal.Conv

end
-- ==== Proof.ConvCacheRef.lean ====
/-
  The reference's three caches: each concatenates the new key and value behind the cache, drops the first position, and
  lays a position's keys and values out as four rows.
-/
module

public import proofs.«01_k».proof.Proof.ConvSeq
public import proofs.«01_k».proof.Proof.Gen.ReferenceIdeal.Read

@[expose] public section

set_option maxRecDepth 16384

noncomputable section

namespace Cert.ReferenceIdeal.Conv

open Idealize.ShloMosaic Cert.ReferenceIdeal Cert.ReferenceIdeal.Gen Cert.ReferenceIdeal.Read Cert.ConvLayer

theorem cache0_at (x6 : Vec Ideal S32x128x2x2x128 .f32) (x9 x10 : Vec Ideal S32x1x3x2x128 .f32) (b : Fin 32) (q : Fin 512) (d : Fin 128) :
    val_main_v80 (F := Ideal) x6 x9 x10 (ix3 b q d)
      = shiftAt (fun b p s h d => x6 (ix5 b p s h d)) (fun b h d => x9 (ix5 b 0 0 h d)) (fun b h d => x10 (ix5 b 0 0 h d))
          b (⟨q.val / 4, by omega⟩ : Fin 128) ⟨q.val / 2 % 2, by omega⟩ ⟨q.val % 2, by omega⟩ d := by
  pointwise [val_main_v66, val_main_v67, val_main_v68, val_main_v69, val_main_v70, val_main_v71, val_main_v72, val_main_v73, val_main_v74, val_main_v75, val_main_v76, val_main_v77, val_main_v78, val_main_v79, val_main_v80]
  exact shift_read (fun b p s h d => x6 (ix5 b p s h d)) (fun b h d => x9 (ix5 b 0 0 h d)) (fun b h d => x10 (ix5 b 0 0 h d))
    b (⟨q.val / 4, by omega⟩ : Fin 128) ⟨q.val / 2 % 2, by omega⟩ ⟨q.val % 2, by omega⟩ d

theorem cache1_at (x6 : Vec Ideal S32x512x2x2x128 .f32) (x9 x10 : Vec Ideal S32x1x3x2x128 .f32) (b : Fin 32) (q : Fin 2048) (d : Fin 128) :
    val_main_v95 (F := Ideal) x6 x9 x10 (ix3 b q d)
      = shiftAt (fun b p s h d => x6 (ix5 b p s h d)) (fun b h d => x9 (ix5 b 0 1 h d)) (fun b h d => x10 (ix5 b 0 1 h d))
          b (⟨q.val / 4, by omega⟩ : Fin 512) ⟨q.val / 2 % 2, by omega⟩ ⟨q.val % 2, by omega⟩ d := by
  pointwise [val_main_v81, val_main_v82, val_main_v83, val_main_v84, val_main_v85, val_main_v86, val_main_v87, val_main_v88, val_main_v89, val_main_v90, val_main_v91, val_main_v92, val_main_v93, val_main_v94, val_main_v95]
  exact shift_read (fun b p s h d => x6 (ix5 b p s h d)) (fun b h d => x9 (ix5 b 0 1 h d)) (fun b h d => x10 (ix5 b 0 1 h d))
    b (⟨q.val / 4, by omega⟩ : Fin 512) ⟨q.val / 2 % 2, by omega⟩ ⟨q.val % 2, by omega⟩ d

theorem cache2_at (x6 : Vec Ideal S32x2048x2x2x128 .f32) (x9 x10 : Vec Ideal S32x1x3x2x128 .f32) (b : Fin 32) (q : Fin 8192) (d : Fin 128) :
    val_main_v110 (F := Ideal) x6 x9 x10 (ix3 b q d)
      = shiftAt (fun b p s h d => x6 (ix5 b p s h d)) (fun b h d => x9 (ix5 b 0 2 h d)) (fun b h d => x10 (ix5 b 0 2 h d))
          b (⟨q.val / 4, by omega⟩ : Fin 2048) ⟨q.val / 2 % 2, by omega⟩ ⟨q.val % 2, by omega⟩ d := by
  pointwise [val_main_v96, val_main_v97, val_main_v98, val_main_v99, val_main_v100, val_main_v101, val_main_v102, val_main_v103, val_main_v104, val_main_v105, val_main_v106, val_main_v107, val_main_v108, val_main_v109, val_main_v110]
  exact shift_read (fun b p s h d => x6 (ix5 b p s h d)) (fun b h d => x9 (ix5 b 0 2 h d)) (fun b h d => x10 (ix5 b 0 2 h d))
    b (⟨q.val / 4, by omega⟩ : Fin 2048) ⟨q.val / 2 % 2, by omega⟩ ⟨q.val % 2, by omega⟩ d

end Cert.ReferenceIdeal.Conv

end
-- ==== Proof.ConvClaim.lean ====
/-
  The convolution kernel and its reference leave the same five arrays.
-/
module

public import proofs.«01_k».proof.Defs
public import proofs.«01_k».proof.Proof.ConvRun
public import proofs.«01_k».proof.Proof.ConvRef
public import proofs.«01_k».proof.Proof.ConvCacheRef
public import proofs.«01_k».proof.Proof.Gen.ReferenceIdeal.Run

@[expose] public section

set_option maxRecDepth 16384

noncomputable section

namespace Cert.ConvLayer

open Idealize.ShloMosaic Idealize.SL.Sem
open Cert.KernelIdeal.Conv Cert.ReferenceIdeal.Conv Cert.ReferenceIdeal.Read

variable (m : (ℓ : Loc KernelIdeal.nD KernelIdeal.τ KernelIdeal.sig) → Buf (Elt Ideal) ℓ) (c : Dev KernelIdeal.nD)

theorem ref_out {x0 : Vec Ideal ReferenceIdeal.S2x8192x1024 .f32} {x1 : Vec Ideal ReferenceIdeal.S1024 .f32}
    {x2 : Vec Ideal ReferenceIdeal.S1024x4096 .f32} {x3 : Vec Ideal ReferenceIdeal.S3x1024 .f32}
    {x4 : Vec Ideal ReferenceIdeal.S1024x1024 .f32} {x5 : Vec Ideal ReferenceIdeal.S1024 .f32}
    (h0 : x0 = m ((c.tc : Thread KernelIdeal.nD KernelIdeal.τ).loc KernelIdeal.main_arg0))
    (h1 : x1 = m ((c.tc : Thread KernelIdeal.nD KernelIdeal.τ).loc KernelIdeal.main_arg1))
    (h2 : x2 = m ((c.tc : Thread KernelIdeal.nD KernelIdeal.τ).loc KernelIdeal.main_arg2))
    (h3 : x3 = m ((c.tc : Thread KernelIdeal.nD KernelIdeal.τ).loc KernelIdeal.main_arg3))
    (h4 : x4 = m ((c.tc : Thread KernelIdeal.nD KernelIdeal.τ).loc KernelIdeal.main_arg4))
    (h5 : x5 = m ((c.tc : Thread KernelIdeal.nD KernelIdeal.τ).loc KernelIdeal.main_arg5)) :
    val_main_v64 (F := Ideal) x0 x1 x2 x3 x4 x5 = (outG m c : KernelIdeal.S2x8192x1024.Idx → Elt Ideal .f32) := by
  subst h0 h1 h2 h3 h4 h5
  funext y
  exact (congrArg _ (eq_ix3 y)).trans (layer_at _ _ _ _ _ _ (y 0) (y 1) (y 2))

theorem ref_state {x0 : Vec Ideal ReferenceIdeal.S2x8192x1024 .f32} {x1 : Vec Ideal ReferenceIdeal.S1024 .f32}
    {x2 : Vec Ideal ReferenceIdeal.S1024x4096 .f32}
    (h0 : x0 = m ((c.tc : Thread KernelIdeal.nD KernelIdeal.τ).loc KernelIdeal.main_arg0))
    (h1 : x1 = m ((c.tc : Thread KernelIdeal.nD KernelIdeal.τ).loc KernelIdeal.main_arg1))
    (h2 : x2 = m ((c.tc : Thread KernelIdeal.nD KernelIdeal.τ).loc KernelIdeal.main_arg2)) :
    val_main_v65 (F := Ideal) x0 x1 x2 = (stateG m c : KernelIdeal.S2x2x1024.Idx → Elt Ideal .f32) := by
  subst h0 h1 h2
  funext y
  exact (congrArg _ (eq_ix3 y)).trans (state_at _ _ _ (y 0) (y 1) (y 2))

theorem ref_cache0 {x6 : Vec Ideal ReferenceIdeal.S32x128x2x2x128 .f32} {x9 x10 : Vec Ideal ReferenceIdeal.S32x1x3x2x128 .f32}
    (h6 : x6 = m ((c.tc : Thread KernelIdeal.nD KernelIdeal.τ).loc KernelIdeal.main_arg6))
    (h9 : x9 = m ((c.tc : Thread KernelIdeal.nD KernelIdeal.τ).loc KernelIdeal.main_arg9))
    (h10 : x10 = m ((c.tc : Thread KernelIdeal.nD KernelIdeal.τ).loc KernelIdeal.main_arg10)) :
    val_main_v80 (F := Ideal) x6 x9 x10 = (cache0G m c : KernelIdeal.S32x512x128.Idx → Elt Ideal .f32) := by
  subst h6 h9 h10
  funext y
  exact (congrArg _ (eq_ix3 y)).trans (cache0_at _ _ _ (y 0) (y 1) (y 2))

theorem ref_cache1 {x6 : Vec Ideal ReferenceIdeal.S32x512x2x2x128 .f32} {x9 x10 : Vec Ideal ReferenceIdeal.S32x1x3x2x128 .f32}
    (h6 : x6 = m ((c.tc : Thread KernelIdeal.nD KernelIdeal.τ).loc KernelIdeal.main_arg7))
    (h9 : x9 = m ((c.tc : Thread KernelIdeal.nD KernelIdeal.τ).loc KernelIdeal.main_arg9))
    (h10 : x10 = m ((c.tc : Thread KernelIdeal.nD KernelIdeal.τ).loc KernelIdeal.main_arg10)) :
    val_main_v95 (F := Ideal) x6 x9 x10 = (cache1G m c : KernelIdeal.S32x2048x128.Idx → Elt Ideal .f32) := by
  subst h6 h9 h10
  funext y
  exact (congrArg _ (eq_ix3 y)).trans (cache1_at _ _ _ (y 0) (y 1) (y 2))

theorem ref_cache2 {x6 : Vec Ideal ReferenceIdeal.S32x2048x2x2x128 .f32} {x9 x10 : Vec Ideal ReferenceIdeal.S32x1x3x2x128 .f32}
    (h6 : x6 = m ((c.tc : Thread KernelIdeal.nD KernelIdeal.τ).loc KernelIdeal.main_arg8))
    (h9 : x9 = m ((c.tc : Thread KernelIdeal.nD KernelIdeal.τ).loc KernelIdeal.main_arg9))
    (h10 : x10 = m ((c.tc : Thread KernelIdeal.nD KernelIdeal.τ).loc KernelIdeal.main_arg10)) :
    val_main_v110 (F := Ideal) x6 x9 x10 = (cache2G m c : KernelIdeal.S32x8192x128.Idx → Elt Ideal .f32) := by
  subst h6 h9 h10
  funext y
  exact (congrArg _ (eq_ix3 y)).trans (cache2_at _ _ _ (y 0) (y 1) (y 2))

theorem same [hKernelIdeal : Cert.KernelIdeal.Facts] [hReferenceIdeal : Cert.ReferenceIdeal.Facts] :
    Cert.algebraic_KernelIdeal_ReferenceIdeal := by
  intro m ρ m' ρ' _ hagree
  refine ⟨fun c => outG m c, fun c => stateG m c, fun c => cache0G m c, fun c => cache1G m c, fun c => cache2G m c, conv_run m ρ,
    (θ_run ReferenceIdeal.defs _ _).mono (fun r h c => ?_) (Cert.ReferenceIdeal.Value.run m' ρ')⟩
  obtain ⟨a0, a1, a2, a3, a4, a5, a6, a7, a8, a9, a10⟩ := hagree c
  obtain ⟨r0, r1, r2, r3, r4, args⟩ := h c
  exact ⟨r0.trans ((val_main_v64_eq m' c).trans (ref_out m c a0 a1 a2 a3 a4 a5)), r1.trans ((val_main_v65_eq _ _ _).trans (ref_state m c a0 a1 a2)),
    r2.trans ((val_main_v80_eq _ _ _).trans (ref_cache0 m c a6 a9 a10)), r3.trans ((val_main_v95_eq _ _ _).trans (ref_cache1 m c a7 a9 a10)),
    r4.trans ((val_main_v110_eq _ _ _).trans (ref_cache2 m c a8 a9 a10)), args⟩

theorem ref_frame [hReferenceIdeal : Cert.ReferenceIdeal.Facts] : Cert.quiescent_ReferenceIdeal := fun m ρ _ =>
  (θ_run ReferenceIdeal.defs _ _).mono (fun r h => ⟨fun c => (h c).2.2.2.2.2, sem_eq_zero_of_no_sems (by decide) r.2⟩)
    (Cert.ReferenceIdeal.Value.run m ρ)

end Cert.ConvLayer

end
-- ==== Proof.RotSpec.lean ====
/-
  Rotary embedding on extended reals, and the order of tokens. The kernel's tables come from the angles of a base position
  and a residue by the addition formulas, with a sign and the softmax scale folded in; here they are shown to be the cosine
  and sine of the token's own angle, and one product with the tables to be the usual rotation times the scale.
-/
module

public import proofs.«01_k».proof.Proof.ConvSpec

@[expose] public section

noncomputable section

namespace Cert.Queries

open Idealize.ShloMosaic Cert.ConvLayer

/-- The frequency of a pair of channels: `10000 ^ (-2 e / 128)`. -/
def freq (e : Fin 64) : EReal :=
  Ideal.pow (Ideal.ofBits .f32 0x461C4000#32)
    (Ideal.div (-FloatOps.sitofp (F := Ideal) .f32 (BitVec.ofNat 32 e.val) * Ideal.ofBits .f32 0x40000000#32) (Ideal.ofBits .f32 0x43000000#32))

/-- A count as a float. -/
def num (n : ℕ) : EReal := ((n : ℝ) : EReal)

/-- The cosine and sine of token `n`'s angle for a pair of channels. -/
def cosT (n : ℕ) (e : Fin 64) : EReal := Ideal.cos (num n * freq e)
def sinT (n : ℕ) (e : Fin 64) : EReal := Ideal.sin (num n * freq e)

/-- The scale of the scores, with the change of base of the exponential. -/
def scale : EReal := Ideal.ofBits .f32 0x3E0293EE#32

/-- The sign that the sine carries on the first and on the second half of a head. -/
def sgn (d : ℕ) : EReal := if d < 64 then Ideal.ofBits .f32 0xBF800000#32 else Ideal.ofBits .f32 0x3F800000#32

/-- The token at place `R`: blocks of 2048, by residue mod 16 in a block. -/
def tok (R : Fin 8192) : Fin 8192 := ⟨R.val / 2048 * 2048 + R.val % 128 * 16 + R.val / 128 % 16, by omega⟩

/-- The channel that a channel is rotated with: the other half of its head. -/
def mate (c : Fin 512) : Fin 512 := ⟨c.val / 128 * 128 + (c.val % 128 + 64) % 128, by omega⟩

/-- A product with two tables: the channel with one, its mate with the other. -/
def rotF (p : Fin 512 → EReal) (C S : Fin 128 → EReal) (c : Fin 512) : EReal :=
  p c * C ⟨c.val % 128, by omega⟩ + p (mate c) * S ⟨c.val % 128, by omega⟩

/-- The rotated, scaled channel `c` of four heads, at token `n`. -/
def qAt (p : Fin 512 → EReal) (n : ℕ) (c : Fin 512) : EReal :=
  (if c.val % 128 < 64 then p c * cosT n ⟨c.val % 64, by omega⟩ - p (mate c) * sinT n ⟨c.val % 64, by omega⟩
    else p c * cosT n ⟨c.val % 64, by omega⟩ + p (mate c) * sinT n ⟨c.val % 64, by omega⟩) * scale

/-- A gated row. -/
def gated (o z : Row) : Row := fun c => o c * (z c * Ideal.logistic (z c))

/-- A row after the output projection. -/
def nextRow (o z x : Row) (w : Fin 1024 → Row) (g : Row) : Row := layerAt x (gated o z) w g

/-- The column of the input projection that holds channel `c` of key-value head `kh` in group `g`. -/
def qcol (g : Fin 3) (kh : Fin 2) (c : Fin 512) : Fin 4096 := ⟨1024 * g.val + 512 * kh.val + c.val, by omega⟩

/-- The query of a row at token `n`: channel `c` of key-value head `kh` in group `g`. -/
def queryAt (x g : Row) (w : Fin 1024 → Fin 4096 → EReal) (grp : Fin 3) (kh : Fin 2) (n : ℕ) (c : Fin 512) : EReal :=
  qAt (fun c => proj (rms x g) w (qcol grp kh c)) n c

/-- The gate of a row. -/
def gateAt (x g : Row) (w : Fin 1024 → Fin 4096 → EReal) (n : Fin 1024) : EReal := proj (rms x g) w ⟨3072 + n.val, by omega⟩

theorem sitofp_num (n : ℕ) (h : n < 2 ^ 31) : FloatOps.sitofp (F := Ideal) .f32 (BitVec.ofNat 32 n) = num n := by
  have e : (BitVec.ofNat 32 n).toInt = (n : ℤ) := by
    have hn : (BitVec.ofNat 32 n).toNat = n := by rw [BitVec.toNat_ofNat]; omega
    rw [BitVec.toInt_eq_toNat_of_lt (by rw [hn]; omega), hn]
  show (((BitVec.ofNat 32 n).toInt : ℝ) : EReal) = _
  rw [e]
  simp [num]

/-- The base position of a place. -/
theorem base_num (R : Fin 8192) :
    FloatOps.sitofp (F := Ideal) .f32 (IntOp.addi (IntOp.muli (BitVec.ofNat 32 (R.val / 2048)) 2048#32) (IntOp.muli 16#32 (BitVec.ofNat 32 (R.val % 128))))
      = num (R.val / 2048 * 2048 + R.val % 128 * 16) := by
  have hR := R.isLt
  rw [← sitofp_num _ (by omega)]
  congr 1
  show BitVec.ofNat 32 (R.val / 2048) * 2048#32 + 16#32 * BitVec.ofNat 32 (R.val % 128) = _
  apply BitVec.eq_of_toNat_eq
  simp only [BitVec.toNat_add, BitVec.toNat_mul, BitVec.toNat_ofNat]
  omega

theorem bits_10000 : Ideal.ofBits .f32 0x461C4000#32 = ((10000 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_one : Ideal.ofBits .f32 0x3F800000#32 = 1 := by
  simp [Ideal.ofBits, Ideal.ieee, -EReal.coe_mul]; norm_num
theorem bits_neg_one : Ideal.ofBits .f32 0xBF800000#32 = -1 := by
  simp [Ideal.ofBits, Ideal.ieee, -EReal.coe_mul]; norm_num

theorem scale_real : ∃ s : ℝ, 0 ≤ s ∧ scale = (s : EReal) := by
  refine ⟨8557550 / 67108864, by norm_num, ?_⟩
  unfold scale
  simp [Ideal.ofBits, Ideal.ieee, -EReal.coe_mul]; norm_num

theorem freq_real (e : Fin 64) : ∃ f : ℝ, freq e = (f : EReal) := by
  refine ⟨Real.rpow 10000 (-(e.val : ℝ) * 2 * (1 / 128)), ?_⟩
  unfold freq
  rw [bits_10000, bits_2, bits_128, Ideal.div_coe (by norm_num), sitofp_num _ (by omega)]
  unfold num
  rw [← EReal.coe_neg, ← EReal.coe_mul, ← EReal.coe_mul, Ideal.pow_coe_coe]

theorem cos_sum (a b : ℕ) (e : Fin 64) : cosT a e * cosT b e - sinT a e * sinT b e = cosT (a + b) e := by
  obtain ⟨f, hf⟩ := freq_real e
  simp only [cosT, sinT, num, hf, ← EReal.coe_mul, Ideal.cos_coe, Ideal.sin_coe, ← EReal.coe_sub]
  rw [← Real.cos_add, ← add_mul, Nat.cast_add]

theorem sin_sum (a b : ℕ) (e : Fin 64) : sinT a e * cosT b e + cosT a e * sinT b e = sinT (a + b) e := by
  obtain ⟨f, hf⟩ := freq_real e
  simp only [cosT, sinT, num, hf, ← EReal.coe_mul, Ideal.cos_coe, Ideal.sin_coe, ← EReal.coe_add]
  rw [← Real.sin_add, ← add_mul, Nat.cast_add]

/-- A product with the scaled tables is the rotation times the scale. -/
theorem rot_eq (p : Fin 512 → EReal) (n : ℕ) (c : Fin 512) :
    rotF p (fun d => cosT n ⟨d.val % 64, by omega⟩ * scale) (fun d => sgn d.val * sinT n ⟨d.val % 64, by omega⟩ * scale) c = qAt p n c := by
  obtain ⟨s, hs, es⟩ := scale_real
  have h0 : (0 : EReal) ≤ scale := by rw [es]; exact_mod_cast hs
  have ht : scale ≠ ⊤ := by rw [es]; exact EReal.coe_ne_top s
  have ec : (⟨c.val % 128 % 64, by omega⟩ : Fin 64) = ⟨c.val % 64, by omega⟩ := Fin.ext (by show c.val % 128 % 64 = c.val % 64; omega)
  unfold rotF qAt sgn
  simp only [ec]
  split
  · rw [bits_neg_one, sub_eq_add_neg, EReal.right_distrib_of_nonneg_of_ne_top h0 ht, mul_assoc]
    congr 1
    · exact (mul_assoc _ _ _).symm
    · rw [EReal.neg_mul 1, one_mul, EReal.neg_mul (p (mate c) * _), mul_comm (p (mate c)) (-_),
        EReal.neg_mul (_ * scale), mul_comm (_ * scale) (p (mate c)), mul_assoc]
  · rw [bits_one, one_mul, EReal.right_distrib_of_nonneg_of_ne_top h0 ht, mul_assoc, mul_assoc]

/-- Two products that are a channel's and its mate's make the rotation. -/
theorem rot_piece (p : Fin 512 → EReal) (C S : Fin 128 → EReal) (a b : Fin 512) (d e : Fin 128) (c : Fin 512) (ha : a.val = c.val)
    (hb : b.val = c.val / 128 * 128 + (c.val % 128 + 64) % 128) (hd : d.val = c.val % 128) (he : e.val = c.val % 128) :
    p a * C d + p b * S e = rotF p C S c := by
  have h128 : c.val % 128 < 128 := Nat.mod_lt _ (by decide)
  rw [show a = c from Fin.ext ha, show b = mate c from Fin.ext hb, show d = ⟨c.val % 128, h128⟩ from Fin.ext hd,
    show e = ⟨c.val % 128, h128⟩ from Fin.ext he]
  rfl

/-- The rotation of a head as its two halves, each with the other, times the scale. -/
def headAt (P : Fin 4096 → EReal) (n : ℕ) (h : Fin 24) (d : Fin 128) : EReal :=
  (if hd : d.val < 64 then P ⟨128 * h.val + d.val, by omega⟩ * cosT n ⟨d.val, hd⟩ - P ⟨128 * h.val + (64 + d.val), by omega⟩ * sinT n ⟨d.val, hd⟩
    else P ⟨128 * h.val + (64 + (d.val - 64)), by omega⟩ * cosT n ⟨d.val - 64, by omega⟩ + P ⟨128 * h.val + (d.val - 64), by omega⟩ * sinT n ⟨d.val - 64, by omega⟩)
    * scale

/-- The heads of a group and a key-value head, laid side by side. -/
theorem head_eq (P : Fin 4096 → EReal) (n : ℕ) (g : Fin 3) (kh : Fin 2) (c : Fin 512) (h : Fin 24) (d : Fin 128)
    (hh : h.val = g.val * 8 + kh.val * 4 + c.val / 128) (hd : d.val = c.val % 128) :
    headAt P n h d = qAt (fun c => P (qcol g kh c)) n c := by
  have hc := c.isLt
  have hg := g.isLt
  have hk := kh.isLt
  have same : ∀ (k : ℕ) (hk : k < 4096) (j : Fin 4096), k = j.val → P ⟨k, hk⟩ = P j := fun k hk j e => congrArg P (Fin.ext e)
  have ang : ∀ (T : ℕ → Fin 64 → EReal) (k : ℕ) (hk : k < 64) (j : Fin 64), k = j.val → T n ⟨k, hk⟩ = T n j := fun T k hk j e => congrArg (T n) (Fin.ext e)
  unfold headAt qAt
  congr 1
  by_cases h64 : d.val < 64
  · rw [dif_pos h64, if_pos (by omega)]
    congr 1
    · exact congrArg₂ (· * ·) (same _ _ _ (by show _ = 1024 * g.val + 512 * kh.val + c.val; omega)) (ang cosT _ _ _ (by show _ = c.val % 64; omega))
    · exact congrArg₂ (· * ·) (same _ _ _ (by show _ = 1024 * g.val + 512 * kh.val + (c.val / 128 * 128 + (c.val % 128 + 64) % 128); omega))
        (ang sinT _ _ _ (by show _ = c.val % 64; omega))
  · have := d.isLt
    rw [dif_neg h64, if_neg (by omega)]
    congr 1
    · exact congrArg₂ (· * ·) (same _ _ _ (by show _ = 1024 * g.val + 512 * kh.val + c.val; omega)) (ang cosT _ _ _ (by show _ = c.val % 64; omega))
    · exact congrArg₂ (· * ·) (same _ _ _ (by show _ = 1024 * g.val + 512 * kh.val + (c.val / 128 * 128 + (c.val % 128 + 64) % 128); omega))
        (ang sinT _ _ _ (by show _ = c.val % 64; omega))

end Cert.Queries

end
-- ==== Proof.OutQBlock.lean ====
/-
  One grid point of the output projection with the next layer's queries, its arithmetic read at an index: the gated rows
  projected back and added to their rows, the normalised rows, and the rotated columns of each head.
-/
module

public import proofs.«01_k».proof.Proof.RotSpec
public import proofs.«01_k».proof.Proof.Gen.Kernel2Ideal.Frame

@[expose] public section

set_option maxRecDepth 16384

noncomputable section

namespace Cert.Kernel2Ideal.OutQ

open Idealize.ShloMosaic Cert.Kernel2Ideal Cert.Kernel2Ideal.Gen Cert.ConvLayer Cert.Queries

/-- A normalised row times a column of a chunk of the weights. -/
def prj (h : FVec Ideal S256x1024 .bf16) (w : Vec Ideal S1024x512 .bf16) (i : Fin 256) (j : Fin 512) : EReal :=
  ∑ k : Fin 1024, h (ix2 i k) * w (ix2 k j)

/-- A rotated column. -/
def rotP (h : FVec Ideal S256x1024 .bf16) (w : Vec Ideal S1024x512 .bf16) (C S : FVec Ideal S256x128 .f32) (i : Fin 256) (c : Fin 512) : EReal :=
  rotF (prj h w i) (fun d => C (ix2 i d)) (fun d => S (ix2 i d)) c

theorem next_a (o z : Vec Ideal S1x256x1024 .bf16) (x : Vec Ideal S1x256x1024 .f32) (w : Vec Ideal S1024x1024 .bf16)
    (g : Vec Ideal S1x1024 .f32) (i : Fin 256) (n : Fin 1024) :
    k0_pay8 (k0_pay3 o z w) (k0_pay5 x) (k0_pay6 g) (k0_pay7 o z w) (Scalar.ofBits .f32 0x44800000#32) (ix2 i n)
      = nextRow (fun k => o (ix3 0 i k)) (fun k => z (ix3 0 i k)) (fun k => x (ix3 0 i k)) (fun k n => w (ix2 k n)) (fun k => g (ix2 0 k)) n := by
  pointwise [k0_pay8, k0_pay3, k0_pay5, k0_pay6, k0_pay7]
  rfl

theorem next_b (o z : Vec Ideal S1x256x1024 .bf16) (x : Vec Ideal S1x256x1024 .f32) (w : Vec Ideal S1024x1024 .bf16)
    (g : Vec Ideal S1x1024 .f32) (i : Fin 256) (n : Fin 1024) :
    k0_pay41 (k0_pay4 o z w) x g (ix2 i n)
      = nextRow (fun k => o (ix3 0 i k)) (fun k => z (ix3 0 i k)) (fun k => x (ix3 0 i k)) (fun k n => w (ix2 k n)) (fun k => g (ix2 0 k)) n := by
  pointwise [k0_pay41, k0_pay4]
  rfl

theorem norm_a (v12 v27 : FVec Ideal S256x1024 .f32) (v29 : FVec Ideal S1x1024 .f32) (v32 : FVec Ideal S256x1 .f32) (cst : Ideal .f32)
    (g : Vec Ideal S1x1024 .f32) (i : Fin 256) (n : Fin 1024) :
    k0_pay10 v12 v27 v29 v32 cst g (ix2 i n) = rms (fun k => k0_pay8 v12 v27 v29 v32 cst (ix2 i k)) (fun k => g (ix2 0 k)) n := by
  unfold k0_pay10
  generalize k0_pay8 v12 v27 v29 v32 cst = y
  pointwise
  rfl

theorem norm_b (v25 : FVec Ideal S256x1024 .f32) (x : Vec Ideal S1x256x1024 .f32) (gp g : Vec Ideal S1x1024 .f32) (i : Fin 256) (n : Fin 1024) :
    k0_pay43 v25 x gp g (ix2 i n) = rms (fun k => k0_pay41 v25 x gp (ix2 i k)) (fun k => g (ix2 0 k)) n := by
  unfold k0_pay43
  generalize k0_pay41 v25 x gp = y
  pointwise
  rfl

theorem row_a (v12 v27 : FVec Ideal S256x1024 .f32) (v29 : FVec Ideal S1x1024 .f32) (v32 : FVec Ideal S256x1 .f32) (cst : Ideal .f32)
    (i : Fin 256) (n : Fin 1024) : k0_pay9 v12 v27 v29 v32 cst (ix3 0 i n) = k0_pay8 v12 v27 v29 v32 cst (ix2 i n) := by
  unfold k0_pay9
  generalize k0_pay8 v12 v27 v29 v32 cst = y
  pointwise

theorem row_b (v25 : FVec Ideal S256x1024 .f32) (x : Vec Ideal S1x256x1024 .f32) (gp : Vec Ideal S1x1024 .f32) (i : Fin 256) (n : Fin 1024) :
    k0_pay42 v25 x gp (ix3 0 i n) = k0_pay41 v25 x gp (ix2 i n) := by
  unfold k0_pay42
  generalize k0_pay41 v25 x gp = y
  pointwise

/-- The rotation's pieces agree with `rotP`, head by head: the numbers that the kernel's slices and turns read. -/
theorem rotP_piece (h : FVec Ideal S256x1024 .bf16) (w : Vec Ideal S1024x512 .bf16) (C S : FVec Ideal S256x128 .f32) (i : Fin 256) (c : Fin 512)
    (a b : Fin 512) (d e : Fin 128) (ha : a.val = c.val) (hb : b.val = c.val / 128 * 128 + (c.val % 128 + 64) % 128)
    (hd : d.val = c.val % 128) (he : e.val = c.val % 128) :
    (∑ k : Fin 1024, h (ix2 i k) * w (ix2 k a)) * C (ix2 i d) + (∑ k : Fin 1024, h (ix2 i k) * w (ix2 k b)) * S (ix2 i e) = rotP h w C S i c :=
  rot_piece (prj h w i) (fun d => C (ix2 i d)) (fun d => S (ix2 i d)) a b d e c ha hb hd he

section First

variable (v12 v27 : FVec Ideal S256x1024 .f32) (v29 : FVec Ideal S1x1024 .f32) (v32 : FVec Ideal S256x1 .f32) (cst : Ideal .f32)
  (g : Vec Ideal S1x1024 .f32) (t : Vec Ideal S256x128 .f32) (S : FVec Ideal S256x128 .f32) (w : Vec Ideal S1024x512 .bf16) (i : Fin 256) (c : Fin 512)

theorem q0_a0 : k0_pay17 (k0_pay11 t) S (k0_pay13 v12 v27 v29 v32 cst g w) (k0_pay15 v12 v27 v29 v32 cst g w) (k0_pay16 v12 v27 v29 v32 cst g t w)
    (ix4 0 0 i c) = rotP (k0_pay10 v12 v27 v29 v32 cst g) w (k0_pay11 t) S i c := by
  have hc := c.isLt
  unfold k0_pay16 k0_pay15 k0_pay13
  generalize k0_pay10 v12 v27 v29 v32 cst g = h
  generalize k0_pay11 t = C
  pointwise [k0_pay17]
  repeat' split
  all_goals refine rotP_piece h w C S i c _ _ _ _ ?_ ?_ ?_ ?_
  all_goals first | rfl | omega | (dsimp only; omega)

theorem q0_a1 (C : FVec Ideal S256x128 .f32) : k0_pay25 (k0_pay19 C S (k0_pay14 v12 v27 v29 v32 cst g w)) (k0_pay20 C S (k0_pay14 v12 v27 v29 v32 cst g w))
    (k0_pay21 C S (k0_pay14 v12 v27 v29 v32 cst g w)) (k0_pay23 C (k0_pay14 v12 v27 v29 v32 cst g w)) (k0_pay24 S (k0_pay14 v12 v27 v29 v32 cst g w))
    (ix4 0 0 i c) = rotP (k0_pay10 v12 v27 v29 v32 cst g) w C S i c := by
  have hc := c.isLt
  unfold k0_pay14
  generalize k0_pay10 v12 v27 v29 v32 cst g = h
  pointwise [k0_pay25, k0_pay19, k0_pay20, k0_pay21, k0_pay23, k0_pay24, k0_pay22]
  repeat' split
  all_goals refine rotP_piece h w C S i c _ _ _ _ ?_ ?_ ?_ ?_
  all_goals first | rfl | omega | (dsimp only; omega)

end First

variable (h : FVec Ideal S256x1024 .bf16) (C S : FVec Ideal S256x128 .f32) (w : Vec Ideal S1024x512 .bf16) (i : Fin 256) (c : Fin 512)

theorem q0_b0 : k0_pay47 h C S w (ix4 0 0 i c) = rotP h w C S i c := by
  have hc := c.isLt
  pointwise [k0_pay47]
  repeat' split
  all_goals refine rotP_piece h w C S i c _ _ _ _ ?_ ?_ ?_ ?_
  all_goals first | rfl | omega | (dsimp only; omega)

theorem q0_b1 : k0_pay53 C S (k0_pay46 h w) (k0_pay49 h C S w) (k0_pay51 h C w) (k0_pay52 h S w) (ix4 0 0 i c) = rotP h w C S i c := by
  have hc := c.isLt
  pointwise [k0_pay53, k0_pay46, k0_pay49, k0_pay50, k0_pay51, k0_pay52]
  repeat' split
  all_goals refine rotP_piece h w C S i c _ _ _ _ ?_ ?_ ?_ ?_
  all_goals first | rfl | omega | (dsimp only; omega)

theorem q1_a0 : k0_pay27 C S (k0_pay18 h w) (ix4 0 0 i c) = rotP h w C S i c := by
  have hc := c.isLt
  pointwise [k0_pay27, k0_pay18]
  repeat' split
  all_goals refine rotP_piece h w C S i c _ _ _ _ ?_ ?_ ?_ ?_
  all_goals first | rfl | omega | (dsimp only; omega)

theorem q1_a1 : k0_pay32 C S (k0_pay26 h w) (k0_pay30 h C w) (k0_pay31 h w) (ix4 0 0 i c) = rotP h w C S i c := by
  have hc := c.isLt
  pointwise [k0_pay32, k0_pay26, k0_pay29, k0_pay30, k0_pay31]
  repeat' split
  all_goals refine rotP_piece h w C S i c _ _ _ _ ?_ ?_ ?_ ?_
  all_goals first | rfl | omega | (dsimp only; omega)

theorem q1_b0 : k0_pay56 (k0_pay55 C S (k0_pay48 h w)) (ix4 0 0 i c) = rotP h w C S i c := by
  have hc := c.isLt
  pointwise [k0_pay56, k0_pay55, k0_pay48]
  repeat' split
  all_goals refine rotP_piece h w C S i c _ _ _ _ ?_ ?_ ?_ ?_
  all_goals first | rfl | omega | (dsimp only; omega)

theorem q1_b1 : k0_pay58 C S (k0_pay54 h w) (ix4 0 0 i c) = rotP h w C S i c := by
  have hc := c.isLt
  pointwise [k0_pay58, k0_pay54]
  repeat' split
  all_goals refine rotP_piece h w C S i c _ _ _ _ ?_ ?_ ?_ ?_
  all_goals first | rfl | omega | (dsimp only; omega)

theorem q2_a0 : k0_pay38 (k0_pay34 C S (k0_pay28 h w)) (k0_pay35 C S (k0_pay28 h w)) (k0_pay36 C S (k0_pay28 h w)) (k0_pay37 C S (k0_pay28 h w)) (ix4 0 0 i c) = rotP h w C S i c := by
  have hc := c.isLt
  pointwise [k0_pay38, k0_pay34, k0_pay35, k0_pay36, k0_pay37, k0_pay28]
  repeat' split
  all_goals refine rotP_piece h w C S i c _ _ _ _ ?_ ?_ ?_ ?_
  all_goals first | rfl | omega | (dsimp only; omega)

theorem q2_a1 : k0_pay39 C S (k0_pay33 h w) (ix4 0 0 i c) = rotP h w C S i c := by
  have hc := c.isLt
  pointwise [k0_pay39, k0_pay33]
  repeat' split
  all_goals refine rotP_piece h w C S i c _ _ _ _ ?_ ?_ ?_ ?_
  all_goals first | rfl | omega | (dsimp only; omega)

theorem q2_b0 : k0_pay62 C S (k0_pay57 h w) (k0_pay60 h C S w) (k0_pay61 h C S w) (ix4 0 0 i c) = rotP h w C S i c := by
  have hc := c.isLt
  pointwise [k0_pay62, k0_pay57, k0_pay60, k0_pay61]
  repeat' split
  all_goals refine rotP_piece h w C S i c _ _ _ _ ?_ ?_ ?_ ?_
  all_goals first | rfl | omega | (dsimp only; omega)

theorem q2_b1 : k0_pay1 (k0_pay64 C S (k0_pay59 h w)) (ix4 0 0 i c) = rotP h w C S i c := by
  have hc := c.isLt
  pointwise [k0_pay1, k0_pay64, k0_pay59]
  repeat' split
  all_goals refine rotP_piece h w C S i c _ _ _ _ ?_ ?_ ?_ ?_
  all_goals first | rfl | omega | (dsimp only; omega)

theorem z_a (wz : Vec Ideal S1024x1024 .bf16) (n : Fin 1024) : k0_pay40 h wz (ix3 0 i n) = ∑ k : Fin 1024, h (ix2 i k) * wz (ix2 k n) := by
  pointwise [k0_pay40]

theorem z_b (wz : Vec Ideal S1024x1024 .bf16) (n : Fin 1024) : k0_pay2 (k0_pay63 h wz) (ix3 0 i n) = ∑ k : Fin 1024, h (ix2 i k) * wz (ix2 k n) := by
  pointwise [k0_pay2, k0_pay63]

end Cert.Kernel2Ideal.OutQ

end
-- ==== Proof.OutQPoint.lean ====
/-
  What one grid point of the output projection with queries stores, as functions of the blocks it reads: the rows after the
  projection, the rotated query columns of each group and key-value head, and the gate columns.
-/
module

public import proofs.«01_k».proof.Proof.OutQBlock
public import Idealize.ShloMosaic.Lib.Pipeline.ValueKit
public import Idealize.ShloMosaic.Lib.Pipeline.ReadBack

@[expose] public section

set_option maxRecDepth 16384

noncomputable section

namespace Cert.Kernel2Ideal.OutQ

open Idealize.ShloMosaic Cert.Kernel2Ideal Cert.Kernel2Ideal.Gen Cert.ConvLayer Cert.Queries

theorem ld_rows {e : EltTy} (X : Vec Ideal S1x512x1024 e) (o : ℕ) (inb : ∀ a, (![0, o, 0] : Fin 3 → ℕ) a + S1x256x1024.size a ≤ S1x512x1024.size a)
    (i : Fin 256) (k : Fin 1024) (hi : o + i.val < 512) :
    View.ld X (Rect.unit ![0, o, 0] S1x256x1024.size inb) (ix3 0 i k) = X (ix3 0 ⟨o + i.val, hi⟩ k) := by
  refine View.ld_unit_apply_of _ _ _ _ _ _ fun a => ?_
  match a with
  | ⟨0, _⟩ => rfl
  | ⟨1, _⟩ => rfl
  | ⟨2, _⟩ => exact (Nat.zero_add _).symm

theorem ld_tab (X : Vec Ideal S512x128 .f32) (o : ℕ) (inb : ∀ a, (![o, 0] : Fin 2 → ℕ) a + S256x128.size a ≤ S512x128.size a)
    (i : Fin 256) (d : Fin 128) (hi : o + i.val < 512) :
    View.ld X (Rect.unit ![o, 0] S256x128.size inb) (ix2 i d) = X (ix2 ⟨o + i.val, hi⟩ d) := by
  refine View.ld_unit_apply_of _ _ _ _ _ _ fun a => ?_
  match a with
  | ⟨0, _⟩ => rfl
  | ⟨1, _⟩ => exact (Nat.zero_add _).symm

theorem ld_cols (X : Vec Ideal S1024x4096 .bf16) (o : ℕ) (inb : ∀ a, (![0, o] : Fin 2 → ℕ) a + S1024x512.size a ≤ S1024x4096.size a)
    (k : Fin 1024) (c : Fin 512) (hc : o + c.val < 4096) :
    View.ld X (Rect.unit ![0, o] S1024x512.size inb) (ix2 k c) = X (ix2 k ⟨o + c.val, hc⟩) := by
  refine View.ld_unit_apply_of _ _ _ _ _ _ fun a => ?_
  match a with
  | ⟨0, _⟩ => exact (Nat.zero_add _).symm
  | ⟨1, _⟩ => rfl

theorem ld_gate (X : Vec Ideal S1024x4096 .bf16) (k n : Fin 1024) :
    View.ld X r0_13 (ix2 k n) = X (ix2 k ⟨3072 + n.val, by omega⟩) := by
  refine View.ld_unit_apply_of _ _ _ _ _ _ fun a => ?_
  match a with
  | ⟨0, _⟩ => exact (Nat.zero_add _).symm
  | ⟨1, _⟩ => rfl

theorem ld_sq (X : Vec Ideal S1024x1024 .bf16) (k n : Fin 1024) : View.ld X r0_1 (ix2 k n) = X (ix2 k n) := by
  refine View.ld_unit_apply_of _ _ _ _ _ _ fun a => ?_
  match a with
  | ⟨0, _⟩ => exact (Nat.zero_add _).symm
  | ⟨1, _⟩ => exact (Nat.zero_add _).symm

theorem ld_g (X : Vec Ideal S1x1024 .f32) (n : Fin 1024) : View.ld X r0_3 (ix2 0 n) = X (ix2 0 n) := by
  refine View.ld_unit_apply_of _ _ _ _ _ _ fun a => ?_
  match a with
  | ⟨0, _⟩ => rfl
  | ⟨1, _⟩ => exact (Nat.zero_add _).symm

variable (x0 x1 : Vec Ideal S1x512x1024 .bf16) (x2 : Vec Ideal S1x512x1024 .f32) (x3 : Vec Ideal S1024x1024 .bf16) (x4 x5 : Vec Ideal S1x1024 .f32)
  (x6 : Vec Ideal S1024x4096 .bf16) (x7 x8 : Vec Ideal S512x128 .f32)

/-- A row of the block after the output projection. -/
def xrow (r : Fin 512) : Row :=
  nextRow (fun k => x0 (ix3 0 r k)) (fun k => x1 (ix3 0 r k)) (fun k => x2 (ix3 0 r k)) (fun k n => x3 (ix2 k n)) (fun k => x4 (ix2 0 k))

/-- That row, normalised. -/
def hrow (r : Fin 512) : Row := rms (xrow x0 x1 x2 x3 x4 r) (fun k => x5 (ix2 0 k))

/-- What the block of rows holds. -/
def xG (y : S1x512x1024.Idx) : EReal := xrow x0 x1 x2 x3 x4 (y 1) (y 2)

/-- A rotated query of the block. -/
def qB (g : Fin 3) (kh : Fin 2) (r c : Fin 512) : EReal :=
  rotF (fun c => proj (hrow x0 x1 x2 x3 x4 x5 r) (fun k n => x6 (ix2 k n)) (qcol g kh c)) (fun d => x7 (ix2 r d)) (fun d => x8 (ix2 r d)) c

/-- What the block of a group's queries holds. -/
def qG (g : Fin 3) (y : S1x2x512x512.Idx) : EReal := qB x0 x1 x2 x3 x4 x5 x6 x7 x8 g (y 1) (y 2) (y 3)

/-- What the block of gate columns holds. -/
def zG (y : S1x512x1024.Idx) : EReal :=
  proj (hrow x0 x1 x2 x3 x4 x5 (y 1)) (fun k n => x6 (ix2 k n)) ⟨3072 + (y 2).val, by have : (y 2).val < 1024 := (y 2).isLt; omega⟩

theorem x_a (i : Fin 256) (n : Fin 1024) :
    k0_pay8 (k0_pay65 x0 x1 x2 x3 x4 x5 x6 x7 x8) (k0_pay67 x0 x1 x2 x3 x4 x5 x6 x7 x8) (k0_pay68 x0 x1 x2 x3 x4 x5 x6 x7 x8)
      (k0_pay69 x0 x1 x2 x3 x4 x5 x6 x7 x8) (Scalar.ofBits .f32 0x44800000#32) (ix2 i n) = xrow x0 x1 x2 x3 x4 ⟨0 + i.val, by omega⟩ n := by
  unfold k0_pay65 k0_pay67 k0_pay68 k0_pay69
  refine (next_a _ _ _ _ _ i n).trans ?_
  unfold xrow
  congr 1
  · exact funext fun k => ld_rows x0 0 _ i k _
  · exact funext fun k => ld_rows x1 0 _ i k _
  · exact funext fun k => ld_rows x2 0 _ i k _
  · exact funext fun k => funext fun n => ld_sq x3 k n
  · exact funext fun k => ld_g x4 k

theorem x_b (i : Fin 256) (n : Fin 1024) :
    k0_pay41 (k0_pay66 x0 x1 x2 x3 x4 x5 x6 x7 x8) (View.ld x2 r0_2) (View.ld x4 r0_3) (ix2 i n) = xrow x0 x1 x2 x3 x4 ⟨256 + i.val, by omega⟩ n := by
  unfold k0_pay66
  refine (next_b _ _ _ _ _ i n).trans ?_
  unfold xrow
  congr 1
  · exact funext fun k => ld_rows x0 256 _ i k _
  · exact funext fun k => ld_rows x1 256 _ i k _
  · exact funext fun k => ld_rows x2 256 _ i k _
  · exact funext fun k => funext fun n => ld_sq x3 k n
  · exact funext fun k => ld_g x4 k

theorem h_a (i : Fin 256) (n : Fin 1024) :
    k0_pay70 x0 x1 x2 x3 x4 x5 x6 x7 x8 (ix2 i n) = hrow x0 x1 x2 x3 x4 x5 ⟨0 + i.val, by omega⟩ n := by
  unfold k0_pay70
  refine (norm_a _ _ _ _ _ _ i n).trans ?_
  unfold hrow
  congr 1
  · exact funext fun k => x_a x0 x1 x2 x3 x4 x5 x6 x7 x8 i k
  · exact funext fun k => ld_g x5 k

theorem h_b (i : Fin 256) (n : Fin 1024) :
    k0_pay75 x0 x1 x2 x3 x4 x5 x6 x7 x8 (ix2 i n) = hrow x0 x1 x2 x3 x4 x5 ⟨256 + i.val, by omega⟩ n := by
  unfold k0_pay75
  refine (norm_b _ _ _ _ i n).trans ?_
  unfold hrow
  congr 1
  · exact funext fun k => x_b x0 x1 x2 x3 x4 x5 x6 x7 x8 i k
  · exact funext fun k => ld_g x5 k

theorem c_a (i : Fin 256) (d : Fin 128) : k0_pay71 x0 x1 x2 x3 x4 x5 x6 x7 x8 (ix2 i d) = x7 (ix2 ⟨0 + i.val, by omega⟩ d) := by
  unfold k0_pay71
  refine Eq.trans ?_ (ld_tab x7 0 inb_S512x128_S256x128_0_0 i d _)
  generalize View.ld x7 r0_4 = y
  pointwise [k0_pay11]
theorem s_a (i : Fin 256) (d : Fin 128) : k0_pay72 x0 x1 x2 x3 x4 x5 x6 x7 x8 (ix2 i d) = x8 (ix2 ⟨0 + i.val, by omega⟩ d) := by
  unfold k0_pay72
  refine Eq.trans ?_ (ld_tab x8 0 inb_S512x128_S256x128_0_0 i d _)
  generalize View.ld x8 r0_4 = y
  pointwise [k0_pay12]
theorem c_b (i : Fin 256) (d : Fin 128) : k0_pay76 x0 x1 x2 x3 x4 x5 x6 x7 x8 (ix2 i d) = x7 (ix2 ⟨256 + i.val, by omega⟩ d) := by
  unfold k0_pay76
  refine Eq.trans ?_ (ld_tab x7 256 inb_S512x128_S256x128_256_0 i d _)
  generalize View.ld x7 r0_14 = y
  pointwise [k0_pay44]
theorem s_b (i : Fin 256) (d : Fin 128) : k0_pay77 x0 x1 x2 x3 x4 x5 x6 x7 x8 (ix2 i d) = x8 (ix2 ⟨256 + i.val, by omega⟩ d) := by
  unfold k0_pay77
  refine Eq.trans ?_ (ld_tab x8 256 inb_S512x128_S256x128_256_0 i d _)
  generalize View.ld x8 r0_14 = y
  pointwise [k0_pay45]

/-- One store of queries is a block of `qG`. -/
theorem q_piece (g : Fin 3) (kh : Fin 2) (o ow : ℕ) (ho : o + 256 ≤ 512) (ew : ow = 1024 * g.val + 512 * kh.val)
    (h : FVec Ideal S256x1024 .bf16) (C S : FVec Ideal S256x128 .f32) (w : Vec Ideal S1x1x256x512 .f32)
    (inb : ∀ a, (![0, ow] : Fin 2 → ℕ) a + S1024x512.size a ≤ S1024x4096.size a)
    (hw : ∀ i c, w (ix4 0 0 i c) = rotP h (View.ld x6 (Rect.unit ![0, ow] S1024x512.size inb)) C S i c)
    (hh : ∀ (i : Fin 256) n, h (ix2 i n) = hrow x0 x1 x2 x3 x4 x5 ⟨o + i.val, by omega⟩ n)
    (hC : ∀ (i : Fin 256) d, C (ix2 i d) = x7 (ix2 ⟨o + i.val, by omega⟩ d)) (hS : ∀ (i : Fin 256) d, S (ix2 i d) = x8 (ix2 ⟨o + i.val, by omega⟩ d))
    (inq : ∀ a, (![0, kh.val, o, 0] : Fin 4 → ℕ) a + S1x1x256x512.size a ≤ S1x2x512x512.size a) (x : S1x1x256x512.Idx) :
    w x = qG x0 x1 x2 x3 x4 x5 x6 x7 x8 g ((Rect.unit (s := S1x2x512x512) ![0, kh.val, o, 0] S1x1x256x512.size inq).emb x) := by
  obtain ⟨i, c, rfl⟩ : ∃ (i : Fin 256) (c : Fin 512), x = ix4 0 0 i c := ⟨x 2, x 3, by
    have := eq_ix4 x
    rw [show (0 : Fin 1) = x 0 from (Subsingleton.elim _ _)]
    rw [show x 1 = x 0 from (Subsingleton.elim (α := Fin 1) _ _)] at this
    exact this⟩
  have hi := i.isLt
  have hc := c.isLt
  have hg := g.isLt
  have hk := kh.isLt
  have e : ∀ c : Fin 512, prj h (View.ld x6 (Rect.unit ![0, ow] S1024x512.size inb)) i c
      = proj (hrow x0 x1 x2 x3 x4 x5 ⟨o + i.val, by omega⟩) (fun k n => x6 (ix2 k n)) (qcol g kh c) := fun c => by
    unfold prj proj
    refine Finset.sum_congr rfl fun k _ => ?_
    rw [hh i k, ld_cols x6 ow inb k c (by have := c.isLt; omega)]
    congr 3
    exact Fin.ext (by show ow + c.val = 1024 * g.val + 512 * kh.val + c.val; rw [ew])
  rw [hw i c]
  unfold rotP qG
  rw [funext e, funext (hC i), funext (hS i)]
  have e1 : ((Rect.unit (s := S1x2x512x512) ![0, kh.val, o, 0] S1x1x256x512.size inq).emb (ix4 0 0 i c)) 1 = kh :=
    Fin.ext (by show kh.val + 1 * 0 = kh.val; omega)
  have e2 : ((Rect.unit (s := S1x2x512x512) ![0, kh.val, o, 0] S1x1x256x512.size inq).emb (ix4 0 0 i c)) 2 = (⟨o + i.val, by omega⟩ : Fin 512) :=
    Fin.ext (by show o + 1 * i.val = o + i.val; omega)
  have e3 : ((Rect.unit (s := S1x2x512x512) ![0, kh.val, o, 0] S1x1x256x512.size inq).emb (ix4 0 0 i c)) 3 = c :=
    Fin.ext (by show 0 + 1 * c.val = c.val; omega)
  rw [e1, e2, e3]
  rfl

/-- One store of rows. -/
theorem row_piece (G : Fin 512 → Row) (o : ℕ) (ho : o + 256 ≤ 512) (w : Vec Ideal S1x256x1024 .f32)
    (hw : ∀ (i : Fin 256) n, w (ix3 0 i n) = G ⟨o + i.val, by omega⟩ n)
    (inb : ∀ a, (![0, o, 0] : Fin 3 → ℕ) a + S1x256x1024.size a ≤ S1x512x1024.size a) (x : S1x256x1024.Idx) :
    w x = (fun y : S1x512x1024.Idx => G (y 1) (y 2)) ((Rect.unit (s := S1x512x1024) ![0, o, 0] S1x256x1024.size inb).emb x) := by
  obtain ⟨i, n, rfl⟩ : ∃ (i : Fin 256) (n : Fin 1024), x = ix3 0 i n := ⟨x 1, x 2, by
    have := eq_ix3 x
    rw [show (0 : Fin 1) = x 0 from (Subsingleton.elim _ _)]; exact this⟩
  rw [hw i n]
  exact (congrArg₂ G (Fin.ext (by show o + 1 * i.val = o + i.val; omega)) (Fin.ext (by show 0 + 1 * n.val = n.val; omega))).symm

theorem canon_of {S : Shape} {e : EltTy} (G : S.Idx → Elt Ideal e) (L : List (View.Piece (Elt Ideal) S e)) (h : View.PiecesOf G L) (y : S.Idx)
    (hy : ∃ p ∈ L, y ∈ p.1.set) : View.canon L y = G y :=
  View.canon_eq_of_allAt L y (G y) hy fun p hp x hx => (h.mem p hp x).trans (congrArg G hx)

theorem out9 (y : S1x512x1024.Idx) : out0_9 x0 x1 x2 x3 x4 x5 x6 x7 x8 y = xG x0 x1 x2 x3 x4 y := by
  unfold out0_9
  refine canon_of (xG x0 x1 x2 x3 x4) _ ?_ y (cover0_9 _ _ y)
  refine ⟨?_, ?_, trivial⟩
  · exact row_piece (xrow x0 x1 x2 x3 x4) 256 (by decide) _ (fun i n => (row_b _ _ _ i n).trans (x_b x0 x1 x2 x3 x4 x5 x6 x7 x8 i n)) (by decide)
  · exact row_piece (xrow x0 x1 x2 x3 x4) 0 (by decide) _ (fun i n => (row_a _ _ _ _ _ i n).trans (x_a x0 x1 x2 x3 x4 x5 x6 x7 x8 i n)) (by decide)

theorem out10 (y : S1x2x512x512.Idx) : out0_10 x0 x1 x2 x3 x4 x5 x6 x7 x8 y = qG x0 x1 x2 x3 x4 x5 x6 x7 x8 0 y := by
  unfold out0_10
  refine canon_of (qG x0 x1 x2 x3 x4 x5 x6 x7 x8 0) _ ?_ y (cover0_10 _ _ _ _ y)
  refine ⟨?_, ?_, ?_, ?_, trivial⟩
  · exact q_piece x0 x1 x2 x3 x4 x5 x6 x7 x8 0 1 256 512 (by decide) rfl (k0_pay75 x0 x1 x2 x3 x4 x5 x6 x7 x8) (k0_pay76 x0 x1 x2 x3 x4 x5 x6 x7 x8) (k0_pay77 x0 x1 x2 x3 x4 x5 x6 x7 x8) _ _ (fun i c => q0_b1 _ _ _ _ i c) (h_b x0 x1 x2 x3 x4 x5 x6 x7 x8) (c_b x0 x1 x2 x3 x4 x5 x6 x7 x8) (s_b x0 x1 x2 x3 x4 x5 x6 x7 x8) (by decide)
  · exact q_piece x0 x1 x2 x3 x4 x5 x6 x7 x8 0 0 256 0 (by decide) rfl (k0_pay75 x0 x1 x2 x3 x4 x5 x6 x7 x8) (k0_pay76 x0 x1 x2 x3 x4 x5 x6 x7 x8) (k0_pay77 x0 x1 x2 x3 x4 x5 x6 x7 x8) _ _ (fun i c => q0_b0 _ _ _ _ i c) (h_b x0 x1 x2 x3 x4 x5 x6 x7 x8) (c_b x0 x1 x2 x3 x4 x5 x6 x7 x8) (s_b x0 x1 x2 x3 x4 x5 x6 x7 x8) (by decide)
  · exact q_piece x0 x1 x2 x3 x4 x5 x6 x7 x8 0 1 0 512 (by decide) rfl (k0_pay70 x0 x1 x2 x3 x4 x5 x6 x7 x8) (k0_pay71 x0 x1 x2 x3 x4 x5 x6 x7 x8) (k0_pay72 x0 x1 x2 x3 x4 x5 x6 x7 x8) _ _ (fun i c => q0_a1 _ _ _ _ _ _ _ _ i c _) (h_a x0 x1 x2 x3 x4 x5 x6 x7 x8) (c_a x0 x1 x2 x3 x4 x5 x6 x7 x8) (s_a x0 x1 x2 x3 x4 x5 x6 x7 x8) (by decide)
  · exact q_piece x0 x1 x2 x3 x4 x5 x6 x7 x8 0 0 0 0 (by decide) rfl (k0_pay70 x0 x1 x2 x3 x4 x5 x6 x7 x8) (k0_pay71 x0 x1 x2 x3 x4 x5 x6 x7 x8) (k0_pay72 x0 x1 x2 x3 x4 x5 x6 x7 x8) _ _ (fun i c => q0_a0 _ _ _ _ _ _ _ _ _ i c) (h_a x0 x1 x2 x3 x4 x5 x6 x7 x8) (c_a x0 x1 x2 x3 x4 x5 x6 x7 x8) (s_a x0 x1 x2 x3 x4 x5 x6 x7 x8) (by decide)

theorem out11 (y : S1x2x512x512.Idx) : out0_11 x0 x1 x2 x3 x4 x5 x6 x7 x8 y = qG x0 x1 x2 x3 x4 x5 x6 x7 x8 1 y := by
  unfold out0_11
  refine canon_of (qG x0 x1 x2 x3 x4 x5 x6 x7 x8 1) _ ?_ y (cover0_11 _ _ _ _ y)
  refine ⟨?_, ?_, ?_, ?_, trivial⟩
  · exact q_piece x0 x1 x2 x3 x4 x5 x6 x7 x8 1 1 256 1536 (by decide) rfl (k0_pay75 x0 x1 x2 x3 x4 x5 x6 x7 x8) (k0_pay76 x0 x1 x2 x3 x4 x5 x6 x7 x8) (k0_pay77 x0 x1 x2 x3 x4 x5 x6 x7 x8) _ _ (fun i c => q1_b1 _ _ _ _ i c) (h_b x0 x1 x2 x3 x4 x5 x6 x7 x8) (c_b x0 x1 x2 x3 x4 x5 x6 x7 x8) (s_b x0 x1 x2 x3 x4 x5 x6 x7 x8) (by decide)
  · exact q_piece x0 x1 x2 x3 x4 x5 x6 x7 x8 1 0 256 1024 (by decide) rfl (k0_pay75 x0 x1 x2 x3 x4 x5 x6 x7 x8) (k0_pay76 x0 x1 x2 x3 x4 x5 x6 x7 x8) (k0_pay77 x0 x1 x2 x3 x4 x5 x6 x7 x8) _ _ (fun i c => q1_b0 _ _ _ _ i c) (h_b x0 x1 x2 x3 x4 x5 x6 x7 x8) (c_b x0 x1 x2 x3 x4 x5 x6 x7 x8) (s_b x0 x1 x2 x3 x4 x5 x6 x7 x8) (by decide)
  · exact q_piece x0 x1 x2 x3 x4 x5 x6 x7 x8 1 1 0 1536 (by decide) rfl (k0_pay70 x0 x1 x2 x3 x4 x5 x6 x7 x8) (k0_pay71 x0 x1 x2 x3 x4 x5 x6 x7 x8) (k0_pay72 x0 x1 x2 x3 x4 x5 x6 x7 x8) _ _ (fun i c => q1_a1 _ _ _ _ i c) (h_a x0 x1 x2 x3 x4 x5 x6 x7 x8) (c_a x0 x1 x2 x3 x4 x5 x6 x7 x8) (s_a x0 x1 x2 x3 x4 x5 x6 x7 x8) (by decide)
  · exact q_piece x0 x1 x2 x3 x4 x5 x6 x7 x8 1 0 0 1024 (by decide) rfl (k0_pay70 x0 x1 x2 x3 x4 x5 x6 x7 x8) (k0_pay71 x0 x1 x2 x3 x4 x5 x6 x7 x8) (k0_pay72 x0 x1 x2 x3 x4 x5 x6 x7 x8) _ _ (fun i c => q1_a0 _ _ _ _ i c) (h_a x0 x1 x2 x3 x4 x5 x6 x7 x8) (c_a x0 x1 x2 x3 x4 x5 x6 x7 x8) (s_a x0 x1 x2 x3 x4 x5 x6 x7 x8) (by decide)

theorem out12 (y : S1x2x512x512.Idx) : out0_12 x0 x1 x2 x3 x4 x5 x6 x7 x8 y = qG x0 x1 x2 x3 x4 x5 x6 x7 x8 2 y := by
  unfold out0_12
  refine canon_of (qG x0 x1 x2 x3 x4 x5 x6 x7 x8 2) _ ?_ y (cover0_12 _ _ _ _ y)
  refine ⟨?_, ?_, ?_, ?_, trivial⟩
  · exact q_piece x0 x1 x2 x3 x4 x5 x6 x7 x8 2 1 256 2560 (by decide) rfl (k0_pay75 x0 x1 x2 x3 x4 x5 x6 x7 x8) (k0_pay76 x0 x1 x2 x3 x4 x5 x6 x7 x8) (k0_pay77 x0 x1 x2 x3 x4 x5 x6 x7 x8) _ _ (fun i c => q2_b1 _ _ _ _ i c) (h_b x0 x1 x2 x3 x4 x5 x6 x7 x8) (c_b x0 x1 x2 x3 x4 x5 x6 x7 x8) (s_b x0 x1 x2 x3 x4 x5 x6 x7 x8) (by decide)
  · exact q_piece x0 x1 x2 x3 x4 x5 x6 x7 x8 2 0 256 2048 (by decide) rfl (k0_pay75 x0 x1 x2 x3 x4 x5 x6 x7 x8) (k0_pay76 x0 x1 x2 x3 x4 x5 x6 x7 x8) (k0_pay77 x0 x1 x2 x3 x4 x5 x6 x7 x8) _ _ (fun i c => q2_b0 _ _ _ _ i c) (h_b x0 x1 x2 x3 x4 x5 x6 x7 x8) (c_b x0 x1 x2 x3 x4 x5 x6 x7 x8) (s_b x0 x1 x2 x3 x4 x5 x6 x7 x8) (by decide)
  · exact q_piece x0 x1 x2 x3 x4 x5 x6 x7 x8 2 1 0 2560 (by decide) rfl (k0_pay70 x0 x1 x2 x3 x4 x5 x6 x7 x8) (k0_pay71 x0 x1 x2 x3 x4 x5 x6 x7 x8) (k0_pay72 x0 x1 x2 x3 x4 x5 x6 x7 x8) _ _ (fun i c => q2_a1 _ _ _ _ i c) (h_a x0 x1 x2 x3 x4 x5 x6 x7 x8) (c_a x0 x1 x2 x3 x4 x5 x6 x7 x8) (s_a x0 x1 x2 x3 x4 x5 x6 x7 x8) (by decide)
  · exact q_piece x0 x1 x2 x3 x4 x5 x6 x7 x8 2 0 0 2048 (by decide) rfl (k0_pay70 x0 x1 x2 x3 x4 x5 x6 x7 x8) (k0_pay71 x0 x1 x2 x3 x4 x5 x6 x7 x8) (k0_pay72 x0 x1 x2 x3 x4 x5 x6 x7 x8) _ _ (fun i c => q2_a0 _ _ _ _ i c) (h_a x0 x1 x2 x3 x4 x5 x6 x7 x8) (c_a x0 x1 x2 x3 x4 x5 x6 x7 x8) (s_a x0 x1 x2 x3 x4 x5 x6 x7 x8) (by decide)

theorem z_piece (h : FVec Ideal S256x1024 .bf16) (o : ℕ) (ho : o + 256 ≤ 512) (hh : ∀ (i : Fin 256) n, h (ix2 i n) = hrow x0 x1 x2 x3 x4 x5 ⟨o + i.val, by omega⟩ n)
    (i : Fin 256) (n : Fin 1024) : ∑ k : Fin 1024, h (ix2 i k) * View.ld x6 r0_13 (ix2 k n)
      = proj (hrow x0 x1 x2 x3 x4 x5 ⟨o + i.val, by omega⟩) (fun k n => x6 (ix2 k n)) ⟨3072 + n.val, by omega⟩ := by
  unfold proj
  refine Finset.sum_congr rfl fun k _ => ?_
  rw [hh i k, ld_gate x6 k n]

theorem out13 (y : S1x512x1024.Idx) : out0_13 x0 x1 x2 x3 x4 x5 x6 x7 x8 y = zG x0 x1 x2 x3 x4 x5 x6 y := by
  unfold out0_13
  refine canon_of (zG x0 x1 x2 x3 x4 x5 x6) _ ?_ y (cover0_13 _ _ y)
  refine ⟨?_, ?_, trivial⟩
  · exact row_piece (fun r n => proj (hrow x0 x1 x2 x3 x4 x5 r) (fun k n => x6 (ix2 k n)) ⟨3072 + n.val, by omega⟩) 256 (by decide) _
      (fun i n => (z_b _ i _ n).trans (z_piece x0 x1 x2 x3 x4 x5 x6 _ 256 (by decide) (h_b x0 x1 x2 x3 x4 x5 x6 x7 x8) i n)) (by decide)
  · exact row_piece (fun r n => proj (hrow x0 x1 x2 x3 x4 x5 r) (fun k n => x6 (ix2 k n)) ⟨3072 + n.val, by omega⟩) 0 (by decide) _
      (fun i n => (z_a _ i _ n).trans (z_piece x0 x1 x2 x3 x4 x5 x6 _ 0 (by decide) (h_a x0 x1 x2 x3 x4 x5 x6 x7 x8) i n)) (by decide)

end Cert.Kernel2Ideal.OutQ

end
-- ==== Proof.OutQTables.lean ====
/-
  The two tables that the output projection with queries is given, at a place and a channel: the cosine and the signed sine of the angle of
  the token at that place, times the scale.
-/
module

public import proofs.«01_k».proof.Proof.RotSpec
public import proofs.«01_k».proof.Proof.Gen.Kernel2Ideal.Frame

@[expose] public section

set_option maxRecDepth 16384

noncomputable section

namespace Cert.Kernel2Ideal.OutQ

open Idealize.ShloMosaic Idealize.ShloMosaic.TcCoe Idealize.SL.Sem Cert.Kernel2Ideal Cert.Kernel2Ideal.Gen Cert.ConvLayer Cert.Queries

variable (m : (ℓ : Loc nD τ sig) → Buf (Elt Ideal) ℓ)

theorem cos_table (c : Dev nD) (R : Fin 8192) (d : Fin 128) :
    V m c main_v78 (ix2 R d) = cosT (tok R).val ⟨d.val % 64, by omega⟩ * scale := by
  unfold V
  simp only [hostOps0, hostOps0_1, hostOps0_2, List.flatten_cons, List.flatten_nil, List.append_nil, List.cons_append, List.nil_append, StableHlo.TRef.unary, StableHlo.TRef.ternary]
  entry_read
  pointwise
  rw [base_num, sitofp_num (R.val / 128 % 16) (by omega)]
  exact congrArg (· * scale) (cos_sum (R.val / 2048 * 2048 + R.val % 128 * 16) (R.val / 128 % 16) ⟨d.val % 64, by omega⟩)

theorem sign_eq (d : Fin 128) : Scalar.select (IntOp.cmpi .slt (BitVec.ofNat 32 d.val) 64#32) (Ideal.ofBits .f32 0xBF800000#32) (Ideal.ofBits .f32 0x3F800000#32) = sgn d.val := by
  revert d
  unfold sgn
  have : ∀ d : Fin 128, IntOp.cmpi .slt (BitVec.ofNat 32 d.val) 64#32 = if d.val < 64 then 1#1 else 0#1 := by decide +kernel
  intro d
  rw [this d]
  split <;> rfl

theorem sin_table (c : Dev nD) (R : Fin 8192) (d : Fin 128) :
    V m c main_v80 (ix2 R d) = sgn d.val * sinT (tok R).val ⟨d.val % 64, by omega⟩ * scale := by
  unfold V
  simp only [hostOps0, hostOps0_1, hostOps0_2, List.flatten_cons, List.flatten_nil, List.append_nil, List.cons_append, List.nil_append, StableHlo.TRef.unary, StableHlo.TRef.ternary]
  entry_read
  pointwise
  rw [base_num, sitofp_num (R.val / 128 % 16) (by omega)]
  refine congrArg (· * scale) (congrArg₂ (· * ·) ?_ (sin_sum (R.val / 2048 * 2048 + R.val % 128 * 16) (R.val / 128 % 16) ⟨d.val % 64, by omega⟩))
  exact sign_eq d

end Cert.Kernel2Ideal.OutQ

end
-- ==== Proof.OutQInput.lean ====
/-
  What the grid points of the output projection with queries read, as reads of the arguments: point `16 b + s` reads the
  tokens at places `512 s … 512 s + 511` of sequence `b`, the whole weights, and the tables at those places.
-/
module

public import proofs.«01_k».proof.Proof.OutQTables
public import Idealize.ShloMosaic.Lib.Pipeline.ValueKit

@[expose] public section

set_option maxRecDepth 16384

noncomputable section

namespace Cert.Kernel2Ideal.OutQ

open Idealize.ShloMosaic Idealize.ShloMosaic.TcCoe Idealize.SL.Sem Cert.Kernel2Ideal Cert.Kernel2Ideal.Gen Cert.ConvLayer Cert.Queries

variable (m : (ℓ : Loc nD τ sig) → Buf (Elt Ideal) ℓ)

/-- Which blocks the input windows hold at a point. -/
theorem idx_in : ∀ t : Fin cfg0.N, win0_0.index t = ![t.val / 16, t.val % 16, 0] ∧ win0_1.index t = ![t.val / 16, t.val % 16, 0]
    ∧ win0_2.index t = ![t.val / 16, t.val % 16, 0] ∧ win0_3.index t = ![0, 0] ∧ win0_4.index t = ![0, 0] ∧ win0_5.index t = ![0, 0]
    ∧ win0_6.index t = ![0, 0] ∧ win0_7.index t = ![t.val % 16, 0] ∧ win0_8.index t = ![t.val % 16, 0] :=
  (by decide +kernel : ∀ t : Fin grid0.N, win0_0.index t = ![t.val / 16, t.val % 16, 0] ∧ win0_1.index t = ![t.val / 16, t.val % 16, 0]
    ∧ win0_2.index t = ![t.val / 16, t.val % 16, 0] ∧ win0_3.index t = ![0, 0] ∧ win0_4.index t = ![0, 0] ∧ win0_5.index t = ![0, 0]
    ∧ win0_6.index t = ![0, 0] ∧ win0_7.index t = ![t.val % 16, 0] ∧ win0_8.index t = ![t.val % 16, 0])

theorem point_lt (t : Fin cfg0.N) : t.val < 32 := t.isLt

/-- The sequence of a point, and the place of a row of its block. -/
def seqNo (t : Fin cfg0.N) : Fin 2 := ⟨t.val / 16, by have := point_lt t; omega⟩
def place (t : Fin cfg0.N) (i : Fin 512) : Fin 8192 := ⟨512 * (t.val % 16) + i.val, by omega⟩

theorem v65_at (c : Dev nD) (b : Fin 2) (R : Fin 8192) (k : Fin 1024) :
    V m c main_v65 (ix3 b R k) = m ((c : Thread nD τ).loc main_arg0) (ix3 b (tok R) k) := by
  unfold V
  simp only [hostOps0, hostOps0_1, hostOps0_2, List.flatten_cons, List.flatten_nil, List.append_nil, List.cons_append, List.nil_append, StableHlo.TRef.unary, StableHlo.TRef.ternary]
  entry_read
  pointwise
  rfl

theorem v69_at (c : Dev nD) (b : Fin 2) (R : Fin 8192) (k : Fin 1024) :
    V m c main_v69 (ix3 b R k) = m ((c : Thread nD τ).loc main_arg1) (ix3 b (tok R) k) := by
  unfold V
  simp only [hostOps0, hostOps0_1, hostOps0_2, List.flatten_cons, List.flatten_nil, List.append_nil, List.cons_append, List.nil_append, StableHlo.TRef.unary, StableHlo.TRef.ternary]
  entry_read
  pointwise
  rfl

theorem v72_at (c : Dev nD) (b : Fin 2) (R : Fin 8192) (k : Fin 1024) :
    V m c main_v72 (ix3 b R k) = m ((c : Thread nD τ).loc main_arg2) (ix3 b (tok R) k) := by
  unfold V
  simp only [hostOps0, hostOps0_1, hostOps0_2, List.flatten_cons, List.flatten_nil, List.append_nil, List.cons_append, List.nil_append, StableHlo.TRef.unary, StableHlo.TRef.ternary]
  entry_read
  pointwise
  rfl

theorem v73_at (c : Dev nD) (k n : Fin 1024) : V m c main_v73 (ix2 k n) = m ((c : Thread nD τ).loc main_arg3) (ix2 k n) := by
  unfold V
  simp only [hostOps0, hostOps0_1, hostOps0_2, List.flatten_cons, List.flatten_nil, List.append_nil, List.cons_append, List.nil_append, StableHlo.TRef.unary, StableHlo.TRef.ternary]
  entry_read
  pointwise

theorem v74_at (c : Dev nD) (k : Fin 1024) : V m c main_v74 (ix2 0 k) = m ((c : Thread nD τ).loc main_arg4) (ix1 k) := by
  unfold V
  simp only [hostOps0, hostOps0_1, hostOps0_2, List.flatten_cons, List.flatten_nil, List.append_nil, List.cons_append, List.nil_append, StableHlo.TRef.unary, StableHlo.TRef.ternary]
  entry_read
  pointwise

theorem v75_at (c : Dev nD) (k : Fin 1024) : V m c main_v75 (ix2 0 k) = m ((c : Thread nD τ).loc main_arg5) (ix1 k) := by
  unfold V
  simp only [hostOps0, hostOps0_1, hostOps0_2, List.flatten_cons, List.flatten_nil, List.append_nil, List.cons_append, List.nil_append, StableHlo.TRef.unary, StableHlo.TRef.ternary]
  entry_read
  pointwise

theorem v76_at (c : Dev nD) (k : Fin 1024) (n : Fin 4096) : V m c main_v76 (ix2 k n) = m ((c : Thread nD τ).loc main_arg6) (ix2 k n) := by
  unfold V
  simp only [hostOps0, hostOps0_1, hostOps0_2, List.flatten_cons, List.flatten_nil, List.append_nil, List.cons_append, List.nil_append, StableHlo.TRef.unary, StableHlo.TRef.ternary]
  entry_read
  pointwise

theorem o_at (c : Dev nD) (t : Fin cfg0.N) (i : Fin 512) (k : Fin 1024) :
    iblk m c 0 t (ix3 0 i k) = m ((c : Thread nD τ).loc main_arg0) (ix3 (seqNo t) (tok (place t i)) k) := by
  have e : iblk m c 0 t (ix3 0 i k) = V m c main_v65 (ix3 (seqNo t) (place t i) k) := by
    unfold seqNo place
    blk_ext [iblk, idx_in t]
  exact e.trans (v65_at m c _ _ k)

theorem z_at (c : Dev nD) (t : Fin cfg0.N) (i : Fin 512) (k : Fin 1024) :
    iblk m c 1 t (ix3 0 i k) = m ((c : Thread nD τ).loc main_arg1) (ix3 (seqNo t) (tok (place t i)) k) := by
  have e : iblk m c 1 t (ix3 0 i k) = V m c main_v69 (ix3 (seqNo t) (place t i) k) := by
    unfold seqNo place
    blk_ext [iblk, idx_in t]
  exact e.trans (v69_at m c _ _ k)

theorem x_at (c : Dev nD) (t : Fin cfg0.N) (i : Fin 512) (k : Fin 1024) :
    iblk m c 2 t (ix3 0 i k) = m ((c : Thread nD τ).loc main_arg2) (ix3 (seqNo t) (tok (place t i)) k) := by
  have e : iblk m c 2 t (ix3 0 i k) = V m c main_v72 (ix3 (seqNo t) (place t i) k) := by
    unfold seqNo place
    blk_ext [iblk, idx_in t]
  exact e.trans (v72_at m c _ _ k)

theorem wo_at (c : Dev nD) (t : Fin cfg0.N) (k n : Fin 1024) :
    iblk m c 3 t (ix2 k n) = m ((c : Thread nD τ).loc main_arg3) (ix2 k n) := by
  have e : iblk m c 3 t (ix2 k n) = V m c main_v73 (ix2 k n) := by blk_ext [iblk, idx_in t]
  exact e.trans (v73_at m c k n)

theorem gp_at (c : Dev nD) (t : Fin cfg0.N) (k : Fin 1024) :
    iblk m c 4 t (ix2 0 k) = m ((c : Thread nD τ).loc main_arg4) (ix1 k) := by
  have e : iblk m c 4 t (ix2 0 k) = V m c main_v74 (ix2 0 k) := by blk_ext [iblk, idx_in t]
  exact e.trans (v74_at m c k)

theorem g_at (c : Dev nD) (t : Fin cfg0.N) (k : Fin 1024) :
    iblk m c 5 t (ix2 0 k) = m ((c : Thread nD τ).loc main_arg5) (ix1 k) := by
  have e : iblk m c 5 t (ix2 0 k) = V m c main_v75 (ix2 0 k) := by blk_ext [iblk, idx_in t]
  exact e.trans (v75_at m c k)

theorem wi_at (c : Dev nD) (t : Fin cfg0.N) (k : Fin 1024) (n : Fin 4096) :
    iblk m c 6 t (ix2 k n) = m ((c : Thread nD τ).loc main_arg6) (ix2 k n) := by
  have e : iblk m c 6 t (ix2 k n) = V m c main_v76 (ix2 k n) := by blk_ext [iblk, idx_in t]
  exact e.trans (v76_at m c k n)

theorem cos_at (c : Dev nD) (t : Fin cfg0.N) (i : Fin 512) (d : Fin 128) :
    iblk m c 7 t (ix2 i d) = cosT (tok (place t i)).val ⟨d.val % 64, by omega⟩ * scale := by
  have e : iblk m c 7 t (ix2 i d) = V m c main_v78 (ix2 (place t i) d) := by
    unfold place
    blk_ext [iblk, idx_in t]
  exact e.trans (cos_table m c _ d)

theorem sin_at (c : Dev nD) (t : Fin cfg0.N) (i : Fin 512) (d : Fin 128) :
    iblk m c 8 t (ix2 i d) = sgn d.val * sinT (tok (place t i)).val ⟨d.val % 64, by omega⟩ * scale := by
  have e : iblk m c 8 t (ix2 i d) = V m c main_v80 (ix2 (place t i) d) := by
    unfold place
    blk_ext [iblk, idx_in t]
  exact e.trans (sin_table m c _ d)

end Cert.Kernel2Ideal.OutQ

end
-- ==== Proof.OutQArray.lean ====
/-
  The arrays that the output projection with queries leaves, as functions of its arguments: the next layer's rows, their
  rotated queries by group, and their gates, with the tokens of each sequence by block and residue.
-/
module

public import proofs.«01_k».proof.Proof.OutQPoint
public import proofs.«01_k».proof.Proof.OutQInput

@[expose] public section

set_option maxRecDepth 16384

noncomputable section

namespace Cert.Kernel2Ideal.OutQ

open Idealize.ShloMosaic Idealize.ShloMosaic.TcCoe Idealize.SL.Sem Cert.Kernel2Ideal Cert.Kernel2Ideal.Gen Cert.ConvLayer Cert.Queries

variable (m : (ℓ : Loc nD τ sig) → Buf (Elt Ideal) ℓ)

/-- Token `i` of sequence `b`, after the projection. -/
def nextOf (c : Dev nD) (b : Fin 2) (i : Fin 8192) : Row :=
  nextRow (fun k => m ((c : Thread nD τ).loc main_arg0) (ix3 b i k)) (fun k => m ((c : Thread nD τ).loc main_arg1) (ix3 b i k))
    (fun k => m ((c : Thread nD τ).loc main_arg2) (ix3 b i k)) (fun k n => m ((c : Thread nD τ).loc main_arg3) (ix2 k n))
    (fun k => m ((c : Thread nD τ).loc main_arg4) (ix1 k))
/-- The scale in front of the next layer, and its input projection. -/
def gOf (c : Dev nD) : Row := fun k => m ((c : Thread nD τ).loc main_arg5) (ix1 k)
def wOf (c : Dev nD) (k : Fin 1024) (n : Fin 4096) : EReal := m ((c : Thread nD τ).loc main_arg6) (ix2 k n)

/-- What the arrays hold. -/
def outX (c : Dev nD) (y : S2x8192x1024.Idx) : EReal := nextOf m c (y 0) (tok (y 1)) (y 2)
def outQ (c : Dev nD) (g : Fin 3) (y : S2x2x8192x512.Idx) : EReal :=
  queryAt (nextOf m c (y 0) (tok (y 2))) (gOf m c) (wOf m c) g (y 1) (tok (y 2)).val (y 3)
def outZ (c : Dev nD) (y : S2x8192x1024.Idx) : EReal := gateAt (nextOf m c (y 0) (tok (y 1))) (gOf m c) (wOf m c) (y 2)

theorem xrow_eq (c : Dev nD) (t : Fin cfg0.N) (i : Fin 512) :
    xrow (iblk m c 0 t) (iblk m c 1 t) (iblk m c 2 t) (iblk m c 3 t) (iblk m c 4 t) i = nextOf m c (seqNo t) (tok (place t i)) := by
  unfold xrow nextOf
  rw [funext (o_at m c t i), funext (z_at m c t i), funext (x_at m c t i),
    show (fun k n => iblk m c 3 t (ix2 k n)) = _ from funext fun k => funext fun n => wo_at m c t k n, funext (gp_at m c t)]

theorem hrow_eq (c : Dev nD) (t : Fin cfg0.N) (i : Fin 512) :
    hrow (iblk m c 0 t) (iblk m c 1 t) (iblk m c 2 t) (iblk m c 3 t) (iblk m c 4 t) (iblk m c 5 t) i
      = rms (nextOf m c (seqNo t) (tok (place t i))) (gOf m c) := by
  unfold hrow
  rw [xrow_eq, funext (g_at m c t)]
  rfl

theorem w_eq (c : Dev nD) (t : Fin cfg0.N) : (fun k n => iblk m c 6 t (ix2 k n)) = wOf m c := funext fun k => funext fun n => wi_at m c t k n

theorem q_eq (c : Dev nD) (t : Fin cfg0.N) (g : Fin 3) (kh : Fin 2) (i j : Fin 512) :
    qB (iblk m c 0 t) (iblk m c 1 t) (iblk m c 2 t) (iblk m c 3 t) (iblk m c 4 t) (iblk m c 5 t) (iblk m c 6 t) (iblk m c 7 t) (iblk m c 8 t) g kh i j
      = queryAt (nextOf m c (seqNo t) (tok (place t i))) (gOf m c) (wOf m c) g kh (tok (place t i)).val j := by
  unfold qB queryAt
  rw [hrow_eq, w_eq, funext (cos_at m c t i), funext (sin_at m c t i)]
  exact rot_eq _ _ _

theorem outX_of (c : Dev nD) (y : S2x8192x1024.Idx) (b : Fin 2) (R : Fin 8192) (n : Fin 1024) (h0 : b.val = (y 0).val) (h1 : R.val = (y 1).val)
    (h2 : n.val = (y 2).val) : nextOf m c b (tok R) n = outX m c y := by
  obtain rfl : b = y 0 := Fin.ext h0
  obtain rfl : R = y 1 := Fin.ext h1
  obtain rfl : n = y 2 := Fin.ext h2
  rfl

theorem outQ_of (c : Dev nD) (g : Fin 3) (y : S2x2x8192x512.Idx) (b kh : Fin 2) (R : Fin 8192) (j : Fin 512) (h0 : b.val = (y 0).val)
    (h1 : kh.val = (y 1).val) (h2 : R.val = (y 2).val) (h3 : j.val = (y 3).val) :
    queryAt (nextOf m c b (tok R)) (gOf m c) (wOf m c) g kh (tok R).val j = outQ m c g y := by
  obtain rfl : b = y 0 := Fin.ext h0
  obtain rfl : kh = y 1 := Fin.ext h1
  obtain rfl : R = y 2 := Fin.ext h2
  obtain rfl : j = y 3 := Fin.ext h3
  rfl

theorem outZ_of (c : Dev nD) (y : S2x8192x1024.Idx) (b : Fin 2) (R : Fin 8192) (n : Fin 1024) (h0 : b.val = (y 0).val) (h1 : R.val = (y 1).val)
    (h2 : n.val = (y 2).val) : gateAt (nextOf m c b (tok R)) (gOf m c) (wOf m c) n = outZ m c y := by
  obtain rfl : b = y 0 := Fin.ext h0
  obtain rfl : R = y 1 := Fin.ext h1
  obtain rfl : n = y 2 := Fin.ext h2
  rfl

theorem z_eq (c : Dev nD) (t : Fin cfg0.N) (i : Fin 512) (n : Fin 1024) :
    zG (iblk m c 0 t) (iblk m c 1 t) (iblk m c 2 t) (iblk m c 3 t) (iblk m c 4 t) (iblk m c 5 t) (iblk m c 6 t) (ix3 0 i n)
      = gateAt (nextOf m c (seqNo t) (tok (place t i))) (gOf m c) (wOf m c) n := by
  unfold zG gateAt
  rw [w_eq]
  exact congrArg (fun h => proj h (wOf m c) _) (hrow_eq m c t i)

theorem idx_out : ∀ t : Fin cfg0.N, win0_9.index t = ![t.val / 16, t.val % 16, 0] ∧ win0_10.index t = ![t.val / 16, 0, t.val % 16, 0]
    ∧ win0_11.index t = ![t.val / 16, 0, t.val % 16, 0] ∧ win0_12.index t = ![t.val / 16, 0, t.val % 16, 0] ∧ win0_13.index t = ![t.val / 16, t.val % 16, 0] :=
  (by decide +kernel : ∀ t : Fin grid0.N, win0_9.index t = ![t.val / 16, t.val % 16, 0] ∧ win0_10.index t = ![t.val / 16, 0, t.val % 16, 0]
    ∧ win0_11.index t = ![t.val / 16, 0, t.val % 16, 0] ∧ win0_12.index t = ![t.val / 16, 0, t.val % 16, 0] ∧ win0_13.index t = ![t.val / 16, t.val % 16, 0])

theorem x_array (c : Dev nD) : (dats m 0 c).arrAt 9 cfg0.N = (outX m c : S2x8192x1024.Idx → Elt Ideal .f32) := by
  refine (dats m 0 c).arrAt_eq_of_covers 9 _ (by decide +kernel) fun t hf y => ?_
  blk_simp
  rw [after0_9]
  obtain ⟨i, n, rfl⟩ : ∃ (i : Fin 512) (n : Fin 1024), y = ix3 0 i n := ⟨y 1, y 2, by
    have := eq_ix3 y
    rw [show (0 : Fin 1) = y 0 from (Subsingleton.elim _ _)]; exact this⟩
  refine (out9 _ _ _ _ _ _ _ _ _ _).trans ((congrFun (xrow_eq m c t i) n).trans ?_)
  refine outX_of m c _ _ _ _ ?_ ?_ ?_
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)

theorem q0_array (c : Dev nD) : (dats m 0 c).arrAt 10 cfg0.N = (outQ m c 0 : S2x2x8192x512.Idx → Elt Ideal .f32) := by
  refine (dats m 0 c).arrAt_eq_of_covers 10 _ (by decide +kernel) fun t hf y => ?_
  blk_simp
  rw [after0_10]
  obtain ⟨kh, i, j, rfl⟩ : ∃ (kh : Fin 2) (i j : Fin 512), y = ix4 0 kh i j := ⟨y 1, y 2, y 3, by
    have := eq_ix4 y
    rw [show (0 : Fin 1) = y 0 from (Subsingleton.elim _ _)]; exact this⟩
  refine (out10 _ _ _ _ _ _ _ _ _ _).trans ((q_eq m c t 0 kh i j).trans ?_)
  refine outQ_of m c 0 _ _ _ _ _ ?_ ?_ ?_ ?_
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)

theorem q1_array (c : Dev nD) : (dats m 0 c).arrAt 11 cfg0.N = (outQ m c 1 : S2x2x8192x512.Idx → Elt Ideal .bf16) := by
  refine (dats m 0 c).arrAt_eq_of_covers 11 _ (by decide +kernel) fun t hf y => ?_
  blk_simp
  rw [after0_11]
  obtain ⟨kh, i, j, rfl⟩ : ∃ (kh : Fin 2) (i j : Fin 512), y = ix4 0 kh i j := ⟨y 1, y 2, y 3, by
    have := eq_ix4 y
    rw [show (0 : Fin 1) = y 0 from (Subsingleton.elim _ _)]; exact this⟩
  refine (out11 _ _ _ _ _ _ _ _ _ _).trans ((q_eq m c t 1 kh i j).trans ?_)
  refine outQ_of m c 1 _ _ _ _ _ ?_ ?_ ?_ ?_
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)

theorem q2_array (c : Dev nD) : (dats m 0 c).arrAt 12 cfg0.N = (outQ m c 2 : S2x2x8192x512.Idx → Elt Ideal .bf16) := by
  refine (dats m 0 c).arrAt_eq_of_covers 12 _ (by decide +kernel) fun t hf y => ?_
  blk_simp
  rw [after0_12]
  obtain ⟨kh, i, j, rfl⟩ : ∃ (kh : Fin 2) (i j : Fin 512), y = ix4 0 kh i j := ⟨y 1, y 2, y 3, by
    have := eq_ix4 y
    rw [show (0 : Fin 1) = y 0 from (Subsingleton.elim _ _)]; exact this⟩
  refine (out12 _ _ _ _ _ _ _ _ _ _).trans ((q_eq m c t 2 kh i j).trans ?_)
  refine outQ_of m c 2 _ _ _ _ _ ?_ ?_ ?_ ?_
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)

theorem z_array (c : Dev nD) : (dats m 0 c).arrAt 13 cfg0.N = (outZ m c : S2x8192x1024.Idx → Elt Ideal .bf16) := by
  refine (dats m 0 c).arrAt_eq_of_covers 13 _ (by decide +kernel) fun t hf y => ?_
  blk_simp
  rw [after0_13]
  obtain ⟨i, n, rfl⟩ : ∃ (i : Fin 512) (n : Fin 1024), y = ix3 0 i n := ⟨y 1, y 2, by
    have := eq_ix3 y
    rw [show (0 : Fin 1) = y 0 from (Subsingleton.elim _ _)]; exact this⟩
  refine (out13 _ _ _ _ _ _ _ _ _ _).trans ((z_eq m c t i n).trans ?_)
  refine outZ_of m c _ _ _ _ ?_ ?_ ?_
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)

end Cert.Kernel2Ideal.OutQ

end
-- ==== Proof.OutQRun.lean ====
/-
  A whole run of the output projection with queries: the five arrays that it leaves, its arguments unchanged.
-/
module

public import proofs.«01_k».proof.Proof.OutQArray

@[expose] public section

set_option maxRecDepth 16384

noncomputable section

namespace Cert.Kernel2Ideal.OutQ

open Idealize.ShloMosaic Idealize.ShloMosaic.TcCoe Idealize.SL.Sem Cert.Kernel2Ideal Cert.Kernel2Ideal.Gen

variable (m : (ℓ : Loc nD τ sig) → Buf (Elt Ideal) ℓ)

set_option maxHeartbeats 2000000 in
theorem out_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v81_0) = (outX m c : S2x8192x1024.Idx → Elt Ideal .f32)
      ∧ r.2.mem ((c.tc : Thread nD τ).loc main_v81_1) = (outQ m c 0 : S2x2x8192x512.Idx → Elt Ideal .f32)
      ∧ r.2.mem ((c.tc : Thread nD τ).loc main_v81_2) = (outQ m c 1 : S2x2x8192x512.Idx → Elt Ideal .bf16)
      ∧ r.2.mem ((c.tc : Thread nD τ).loc main_v81_3) = (outQ m c 2 : S2x2x8192x512.Idx → Elt Ideal .bf16)
      ∧ r.2.mem ((c.tc : Thread nD τ).loc main_v81_4) = (outZ m c : S2x8192x1024.Idx → Elt Ideal .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).1 9).trans (x_array m c), ((h c).1 10).trans (q0_array m c), ((h c).1 11).trans (q1_array m c),
      ((h c).1 12).trans (q2_array m c), ((h c).1 13).trans (z_array m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Kernel2Ideal.OutQ

end
-- ==== Proof.OutQRef.lean ====
/-
  The reference's output projection with the next layer's queries, operation by operation, read at an index.
-/
module

public import proofs.«01_k».proof.Proof.RotSpec
public import proofs.«01_k».proof.Proof.Gen.Reference2Ideal.Read

@[expose] public section

set_option maxRecDepth 16384

noncomputable section

namespace Cert.Reference2Ideal.OutQ

open Idealize.ShloMosaic Cert.Reference2Ideal Cert.Reference2Ideal.Gen Cert.Reference2Ideal.Read Cert.ConvLayer Cert.Queries

variable (x0 x1 x2 : Vec Ideal S2x8192x1024 .f32) (x3 : Vec Ideal S1024x1024 .f32) (x4 x5 : Vec Ideal S1024 .f32) (x6 : Vec Ideal S1024x4096 .f32)

/-- Token `i` of sequence `b`, after the projection. -/
abbrev nx (b : Fin 2) (i : Fin 8192) : Row :=
  nextRow (fun k => x0 (ix3 b i k)) (fun k => x1 (ix3 b i k)) (fun k => x2 (ix3 b i k)) (fun k n => x3 (ix2 k n)) (fun k => x4 (ix1 k))

theorem gated_at (b : Fin 2) (i : Fin 8192) (k : Fin 1024) :
    val_main_v7 (F := Ideal) x0 x1 (ix3 b i k) = gated (fun k => x0 (ix3 b i k)) (fun k => x1 (ix3 b i k)) k := by
  pointwise [val_main_v0, val_main_v1, val_main_cst, val_main_v2, val_main_v3, val_main_cst_0, val_main_v4, val_main_v5, val_main_v6, val_main_v7]
  unfold gated Ideal.logistic
  rfl

theorem next_at (b : Fin 2) (i : Fin 8192) (n : Fin 1024) :
    val_main_v22 (F := Ideal) x0 x1 x2 x3 x4 (ix3 b i n) = nx x0 x1 x2 x3 x4 b i n := by
  have hdot : ∀ n, val_main_v8 (F := Ideal) x0 x1 x3 (ix3 b i n)
      = ∑ c, gated (fun k => x0 (ix3 b i k)) (fun k => x1 (ix3 b i k)) c * x3 (ix2 c n) := fun n => by
    pointwise [val_main_v8]
    simp only [gated_at]
  pointwise [val_main_v9, val_main_cst_1, val_main_v10, val_main_v11, val_main_cst_2, val_main_v12, val_main_v13, val_main_cst_3, val_main_v14, val_main_v15,
    val_main_v16, val_main_v17, val_main_v18, val_main_v19, val_main_v20, val_main_v21, val_main_v22]
  simp only [hdot]
  rfl

theorem x_out (b : Fin 2) (R : Fin 8192) (n : Fin 1024) :
    val_main_v25 (F := Ideal) x0 x1 x2 x3 x4 (ix3 b R n) = nx x0 x1 x2 x3 x4 b (tok R) n := by
  pointwise [val_main_v23, val_main_v24, val_main_v25]
  exact next_at x0 x1 x2 x3 x4 b (tok R) n

theorem norm_at (b : Fin 2) (i : Fin 8192) (k : Fin 1024) :
    val_main_v38 (F := Ideal) x0 x1 x2 x3 x4 x5 (ix3 b i k) = rms (nx x0 x1 x2 x3 x4 b i) (fun k => x5 (ix1 k)) k := by
  pointwise [val_main_v26, val_main_cst_4, val_main_v27, val_main_v28, val_main_cst_5, val_main_v29, val_main_v30, val_main_cst_6, val_main_v31, val_main_v32,
    val_main_v33, val_main_v34, val_main_v35, val_main_v36, val_main_v37, val_main_v38]
  simp only [next_at]
  rfl

theorem proj_at (b : Fin 2) (i : Fin 8192) (n : Fin 4096) :
    val_main_v39 (F := Ideal) x0 x1 x2 x3 x4 x5 x6 (ix3 b i n) = proj (rms (nx x0 x1 x2 x3 x4 b i) (fun k => x5 (ix1 k))) (fun k n => x6 (ix2 k n)) n := by
  pointwise [val_main_v39]
  simp only [norm_at]
  rfl

theorem z_out (b : Fin 2) (R : Fin 8192) (n : Fin 1024) :
    val_main_v96 (F := Ideal) x0 x1 x2 x3 x4 x5 x6 (ix3 b R n) = gateAt (nx x0 x1 x2 x3 x4 b (tok R)) (fun k => x5 (ix1 k)) (fun k n => x6 (ix2 k n)) n := by
  pointwise [val_main_v81, val_main_v93, val_main_v94, val_main_v95, val_main_v96]
  exact proj_at x0 x1 x2 x3 x4 x5 x6 b (tok R) _

theorem angle_at (n : Fin 8192) (e : Fin 64) : val_main_v56 (F := Ideal) (ix2 n e) = num n.val * freq e := by
  pointwise [val_main_v42, val_main_v43, val_main_v44, val_main_cst_7, val_main_v45, val_main_v46, val_main_cst_8, val_main_v47, val_main_v48, val_main_cst_9,
    val_main_v49, val_main_v50, val_main_v51, val_main_v52, val_main_v53, val_main_v54, val_main_v55, val_main_v56]
  rw [← sitofp_num _ (by omega)]
  rfl

theorem cos_at (n : Fin 8192) (e : Fin 64) : val_main_v57 (F := Ideal) (ix2 n e) = cosT n.val e := by
  pointwise [val_main_v57]
  rw [angle_at]
  rfl

theorem sin_at (n : Fin 8192) (e : Fin 64) : val_main_v59 (F := Ideal) (ix2 n e) = sinT n.val e := by
  pointwise [val_main_v59]
  rw [angle_at]
  rfl

theorem head_at (b : Fin 2) (i : Fin 8192) (h : Fin 24) (d : Fin 128) :
    val_main_v41 (F := Ideal) x0 x1 x2 x3 x4 x5 x6 (ix4 b i h d) = val_main_v39 (F := Ideal) x0 x1 x2 x3 x4 x5 x6 (ix3 b i ⟨128 * h.val + d.val, by omega⟩) := by
  pointwise [val_main_v40, val_main_v41]
  exact congrArg (fun j => val_main_v39 (F := Ideal) x0 x1 x2 x3 x4 x5 x6 (ix3 b i j)) (Fin.ext (by show h.val * 128 + d.val = 128 * h.val + d.val; omega))

theorem rot_at (b : Fin 2) (i : Fin 8192) (h : Fin 24) (d : Fin 128) :
    val_main_v79 (F := Ideal) x0 x1 x2 x3 x4 x5 x6 (ix4 b i h d) = headAt (fun n => val_main_v39 (F := Ideal) x0 x1 x2 x3 x4 x5 x6 (ix3 b i n)) i.val h d := by
  pointwise [val_main_v58, val_main_v60, val_main_v61, val_main_v62, val_main_v63, val_main_v64, val_main_v65, val_main_v66, val_main_v67, val_main_v68,
    val_main_v69, val_main_v70, val_main_v71, val_main_v72, val_main_v73, val_main_v74, val_main_v75, val_main_v76, val_main_v77, val_main_cst_10, val_main_v78, val_main_v79]
  simp only [cos_at, sin_at, head_at]
  rfl

theorem flat_at (b : Fin 2) (i : Fin 8192) (g : Fin 3) (kh : Fin 2) (c : Fin 512) :
    val_main_v80 (F := Ideal) x0 x1 x2 x3 x4 x5 x6 (ix5 b i g kh c)
      = queryAt (nx x0 x1 x2 x3 x4 b i) (fun k => x5 (ix1 k)) (fun k n => x6 (ix2 k n)) g kh i.val c := by
  pointwise [val_main_v80]
  refine (rot_at x0 x1 x2 x3 x4 x5 x6 b i _ _).trans ((head_eq _ _ g kh c _ _ rfl rfl).trans ?_)
  simp only [proj_at]
  rfl

theorem perm_at (g : Fin 3) (b : Fin 2) (kh : Fin 2) (R : Fin 8192) (c : Fin 512) :
    val_main_v84 (F := Ideal) x0 x1 x2 x3 x4 x5 x6 (ix5 g b kh R c)
      = queryAt (nx x0 x1 x2 x3 x4 b (tok R)) (fun k => x5 (ix1 k)) (fun k n => x6 (ix2 k n)) g kh (tok R).val c := by
  pointwise [val_main_v82, val_main_v83, val_main_v84]
  exact flat_at x0 x1 x2 x3 x4 x5 x6 b (tok R) g kh c

theorem q0_out (b kh : Fin 2) (R : Fin 8192) (c : Fin 512) :
    val_main_v86 (F := Ideal) x0 x1 x2 x3 x4 x5 x6 (ix4 b kh R c)
      = queryAt (nx x0 x1 x2 x3 x4 b (tok R)) (fun k => x5 (ix1 k)) (fun k n => x6 (ix2 k n)) 0 kh (tok R).val c := by
  pointwise [val_main_v85, val_main_v86]
  exact perm_at x0 x1 x2 x3 x4 x5 x6 0 b kh R c

theorem q1_out (b kh : Fin 2) (R : Fin 8192) (c : Fin 512) :
    val_main_v89 (F := Ideal) x0 x1 x2 x3 x4 x5 x6 (ix4 b kh R c)
      = queryAt (nx x0 x1 x2 x3 x4 b (tok R)) (fun k => x5 (ix1 k)) (fun k n => x6 (ix2 k n)) 1 kh (tok R).val c := by
  pointwise [val_main_v87, val_main_v88, val_main_v89]
  exact perm_at x0 x1 x2 x3 x4 x5 x6 1 b kh R c

theorem q2_out (b kh : Fin 2) (R : Fin 8192) (c : Fin 512) :
    val_main_v92 (F := Ideal) x0 x1 x2 x3 x4 x5 x6 (ix4 b kh R c)
      = queryAt (nx x0 x1 x2 x3 x4 b (tok R)) (fun k => x5 (ix1 k)) (fun k n => x6 (ix2 k n)) 2 kh (tok R).val c := by
  pointwise [val_main_v90, val_main_v91, val_main_v92]
  exact perm_at x0 x1 x2 x3 x4 x5 x6 2 b kh R c

end Cert.Reference2Ideal.OutQ

end
-- ==== Proof.OutQClaim.lean ====
/-
  The output projection with queries and its reference leave the same five arrays.
-/
module

public import proofs.«01_k».proof.Defs
public import proofs.«01_k».proof.Proof.OutQRun
public import proofs.«01_k».proof.Proof.OutQRef
public import proofs.«01_k».proof.Proof.Gen.Reference2Ideal.Run

@[expose] public section

set_option maxRecDepth 16384

noncomputable section

namespace Cert.OutQLayer

open Idealize.ShloMosaic Idealize.SL.Sem
open Cert.Kernel2Ideal.OutQ Cert.Reference2Ideal.OutQ Cert.Reference2Ideal.Read

variable (m : (ℓ : Loc Kernel2Ideal.nD Kernel2Ideal.τ Kernel2Ideal.sig) → Buf (Elt Ideal) ℓ) (c : Dev Kernel2Ideal.nD)

theorem ref_x {x0 : Vec Ideal Reference2Ideal.S2x8192x1024 .f32} {x1 : Vec Ideal Reference2Ideal.S2x8192x1024 .f32} {x2 : Vec Ideal Reference2Ideal.S2x8192x1024 .f32} {x3 : Vec Ideal Reference2Ideal.S1024x1024 .f32} {x4 : Vec Ideal Reference2Ideal.S1024 .f32}
    (h0 : x0 = m ((c.tc : Thread Kernel2Ideal.nD Kernel2Ideal.τ).loc Kernel2Ideal.main_arg0))
    (h1 : x1 = m ((c.tc : Thread Kernel2Ideal.nD Kernel2Ideal.τ).loc Kernel2Ideal.main_arg1))
    (h2 : x2 = m ((c.tc : Thread Kernel2Ideal.nD Kernel2Ideal.τ).loc Kernel2Ideal.main_arg2))
    (h3 : x3 = m ((c.tc : Thread Kernel2Ideal.nD Kernel2Ideal.τ).loc Kernel2Ideal.main_arg3))
    (h4 : x4 = m ((c.tc : Thread Kernel2Ideal.nD Kernel2Ideal.τ).loc Kernel2Ideal.main_arg4)) :
    val_main_v25 (F := Ideal) x0 x1 x2 x3 x4 = (outX m c : Kernel2Ideal.S2x8192x1024.Idx → Elt Ideal .f32) := by
  subst h0 h1 h2 h3 h4
  funext y
  exact (congrArg _ (eq_ix3 y)).trans (x_out _ _ _ _ _ (y 0) (y 1) (y 2))

theorem ref_q0 {x0 : Vec Ideal Reference2Ideal.S2x8192x1024 .f32} {x1 : Vec Ideal Reference2Ideal.S2x8192x1024 .f32} {x2 : Vec Ideal Reference2Ideal.S2x8192x1024 .f32} {x3 : Vec Ideal Reference2Ideal.S1024x1024 .f32} {x4 : Vec Ideal Reference2Ideal.S1024 .f32} {x5 : Vec Ideal Reference2Ideal.S1024 .f32} {x6 : Vec Ideal Reference2Ideal.S1024x4096 .f32}
    (h0 : x0 = m ((c.tc : Thread Kernel2Ideal.nD Kernel2Ideal.τ).loc Kernel2Ideal.main_arg0))
    (h1 : x1 = m ((c.tc : Thread Kernel2Ideal.nD Kernel2Ideal.τ).loc Kernel2Ideal.main_arg1))
    (h2 : x2 = m ((c.tc : Thread Kernel2Ideal.nD Kernel2Ideal.τ).loc Kernel2Ideal.main_arg2))
    (h3 : x3 = m ((c.tc : Thread Kernel2Ideal.nD Kernel2Ideal.τ).loc Kernel2Ideal.main_arg3))
    (h4 : x4 = m ((c.tc : Thread Kernel2Ideal.nD Kernel2Ideal.τ).loc Kernel2Ideal.main_arg4))
    (h5 : x5 = m ((c.tc : Thread Kernel2Ideal.nD Kernel2Ideal.τ).loc Kernel2Ideal.main_arg5))
    (h6 : x6 = m ((c.tc : Thread Kernel2Ideal.nD Kernel2Ideal.τ).loc Kernel2Ideal.main_arg6)) :
    val_main_v86 (F := Ideal) x0 x1 x2 x3 x4 x5 x6 = (outQ m c 0 : Kernel2Ideal.S2x2x8192x512.Idx → Elt Ideal .f32) := by
  subst h0 h1 h2 h3 h4 h5 h6
  funext y
  exact (congrArg _ (eq_ix4 y)).trans (q0_out _ _ _ _ _ _ _ (y 0) (y 1) (y 2) (y 3))

theorem ref_q1 {x0 : Vec Ideal Reference2Ideal.S2x8192x1024 .f32} {x1 : Vec Ideal Reference2Ideal.S2x8192x1024 .f32} {x2 : Vec Ideal Reference2Ideal.S2x8192x1024 .f32} {x3 : Vec Ideal Reference2Ideal.S1024x1024 .f32} {x4 : Vec Ideal Reference2Ideal.S1024 .f32} {x5 : Vec Ideal Reference2Ideal.S1024 .f32} {x6 : Vec Ideal Reference2Ideal.S1024x4096 .f32}
    (h0 : x0 = m ((c.tc : Thread Kernel2Ideal.nD Kernel2Ideal.τ).loc Kernel2Ideal.main_arg0))
    (h1 : x1 = m ((c.tc : Thread Kernel2Ideal.nD Kernel2Ideal.τ).loc Kernel2Ideal.main_arg1))
    (h2 : x2 = m ((c.tc : Thread Kernel2Ideal.nD Kernel2Ideal.τ).loc Kernel2Ideal.main_arg2))
    (h3 : x3 = m ((c.tc : Thread Kernel2Ideal.nD Kernel2Ideal.τ).loc Kernel2Ideal.main_arg3))
    (h4 : x4 = m ((c.tc : Thread Kernel2Ideal.nD Kernel2Ideal.τ).loc Kernel2Ideal.main_arg4))
    (h5 : x5 = m ((c.tc : Thread Kernel2Ideal.nD Kernel2Ideal.τ).loc Kernel2Ideal.main_arg5))
    (h6 : x6 = m ((c.tc : Thread Kernel2Ideal.nD Kernel2Ideal.τ).loc Kernel2Ideal.main_arg6)) :
    val_main_v89 (F := Ideal) x0 x1 x2 x3 x4 x5 x6 = (outQ m c 1 : Kernel2Ideal.S2x2x8192x512.Idx → Elt Ideal .bf16) := by
  subst h0 h1 h2 h3 h4 h5 h6
  funext y
  exact (congrArg _ (eq_ix4 y)).trans (q1_out _ _ _ _ _ _ _ (y 0) (y 1) (y 2) (y 3))

theorem ref_q2 {x0 : Vec Ideal Reference2Ideal.S2x8192x1024 .f32} {x1 : Vec Ideal Reference2Ideal.S2x8192x1024 .f32} {x2 : Vec Ideal Reference2Ideal.S2x8192x1024 .f32} {x3 : Vec Ideal Reference2Ideal.S1024x1024 .f32} {x4 : Vec Ideal Reference2Ideal.S1024 .f32} {x5 : Vec Ideal Reference2Ideal.S1024 .f32} {x6 : Vec Ideal Reference2Ideal.S1024x4096 .f32}
    (h0 : x0 = m ((c.tc : Thread Kernel2Ideal.nD Kernel2Ideal.τ).loc Kernel2Ideal.main_arg0))
    (h1 : x1 = m ((c.tc : Thread Kernel2Ideal.nD Kernel2Ideal.τ).loc Kernel2Ideal.main_arg1))
    (h2 : x2 = m ((c.tc : Thread Kernel2Ideal.nD Kernel2Ideal.τ).loc Kernel2Ideal.main_arg2))
    (h3 : x3 = m ((c.tc : Thread Kernel2Ideal.nD Kernel2Ideal.τ).loc Kernel2Ideal.main_arg3))
    (h4 : x4 = m ((c.tc : Thread Kernel2Ideal.nD Kernel2Ideal.τ).loc Kernel2Ideal.main_arg4))
    (h5 : x5 = m ((c.tc : Thread Kernel2Ideal.nD Kernel2Ideal.τ).loc Kernel2Ideal.main_arg5))
    (h6 : x6 = m ((c.tc : Thread Kernel2Ideal.nD Kernel2Ideal.τ).loc Kernel2Ideal.main_arg6)) :
    val_main_v92 (F := Ideal) x0 x1 x2 x3 x4 x5 x6 = (outQ m c 2 : Kernel2Ideal.S2x2x8192x512.Idx → Elt Ideal .bf16) := by
  subst h0 h1 h2 h3 h4 h5 h6
  funext y
  exact (congrArg _ (eq_ix4 y)).trans (q2_out _ _ _ _ _ _ _ (y 0) (y 1) (y 2) (y 3))

theorem ref_z {x0 : Vec Ideal Reference2Ideal.S2x8192x1024 .f32} {x1 : Vec Ideal Reference2Ideal.S2x8192x1024 .f32} {x2 : Vec Ideal Reference2Ideal.S2x8192x1024 .f32} {x3 : Vec Ideal Reference2Ideal.S1024x1024 .f32} {x4 : Vec Ideal Reference2Ideal.S1024 .f32} {x5 : Vec Ideal Reference2Ideal.S1024 .f32} {x6 : Vec Ideal Reference2Ideal.S1024x4096 .f32}
    (h0 : x0 = m ((c.tc : Thread Kernel2Ideal.nD Kernel2Ideal.τ).loc Kernel2Ideal.main_arg0))
    (h1 : x1 = m ((c.tc : Thread Kernel2Ideal.nD Kernel2Ideal.τ).loc Kernel2Ideal.main_arg1))
    (h2 : x2 = m ((c.tc : Thread Kernel2Ideal.nD Kernel2Ideal.τ).loc Kernel2Ideal.main_arg2))
    (h3 : x3 = m ((c.tc : Thread Kernel2Ideal.nD Kernel2Ideal.τ).loc Kernel2Ideal.main_arg3))
    (h4 : x4 = m ((c.tc : Thread Kernel2Ideal.nD Kernel2Ideal.τ).loc Kernel2Ideal.main_arg4))
    (h5 : x5 = m ((c.tc : Thread Kernel2Ideal.nD Kernel2Ideal.τ).loc Kernel2Ideal.main_arg5))
    (h6 : x6 = m ((c.tc : Thread Kernel2Ideal.nD Kernel2Ideal.τ).loc Kernel2Ideal.main_arg6)) :
    val_main_v96 (F := Ideal) x0 x1 x2 x3 x4 x5 x6 = (outZ m c : Kernel2Ideal.S2x8192x1024.Idx → Elt Ideal .bf16) := by
  subst h0 h1 h2 h3 h4 h5 h6
  funext y
  exact (congrArg _ (eq_ix3 y)).trans (z_out _ _ _ _ _ _ _ (y 0) (y 1) (y 2))

theorem same [hKernel2Ideal : Cert.Kernel2Ideal.Facts] [hReference2Ideal : Cert.Reference2Ideal.Facts] :
    Cert.algebraic_Kernel2Ideal_Reference2Ideal := by
  intro m ρ m' ρ' _ hagree
  refine ⟨fun c => outX m c, fun c => outQ m c 0, fun c => outQ m c 1, fun c => outQ m c 2, fun c => outZ m c, out_run m ρ,
    (θ_run Reference2Ideal.defs _ _).mono (fun r h c => ?_) (Cert.Reference2Ideal.Value.run m' ρ')⟩
  obtain ⟨a0, a1, a2, a3, a4, a5, a6⟩ := hagree c
  obtain ⟨r0, r1, r2, r3, r4, args⟩ := h c
  exact ⟨r0.trans ((val_main_v25_eq _ _ _ _ _).trans (ref_x m c a0 a1 a2 a3 a4)),
    r1.trans ((val_main_v86_eq m' c).trans (ref_q0 m c a0 a1 a2 a3 a4 a5 a6)), r2.trans ((val_main_v89_eq m' c).trans (ref_q1 m c a0 a1 a2 a3 a4 a5 a6)),
    r3.trans ((val_main_v92_eq m' c).trans (ref_q2 m c a0 a1 a2 a3 a4 a5 a6)), r4.trans ((val_main_v96_eq m' c).trans (ref_z m c a0 a1 a2 a3 a4 a5 a6)), args⟩

theorem ref_frame [hReference2Ideal : Cert.Reference2Ideal.Facts] : Cert.quiescent_Reference2Ideal := fun m ρ _ =>
  (θ_run Reference2Ideal.defs _ _).mono (fun r h => ⟨fun c => (h c).2.2.2.2.2, sem_eq_zero_of_no_sems (by decide) r.2⟩)
    (Cert.Reference2Ideal.Value.run m ρ)

end Cert.OutQLayer

end
-- ==== Proof.QBlock.lean ====
/-
  One grid point of the query projection, its arithmetic read at an index: the normalised rows, and the rotated columns of
  each head.
-/
module

public import proofs.«01_k».proof.Proof.RotSpec
public import proofs.«01_k».proof.Proof.Gen.Kernel3Ideal.Frame

@[expose] public section

set_option maxRecDepth 16384

noncomputable section

namespace Cert.Kernel3Ideal.Q

open Idealize.ShloMosaic Cert.Kernel3Ideal Cert.Kernel3Ideal.Gen Cert.ConvLayer Cert.Queries

/-- A normalised row times a column of a chunk of the weights. -/
def prj (h : FVec Ideal S512x1024 .bf16) (w : Vec Ideal S1024x512 .bf16) (i : Fin 512) (j : Fin 512) : EReal :=
  ∑ k : Fin 1024, h (ix2 i k) * w (ix2 k j)

/-- A rotated column. -/
def rotP (h : FVec Ideal S512x1024 .bf16) (w : Vec Ideal S1024x512 .bf16) (C S : FVec Ideal S512x128 .f32) (i : Fin 512) (c : Fin 512) : EReal :=
  rotF (prj h w i) (fun d => C (ix2 i d)) (fun d => S (ix2 i d)) c

/-- The rotation's pieces agree with `rotP`, head by head: the numbers that the kernel's slices and turns read. -/
theorem rotP_piece (h : FVec Ideal S512x1024 .bf16) (w : Vec Ideal S1024x512 .bf16) (C S : FVec Ideal S512x128 .f32) (i : Fin 512) (c : Fin 512)
    (a b : Fin 512) (d e : Fin 128) (ha : a.val = c.val) (hb : b.val = c.val / 128 * 128 + (c.val % 128 + 64) % 128)
    (hd : d.val = c.val % 128) (he : e.val = c.val % 128) :
    (∑ k : Fin 1024, h (ix2 i k) * w (ix2 k a)) * C (ix2 i d) + (∑ k : Fin 1024, h (ix2 i k) * w (ix2 k b)) * S (ix2 i e) = rotP h w C S i c :=
  rot_piece (prj h w i) (fun d => C (ix2 i d)) (fun d => S (ix2 i d)) a b d e c ha hb hd he

theorem norm_a (x : Vec Ideal S1x512x1024 .f32) (g : Vec Ideal S1x1024 .f32) (i : Fin 512) (n : Fin 1024) :
    k0_pay3 x g (ix2 i n) = rms (fun k => x (ix3 0 i k)) (fun k => g (ix2 0 k)) n := by
  pointwise [k0_pay3]
  rfl

theorem norm_b (x : Vec Ideal S1x512x1024 .f32) (g : Vec Ideal S1x1024 .f32) (i : Fin 512) (n : Fin 1024) :
    k0_pay29 (k0_pay26 x) (k0_pay27 g) (k0_pay28 x) (ix2 i n) = rms (fun k => x (ix3 0 i k)) (fun k => g (ix2 0 k)) n := by
  pointwise [k0_pay29, k0_pay26, k0_pay27, k0_pay28]
  rfl

section Tiles

variable (x : Vec Ideal S1x512x1024 .f32) (g : Vec Ideal S1x1024 .f32) (t u : Vec Ideal S512x128 .f32) (w : Vec Ideal S1024x512 .bf16)
  (v195 : FVec Ideal S512x1024 .f32) (v197 : FVec Ideal S1x1024 .f32) (v200 : FVec Ideal S512x1 .f32) (C S : FVec Ideal S512x128 .f32)
  (i c : Fin 512)

theorem q0_a0 : k0_pay11 (k0_pay4 t) (k0_pay5 u) (k0_pay6 x g w) (k0_pay8 x g t u w) (k0_pay9 x g t u w) (k0_pay10 x g w) (ix4 0 0 i c) = rotP (k0_pay3 x g) w (k0_pay4 t) (k0_pay5 u) i c := by
  have hc := c.isLt
  unfold k0_pay8 k0_pay9 k0_pay10 k0_pay6
  generalize k0_pay3 x g = h
  generalize k0_pay4 t = C
  generalize k0_pay5 u = S
  pointwise [k0_pay11]
  repeat' split
  all_goals refine rotP_piece h w C S i c _ _ _ _ ?_ ?_ ?_ ?_
  all_goals first | rfl | omega | (dsimp only; omega)

theorem q0_a1 : k0_pay13 C S (k0_pay7 x g w) (ix4 0 0 i c) = rotP (k0_pay3 x g) w C S i c := by
  have hc := c.isLt
  unfold k0_pay7
  generalize k0_pay3 x g = h
  pointwise [k0_pay13]
  repeat' split
  all_goals refine rotP_piece h w C S i c _ _ _ _ ?_ ?_ ?_ ?_
  all_goals first | rfl | omega | (dsimp only; omega)

theorem q0_b0 : k0_pay34 (k0_pay33 v195 v197 v200 t u w) (ix4 0 0 i c) = rotP (k0_pay29 v195 v197 v200) w (k0_pay30 t) (k0_pay31 u) i c := by
  have hc := c.isLt
  unfold k0_pay33
  generalize k0_pay29 v195 v197 v200 = h
  generalize k0_pay30 t = C
  generalize k0_pay31 u = S
  pointwise [k0_pay34]
  repeat' split
  all_goals refine rotP_piece h w C S i c _ _ _ _ ?_ ?_ ?_ ?_
  all_goals first | rfl | omega | (dsimp only; omega)

theorem q0_b1 : k0_pay36 C S (k0_pay32 v195 v197 v200 w) (ix4 0 0 i c) = rotP (k0_pay29 v195 v197 v200) w C S i c := by
  have hc := c.isLt
  unfold k0_pay32
  generalize k0_pay29 v195 v197 v200 = h
  pointwise [k0_pay36]
  repeat' split
  all_goals refine rotP_piece h w C S i c _ _ _ _ ?_ ?_ ?_ ?_
  all_goals first | rfl | omega | (dsimp only; omega)

end Tiles

variable (h : FVec Ideal S512x1024 .bf16) (C S : FVec Ideal S512x128 .f32) (w : Vec Ideal S1024x512 .bf16) (i : Fin 512) (c : Fin 512)

theorem q1_a0 : k0_pay15 C S (k0_pay12 h w) (ix4 0 0 i c) = rotP h w C S i c := by
  have hc := c.isLt
  pointwise [k0_pay15, k0_pay12]
  repeat' split
  all_goals refine rotP_piece h w C S i c _ _ _ _ ?_ ?_ ?_ ?_
  all_goals first | rfl | omega | (dsimp only; omega)

theorem q1_a1 : k0_pay21 C S (k0_pay14 h w) (k0_pay17 h C S w) (k0_pay18 h C S w) (k0_pay19 h w) (k0_pay20 h C w) 64#32 (ix4 0 0 i c) = rotP h w C S i c := by
  have hc := c.isLt
  pointwise [k0_pay21, k0_pay14, k0_pay17, k0_pay18, k0_pay19, k0_pay20]
  repeat' split
  all_goals refine rotP_piece h w C S i c _ _ _ _ ?_ ?_ ?_ ?_
  all_goals first | rfl | omega | (dsimp only; omega)

theorem q1_b0 : k0_pay42 C S (k0_pay35 h w) (k0_pay38 h C S w) (k0_pay40 h C w) (k0_pay41 h w) (ix4 0 0 i c) = rotP h w C S i c := by
  have hc := c.isLt
  pointwise [k0_pay42, k0_pay35, k0_pay38, k0_pay39, k0_pay40, k0_pay41]
  repeat' split
  all_goals refine rotP_piece h w C S i c _ _ _ _ ?_ ?_ ?_ ?_
  all_goals first | rfl | omega | (dsimp only; omega)

theorem q1_b1 : k0_pay45 (k0_pay44 C S (k0_pay37 h w)) (ix4 0 0 i c) = rotP h w C S i c := by
  have hc := c.isLt
  pointwise [k0_pay45, k0_pay44, k0_pay37]
  repeat' split
  all_goals refine rotP_piece h w C S i c _ _ _ _ ?_ ?_ ?_ ?_
  all_goals first | rfl | omega | (dsimp only; omega)

theorem q2_a0 : k0_pay23 C S (k0_pay16 h w) (ix4 0 0 i c) = rotP h w C S i c := by
  have hc := c.isLt
  pointwise [k0_pay23, k0_pay16]
  repeat' split
  all_goals refine rotP_piece h w C S i c _ _ _ _ ?_ ?_ ?_ ?_
  all_goals first | rfl | omega | (dsimp only; omega)

theorem q2_a1 : k0_pay24 C S (k0_pay22 h w) (ix4 0 0 i c) = rotP h w C S i c := by
  have hc := c.isLt
  pointwise [k0_pay24, k0_pay22]
  repeat' split
  all_goals refine rotP_piece h w C S i c _ _ _ _ ?_ ?_ ?_ ?_
  all_goals first | rfl | omega | (dsimp only; omega)

theorem q2_b0 : k0_pay47 C S (k0_pay43 h w) (ix4 0 0 i c) = rotP h w C S i c := by
  have hc := c.isLt
  pointwise [k0_pay47, k0_pay43]
  repeat' split
  all_goals refine rotP_piece h w C S i c _ _ _ _ ?_ ?_ ?_ ?_
  all_goals first | rfl | omega | (dsimp only; omega)

theorem q2_b1 : k0_pay1 C S (k0_pay46 h w) (k0_pay49 h C S w) (k0_pay51 h C w) (k0_pay52 h w) (ix4 0 0 i c) = rotP h w C S i c := by
  have hc := c.isLt
  pointwise [k0_pay1, k0_pay46, k0_pay49, k0_pay50, k0_pay51, k0_pay52]
  repeat' split
  all_goals refine rotP_piece h w C S i c _ _ _ _ ?_ ?_ ?_ ?_
  all_goals first | rfl | omega | (dsimp only; omega)

theorem z_a (wz : Vec Ideal S1024x1024 .bf16) (n : Fin 1024) : k0_pay25 h wz (ix3 0 i n) = ∑ k : Fin 1024, h (ix2 i k) * wz (ix2 k n) := by
  pointwise [k0_pay25]

theorem z_b (wz : Vec Ideal S1024x1024 .bf16) (n : Fin 1024) : k0_pay2 (k0_pay48 h wz) (ix3 0 i n) = ∑ k : Fin 1024, h (ix2 i k) * wz (ix2 k n) := by
  pointwise [k0_pay2, k0_pay48]

end Cert.Kernel3Ideal.Q

end
-- ==== Proof.QPoint.lean ====
/-
  What one grid point of the query projection stores, as functions of the blocks it reads: the rotated query columns of each
  group and key-value head, and the gate columns.
-/
module

public import proofs.«01_k».proof.Proof.QBlock
public import Idealize.ShloMosaic.Lib.Pipeline.ValueKit
public import Idealize.ShloMosaic.Lib.Pipeline.ReadBack

@[expose] public section

set_option maxRecDepth 16384

noncomputable section

namespace Cert.Kernel3Ideal.Q

open Idealize.ShloMosaic Cert.Kernel3Ideal Cert.Kernel3Ideal.Gen Cert.ConvLayer Cert.Queries

theorem ld_rows (X : Vec Ideal S1x1024x1024 .f32) (o : ℕ) (inb : ∀ a, (![0, o, 0] : Fin 3 → ℕ) a + S1x512x1024.size a ≤ S1x1024x1024.size a)
    (i : Fin 512) (k : Fin 1024) (hi : o + i.val < 1024) :
    View.ld X (Rect.unit ![0, o, 0] S1x512x1024.size inb) (ix3 0 i k) = X (ix3 0 ⟨o + i.val, hi⟩ k) := by
  refine View.ld_unit_apply_of _ _ _ _ _ _ fun a => ?_
  match a with
  | ⟨0, _⟩ => rfl
  | ⟨1, _⟩ => rfl
  | ⟨2, _⟩ => exact (Nat.zero_add _).symm

theorem ld_tab (X : Vec Ideal S1024x128 .f32) (o : ℕ) (inb : ∀ a, (![o, 0] : Fin 2 → ℕ) a + S512x128.size a ≤ S1024x128.size a)
    (i : Fin 512) (d : Fin 128) (hi : o + i.val < 1024) :
    View.ld X (Rect.unit ![o, 0] S512x128.size inb) (ix2 i d) = X (ix2 ⟨o + i.val, hi⟩ d) := by
  refine View.ld_unit_apply_of _ _ _ _ _ _ fun a => ?_
  match a with
  | ⟨0, _⟩ => rfl
  | ⟨1, _⟩ => exact (Nat.zero_add _).symm

theorem ld_cols (X : Vec Ideal S1024x4096 .bf16) (o : ℕ) (inb : ∀ a, (![0, o] : Fin 2 → ℕ) a + S1024x512.size a ≤ S1024x4096.size a)
    (k : Fin 1024) (c : Fin 512) (hc : o + c.val < 4096) :
    View.ld X (Rect.unit ![0, o] S1024x512.size inb) (ix2 k c) = X (ix2 k ⟨o + c.val, hc⟩) := by
  refine View.ld_unit_apply_of _ _ _ _ _ _ fun a => ?_
  match a with
  | ⟨0, _⟩ => exact (Nat.zero_add _).symm
  | ⟨1, _⟩ => rfl

theorem ld_gate (X : Vec Ideal S1024x4096 .bf16) (k n : Fin 1024) :
    View.ld X r0_11 (ix2 k n) = X (ix2 k ⟨3072 + n.val, by omega⟩) := by
  refine View.ld_unit_apply_of _ _ _ _ _ _ fun a => ?_
  match a with
  | ⟨0, _⟩ => exact (Nat.zero_add _).symm
  | ⟨1, _⟩ => rfl

theorem ld_g (X : Vec Ideal S1x1024 .f32) (n : Fin 1024) : View.ld X r0_1 (ix2 0 n) = X (ix2 0 n) := by
  refine View.ld_unit_apply_of _ _ _ _ _ _ fun a => ?_
  match a with
  | ⟨0, _⟩ => rfl
  | ⟨1, _⟩ => exact (Nat.zero_add _).symm

variable (x0 : Vec Ideal S1x1024x1024 .f32) (x1 : Vec Ideal S1x1024 .f32) (x2 : Vec Ideal S1024x4096 .bf16) (x3 x4 : Vec Ideal S1024x128 .f32)

/-- A row of the block. -/
def xrow (r : Fin 1024) : Row := fun k => x0 (ix3 0 r k)

/-- That row, normalised. -/
def hrow (r : Fin 1024) : Row := rms (xrow x0 r) (fun k => x1 (ix2 0 k))

/-- A rotated query of the block. -/
def qB (g : Fin 3) (kh : Fin 2) (r : Fin 1024) (c : Fin 512) : EReal :=
  rotF (fun c => proj (hrow x0 x1 r) (fun k n => x2 (ix2 k n)) (qcol g kh c)) (fun d => x3 (ix2 r d)) (fun d => x4 (ix2 r d)) c

/-- What the block of a group's queries holds. -/
def qG (g : Fin 3) (y : S1x2x1024x512.Idx) : EReal := qB x0 x1 x2 x3 x4 g (y 1) (y 2) (y 3)

/-- What the block of gate columns holds. -/
def zG (y : S1x1024x1024.Idx) : EReal :=
  proj (hrow x0 x1 (y 1)) (fun k n => x2 (ix2 k n)) ⟨3072 + (y 2).val, by have : (y 2).val < 1024 := (y 2).isLt; omega⟩

theorem h_a (i : Fin 512) (n : Fin 1024) : k0_pay53 x0 x1 x2 x3 x4 (ix2 i n) = hrow x0 x1 ⟨0 + i.val, by omega⟩ n := by
  unfold k0_pay53
  refine (norm_a _ _ i n).trans ?_
  unfold hrow xrow
  congr 1
  · exact funext fun k => ld_rows x0 0 _ i k _
  · exact funext fun k => ld_g x1 k

theorem h_b (i : Fin 512) (n : Fin 1024) : k0_pay59 x0 x1 x2 x3 x4 (ix2 i n) = hrow x0 x1 ⟨512 + i.val, by omega⟩ n := by
  unfold k0_pay59 k0_pay56 k0_pay57 k0_pay58
  refine (norm_b _ _ i n).trans ?_
  unfold hrow xrow
  congr 1
  · exact funext fun k => ld_rows x0 512 _ i k _
  · exact funext fun k => ld_g x1 k

theorem c_a (i : Fin 512) (d : Fin 128) : k0_pay54 x0 x1 x2 x3 x4 (ix2 i d) = x3 (ix2 ⟨0 + i.val, by omega⟩ d) := by
  unfold k0_pay54
  refine Eq.trans ?_ (ld_tab x3 0 inb_S1024x128_S512x128_0_0 i d _)
  generalize View.ld x3 r0_2 = y
  pointwise [k0_pay4]

theorem s_a (i : Fin 512) (d : Fin 128) : k0_pay55 x0 x1 x2 x3 x4 (ix2 i d) = x4 (ix2 ⟨0 + i.val, by omega⟩ d) := by
  unfold k0_pay55
  refine Eq.trans ?_ (ld_tab x4 0 inb_S1024x128_S512x128_0_0 i d _)
  generalize View.ld x4 r0_2 = y
  pointwise [k0_pay5]

theorem c_b (i : Fin 512) (d : Fin 128) : k0_pay60 x0 x1 x2 x3 x4 (ix2 i d) = x3 (ix2 ⟨512 + i.val, by omega⟩ d) := by
  unfold k0_pay60
  refine Eq.trans ?_ (ld_tab x3 512 inb_S1024x128_S512x128_512_0 i d _)
  generalize View.ld x3 r0_13 = y
  pointwise [k0_pay30]

theorem s_b (i : Fin 512) (d : Fin 128) : k0_pay61 x0 x1 x2 x3 x4 (ix2 i d) = x4 (ix2 ⟨512 + i.val, by omega⟩ d) := by
  unfold k0_pay61
  refine Eq.trans ?_ (ld_tab x4 512 inb_S1024x128_S512x128_512_0 i d _)
  generalize View.ld x4 r0_13 = y
  pointwise [k0_pay31]

/-- One store of queries is a block of `qG`. -/
theorem q_piece (g : Fin 3) (kh : Fin 2) (o ow : ℕ) (ho : o + 512 ≤ 1024) (ew : ow = 1024 * g.val + 512 * kh.val)
    (h : FVec Ideal S512x1024 .bf16) (C S : FVec Ideal S512x128 .f32) (w : Vec Ideal S1x1x512x512 .f32)
    (inb : ∀ a, (![0, ow] : Fin 2 → ℕ) a + S1024x512.size a ≤ S1024x4096.size a)
    (hw : ∀ i c, w (ix4 0 0 i c) = rotP h (View.ld x2 (Rect.unit ![0, ow] S1024x512.size inb)) C S i c)
    (hh : ∀ (i : Fin 512) n, h (ix2 i n) = hrow x0 x1 ⟨o + i.val, by omega⟩ n)
    (hC : ∀ (i : Fin 512) d, C (ix2 i d) = x3 (ix2 ⟨o + i.val, by omega⟩ d)) (hS : ∀ (i : Fin 512) d, S (ix2 i d) = x4 (ix2 ⟨o + i.val, by omega⟩ d))
    (inq : ∀ a, (![0, kh.val, o, 0] : Fin 4 → ℕ) a + S1x1x512x512.size a ≤ S1x2x1024x512.size a) (x : S1x1x512x512.Idx) :
    w x = qG x0 x1 x2 x3 x4 g ((Rect.unit (s := S1x2x1024x512) ![0, kh.val, o, 0] S1x1x512x512.size inq).emb x) := by
  obtain ⟨i, c, rfl⟩ : ∃ (i : Fin 512) (c : Fin 512), x = ix4 0 0 i c := ⟨x 2, x 3, by
    have := eq_ix4 x
    rw [show (0 : Fin 1) = x 0 from (Subsingleton.elim _ _)]
    rw [show x 1 = x 0 from (Subsingleton.elim (α := Fin 1) _ _)] at this
    exact this⟩
  have hi := i.isLt
  have hc := c.isLt
  have hg := g.isLt
  have hk := kh.isLt
  have e : ∀ c : Fin 512, prj h (View.ld x2 (Rect.unit ![0, ow] S1024x512.size inb)) i c
      = proj (hrow x0 x1 ⟨o + i.val, by omega⟩) (fun k n => x2 (ix2 k n)) (qcol g kh c) := fun c => by
    unfold prj proj
    refine Finset.sum_congr rfl fun k _ => ?_
    rw [hh i k, ld_cols x2 ow inb k c (by have := c.isLt; omega)]
    congr 3
    exact Fin.ext (by show ow + c.val = 1024 * g.val + 512 * kh.val + c.val; rw [ew])
  rw [hw i c]
  unfold rotP qG
  rw [funext e, funext (hC i), funext (hS i)]
  have e1 : ((Rect.unit (s := S1x2x1024x512) ![0, kh.val, o, 0] S1x1x512x512.size inq).emb (ix4 0 0 i c)) 1 = kh :=
    Fin.ext (by show kh.val + 1 * 0 = kh.val; omega)
  have e2 : ((Rect.unit (s := S1x2x1024x512) ![0, kh.val, o, 0] S1x1x512x512.size inq).emb (ix4 0 0 i c)) 2 = (⟨o + i.val, by omega⟩ : Fin 1024) :=
    Fin.ext (by show o + 1 * i.val = o + i.val; omega)
  have e3 : ((Rect.unit (s := S1x2x1024x512) ![0, kh.val, o, 0] S1x1x512x512.size inq).emb (ix4 0 0 i c)) 3 = c :=
    Fin.ext (by show 0 + 1 * c.val = c.val; omega)
  rw [e1, e2, e3]
  rfl

/-- One store of rows. -/
theorem row_piece (G : Fin 1024 → Row) (o : ℕ) (ho : o + 512 ≤ 1024) (w : Vec Ideal S1x512x1024 .f32)
    (hw : ∀ (i : Fin 512) n, w (ix3 0 i n) = G ⟨o + i.val, by omega⟩ n)
    (inb : ∀ a, (![0, o, 0] : Fin 3 → ℕ) a + S1x512x1024.size a ≤ S1x1024x1024.size a) (x : S1x512x1024.Idx) :
    w x = (fun y : S1x1024x1024.Idx => G (y 1) (y 2)) ((Rect.unit (s := S1x1024x1024) ![0, o, 0] S1x512x1024.size inb).emb x) := by
  obtain ⟨i, n, rfl⟩ : ∃ (i : Fin 512) (n : Fin 1024), x = ix3 0 i n := ⟨x 1, x 2, by
    have := eq_ix3 x
    rw [show (0 : Fin 1) = x 0 from (Subsingleton.elim _ _)]; exact this⟩
  rw [hw i n]
  exact (congrArg₂ G (Fin.ext (by show o + 1 * i.val = o + i.val; omega)) (Fin.ext (by show 0 + 1 * n.val = n.val; omega))).symm

theorem canon_of {S : Shape} {e : EltTy} (G : S.Idx → Elt Ideal e) (L : List (View.Piece (Elt Ideal) S e)) (h : View.PiecesOf G L) (y : S.Idx)
    (hy : ∃ p ∈ L, y ∈ p.1.set) : View.canon L y = G y :=
  View.canon_eq_of_allAt L y (G y) hy fun p hp x hx => (h.mem p hp x).trans (congrArg G hx)

theorem out5 (y : S1x2x1024x512.Idx) : out0_5 x0 x1 x2 x3 x4 y = qG x0 x1 x2 x3 x4 0 y := by
  unfold out0_5
  refine canon_of (qG x0 x1 x2 x3 x4 0) _ ?_ y (cover0_5 _ _ _ _ y)
  refine ⟨?_, ?_, ?_, ?_, trivial⟩
  · exact q_piece x0 x1 x2 x3 x4 0 1 512 512 (by decide) rfl (k0_pay59 x0 x1 x2 x3 x4) (k0_pay60 x0 x1 x2 x3 x4) (k0_pay61 x0 x1 x2 x3 x4) _ _ (fun i c => q0_b1 _ _ _ _ _ _ i c) (h_b x0 x1 x2 x3 x4) (c_b x0 x1 x2 x3 x4) (s_b x0 x1 x2 x3 x4) (by decide)
  · exact q_piece x0 x1 x2 x3 x4 0 0 512 0 (by decide) rfl (k0_pay59 x0 x1 x2 x3 x4) (k0_pay60 x0 x1 x2 x3 x4) (k0_pay61 x0 x1 x2 x3 x4) _ _ (fun i c => q0_b0 _ _ _ _ _ _ i c) (h_b x0 x1 x2 x3 x4) (c_b x0 x1 x2 x3 x4) (s_b x0 x1 x2 x3 x4) (by decide)
  · exact q_piece x0 x1 x2 x3 x4 0 1 0 512 (by decide) rfl (k0_pay53 x0 x1 x2 x3 x4) (k0_pay54 x0 x1 x2 x3 x4) (k0_pay55 x0 x1 x2 x3 x4) _ _ (fun i c => q0_a1 _ _ _ _ _ i c) (h_a x0 x1 x2 x3 x4) (c_a x0 x1 x2 x3 x4) (s_a x0 x1 x2 x3 x4) (by decide)
  · exact q_piece x0 x1 x2 x3 x4 0 0 0 0 (by decide) rfl (k0_pay53 x0 x1 x2 x3 x4) (k0_pay54 x0 x1 x2 x3 x4) (k0_pay55 x0 x1 x2 x3 x4) _ _ (fun i c => q0_a0 _ _ _ _ _ i c) (h_a x0 x1 x2 x3 x4) (c_a x0 x1 x2 x3 x4) (s_a x0 x1 x2 x3 x4) (by decide)

theorem out6 (y : S1x2x1024x512.Idx) : out0_6 x0 x1 x2 x3 x4 y = qG x0 x1 x2 x3 x4 1 y := by
  unfold out0_6
  refine canon_of (qG x0 x1 x2 x3 x4 1) _ ?_ y (cover0_6 _ _ _ _ y)
  refine ⟨?_, ?_, ?_, ?_, trivial⟩
  · exact q_piece x0 x1 x2 x3 x4 1 1 512 1536 (by decide) rfl (k0_pay59 x0 x1 x2 x3 x4) (k0_pay60 x0 x1 x2 x3 x4) (k0_pay61 x0 x1 x2 x3 x4) _ _ (fun i c => q1_b1 _ _ _ _ i c) (h_b x0 x1 x2 x3 x4) (c_b x0 x1 x2 x3 x4) (s_b x0 x1 x2 x3 x4) (by decide)
  · exact q_piece x0 x1 x2 x3 x4 1 0 512 1024 (by decide) rfl (k0_pay59 x0 x1 x2 x3 x4) (k0_pay60 x0 x1 x2 x3 x4) (k0_pay61 x0 x1 x2 x3 x4) _ _ (fun i c => q1_b0 _ _ _ _ i c) (h_b x0 x1 x2 x3 x4) (c_b x0 x1 x2 x3 x4) (s_b x0 x1 x2 x3 x4) (by decide)
  · exact q_piece x0 x1 x2 x3 x4 1 1 0 1536 (by decide) rfl (k0_pay53 x0 x1 x2 x3 x4) (k0_pay54 x0 x1 x2 x3 x4) (k0_pay55 x0 x1 x2 x3 x4) _ _ (fun i c => q1_a1 _ _ _ _ i c) (h_a x0 x1 x2 x3 x4) (c_a x0 x1 x2 x3 x4) (s_a x0 x1 x2 x3 x4) (by decide)
  · exact q_piece x0 x1 x2 x3 x4 1 0 0 1024 (by decide) rfl (k0_pay53 x0 x1 x2 x3 x4) (k0_pay54 x0 x1 x2 x3 x4) (k0_pay55 x0 x1 x2 x3 x4) _ _ (fun i c => q1_a0 _ _ _ _ i c) (h_a x0 x1 x2 x3 x4) (c_a x0 x1 x2 x3 x4) (s_a x0 x1 x2 x3 x4) (by decide)

theorem out7 (y : S1x2x1024x512.Idx) : out0_7 x0 x1 x2 x3 x4 y = qG x0 x1 x2 x3 x4 2 y := by
  unfold out0_7
  refine canon_of (qG x0 x1 x2 x3 x4 2) _ ?_ y (cover0_7 _ _ _ _ y)
  refine ⟨?_, ?_, ?_, ?_, trivial⟩
  · exact q_piece x0 x1 x2 x3 x4 2 1 512 2560 (by decide) rfl (k0_pay59 x0 x1 x2 x3 x4) (k0_pay60 x0 x1 x2 x3 x4) (k0_pay61 x0 x1 x2 x3 x4) _ _ (fun i c => q2_b1 _ _ _ _ i c) (h_b x0 x1 x2 x3 x4) (c_b x0 x1 x2 x3 x4) (s_b x0 x1 x2 x3 x4) (by decide)
  · exact q_piece x0 x1 x2 x3 x4 2 0 512 2048 (by decide) rfl (k0_pay59 x0 x1 x2 x3 x4) (k0_pay60 x0 x1 x2 x3 x4) (k0_pay61 x0 x1 x2 x3 x4) _ _ (fun i c => q2_b0 _ _ _ _ i c) (h_b x0 x1 x2 x3 x4) (c_b x0 x1 x2 x3 x4) (s_b x0 x1 x2 x3 x4) (by decide)
  · exact q_piece x0 x1 x2 x3 x4 2 1 0 2560 (by decide) rfl (k0_pay53 x0 x1 x2 x3 x4) (k0_pay54 x0 x1 x2 x3 x4) (k0_pay55 x0 x1 x2 x3 x4) _ _ (fun i c => q2_a1 _ _ _ _ i c) (h_a x0 x1 x2 x3 x4) (c_a x0 x1 x2 x3 x4) (s_a x0 x1 x2 x3 x4) (by decide)
  · exact q_piece x0 x1 x2 x3 x4 2 0 0 2048 (by decide) rfl (k0_pay53 x0 x1 x2 x3 x4) (k0_pay54 x0 x1 x2 x3 x4) (k0_pay55 x0 x1 x2 x3 x4) _ _ (fun i c => q2_a0 _ _ _ _ i c) (h_a x0 x1 x2 x3 x4) (c_a x0 x1 x2 x3 x4) (s_a x0 x1 x2 x3 x4) (by decide)

theorem z_piece (h : FVec Ideal S512x1024 .bf16) (o : ℕ) (ho : o + 512 ≤ 1024) (hh : ∀ (i : Fin 512) n, h (ix2 i n) = hrow x0 x1 ⟨o + i.val, by omega⟩ n)
    (i : Fin 512) (n : Fin 1024) : ∑ k : Fin 1024, h (ix2 i k) * View.ld x2 r0_11 (ix2 k n)
      = proj (hrow x0 x1 ⟨o + i.val, by omega⟩) (fun k n => x2 (ix2 k n)) ⟨3072 + n.val, by omega⟩ := by
  unfold proj
  refine Finset.sum_congr rfl fun k _ => ?_
  rw [hh i k, ld_gate x2 k n]

theorem out8 (y : S1x1024x1024.Idx) : out0_8 x0 x1 x2 x3 x4 y = zG x0 x1 x2 y := by
  unfold out0_8
  refine canon_of (zG x0 x1 x2) _ ?_ y (cover0_8 _ _ y)
  refine ⟨?_, ?_, trivial⟩
  · exact row_piece (fun r n => proj (hrow x0 x1 r) (fun k n => x2 (ix2 k n)) ⟨3072 + n.val, by omega⟩) 512 (by decide) _
      (fun i n => (z_b _ i _ n).trans (z_piece x0 x1 x2 _ 512 (by decide) (h_b x0 x1 x2 x3 x4) i n)) (by decide)
  · exact row_piece (fun r n => proj (hrow x0 x1 r) (fun k n => x2 (ix2 k n)) ⟨3072 + n.val, by omega⟩) 0 (by decide) _
      (fun i n => (z_a _ i _ n).trans (z_piece x0 x1 x2 _ 0 (by decide) (h_a x0 x1 x2 x3 x4) i n)) (by decide)

end Cert.Kernel3Ideal.Q

end
-- ==== Proof.QTables.lean ====
/-
  The two tables that the query projection is given, at a place and a channel: the cosine and the signed sine of the angle of
  the token at that place, times the scale.
-/
module

public import proofs.«01_k».proof.Proof.RotSpec
public import proofs.«01_k».proof.Proof.Gen.Kernel3Ideal.Frame

@[expose] public section

set_option maxRecDepth 16384

noncomputable section

namespace Cert.Kernel3Ideal.Q

open Idealize.ShloMosaic Idealize.ShloMosaic.TcCoe Idealize.SL.Sem Cert.Kernel3Ideal Cert.Kernel3Ideal.Gen Cert.ConvLayer Cert.Queries

variable (m : (ℓ : Loc nD τ sig) → Buf (Elt Ideal) ℓ)

theorem cos_table (c : Dev nD) (R : Fin 8192) (d : Fin 128) :
    V m c main_v68 (ix2 R d) = cosT (tok R).val ⟨d.val % 64, by omega⟩ * scale := by
  unfold V
  simp only [hostOps0, hostOps0_1, hostOps0_2, List.flatten_cons, List.flatten_nil, List.append_nil, List.cons_append, List.nil_append, StableHlo.TRef.unary, StableHlo.TRef.ternary]
  entry_read
  pointwise
  rw [base_num, sitofp_num (R.val / 128 % 16) (by omega)]
  exact congrArg (· * scale) (cos_sum (R.val / 2048 * 2048 + R.val % 128 * 16) (R.val / 128 % 16) ⟨d.val % 64, by omega⟩)

theorem sign_eq (d : Fin 128) : Scalar.select (IntOp.cmpi .slt (BitVec.ofNat 32 d.val) 64#32) (Ideal.ofBits .f32 0xBF800000#32) (Ideal.ofBits .f32 0x3F800000#32) = sgn d.val := by
  revert d
  unfold sgn
  have : ∀ d : Fin 128, IntOp.cmpi .slt (BitVec.ofNat 32 d.val) 64#32 = if d.val < 64 then 1#1 else 0#1 := by decide +kernel
  intro d
  rw [this d]
  split <;> rfl

theorem sin_table (c : Dev nD) (R : Fin 8192) (d : Fin 128) :
    V m c main_v70 (ix2 R d) = sgn d.val * sinT (tok R).val ⟨d.val % 64, by omega⟩ * scale := by
  unfold V
  simp only [hostOps0, hostOps0_1, hostOps0_2, List.flatten_cons, List.flatten_nil, List.append_nil, List.cons_append, List.nil_append, StableHlo.TRef.unary, StableHlo.TRef.ternary]
  entry_read
  pointwise
  rw [base_num, sitofp_num (R.val / 128 % 16) (by omega)]
  refine congrArg (· * scale) (congrArg₂ (· * ·) ?_ (sin_sum (R.val / 2048 * 2048 + R.val % 128 * 16) (R.val / 128 % 16) ⟨d.val % 64, by omega⟩))
  exact sign_eq d

end Cert.Kernel3Ideal.Q

end
-- ==== Proof.QInput.lean ====
/-
  What the grid points of the query projection read, as reads of the arguments: point `8 b + s` reads the tokens at places
  `1024 s … 1024 s + 1023` of sequence `b`, the whole weights, and the tables at those places.
-/
module

public import proofs.«01_k».proof.Proof.QTables
public import Idealize.ShloMosaic.Lib.Pipeline.ValueKit

@[expose] public section

set_option maxRecDepth 16384

noncomputable section

namespace Cert.Kernel3Ideal.Q

open Idealize.ShloMosaic Idealize.ShloMosaic.TcCoe Idealize.SL.Sem Cert.Kernel3Ideal Cert.Kernel3Ideal.Gen Cert.ConvLayer Cert.Queries

variable (m : (ℓ : Loc nD τ sig) → Buf (Elt Ideal) ℓ)

/-- Which blocks the input windows hold at a point. -/
theorem idx_in : ∀ t : Fin cfg0.N, win0_0.index t = ![t.val / 8, t.val % 8, 0] ∧ win0_1.index t = ![0, 0] ∧ win0_2.index t = ![0, 0]
    ∧ win0_3.index t = ![t.val % 8, 0] ∧ win0_4.index t = ![t.val % 8, 0] :=
  (by decide +kernel : ∀ t : Fin grid0.N, win0_0.index t = ![t.val / 8, t.val % 8, 0] ∧ win0_1.index t = ![0, 0] ∧ win0_2.index t = ![0, 0]
    ∧ win0_3.index t = ![t.val % 8, 0] ∧ win0_4.index t = ![t.val % 8, 0])

theorem point_lt (t : Fin cfg0.N) : t.val < 16 := t.isLt

/-- The sequence of a point, and the place of a row of its block. -/
def seqNo (t : Fin cfg0.N) : Fin 2 := ⟨t.val / 8, by have := point_lt t; omega⟩
def place (t : Fin cfg0.N) (i : Fin 1024) : Fin 8192 := ⟨1024 * (t.val % 8) + i.val, by omega⟩

theorem v64_at (c : Dev nD) (b : Fin 2) (R : Fin 8192) (k : Fin 1024) :
    V m c main_v64 (ix3 b R k) = m ((c : Thread nD τ).loc main_arg0) (ix3 b (tok R) k) := by
  unfold V
  simp only [hostOps0, hostOps0_1, hostOps0_2, List.flatten_cons, List.flatten_nil, List.append_nil, List.cons_append, List.nil_append, StableHlo.TRef.unary, StableHlo.TRef.ternary]
  entry_read
  pointwise
  rfl

theorem v65_at (c : Dev nD) (k : Fin 1024) : V m c main_v65 (ix2 0 k) = m ((c : Thread nD τ).loc main_arg1) (ix1 k) := by
  unfold V
  simp only [hostOps0, hostOps0_1, hostOps0_2, List.flatten_cons, List.flatten_nil, List.append_nil, List.cons_append, List.nil_append, StableHlo.TRef.unary, StableHlo.TRef.ternary]
  entry_read
  pointwise

theorem v66_at (c : Dev nD) (k : Fin 1024) (n : Fin 4096) : V m c main_v66 (ix2 k n) = m ((c : Thread nD τ).loc main_arg2) (ix2 k n) := by
  unfold V
  simp only [hostOps0, hostOps0_1, hostOps0_2, List.flatten_cons, List.flatten_nil, List.append_nil, List.cons_append, List.nil_append, StableHlo.TRef.unary, StableHlo.TRef.ternary]
  entry_read
  pointwise

theorem x_at (c : Dev nD) (t : Fin cfg0.N) (i k : Fin 1024) :
    iblk m c 0 t (ix3 0 i k) = m ((c : Thread nD τ).loc main_arg0) (ix3 (seqNo t) (tok (place t i)) k) := by
  have e : iblk m c 0 t (ix3 0 i k) = V m c main_v64 (ix3 (seqNo t) (place t i) k) := by
    unfold seqNo place
    blk_ext [iblk, idx_in t]
  exact e.trans (v64_at m c _ _ k)

theorem g_at (c : Dev nD) (t : Fin cfg0.N) (k : Fin 1024) : iblk m c 1 t (ix2 0 k) = m ((c : Thread nD τ).loc main_arg1) (ix1 k) := by
  have e : iblk m c 1 t (ix2 0 k) = V m c main_v65 (ix2 0 k) := by blk_ext [iblk, idx_in t]
  exact e.trans (v65_at m c k)

theorem wi_at (c : Dev nD) (t : Fin cfg0.N) (k : Fin 1024) (n : Fin 4096) :
    iblk m c 2 t (ix2 k n) = m ((c : Thread nD τ).loc main_arg2) (ix2 k n) := by
  have e : iblk m c 2 t (ix2 k n) = V m c main_v66 (ix2 k n) := by blk_ext [iblk, idx_in t]
  exact e.trans (v66_at m c k n)

theorem cos_at (c : Dev nD) (t : Fin cfg0.N) (i : Fin 1024) (d : Fin 128) :
    iblk m c 3 t (ix2 i d) = cosT (tok (place t i)).val ⟨d.val % 64, by omega⟩ * scale := by
  have e : iblk m c 3 t (ix2 i d) = V m c main_v68 (ix2 (place t i) d) := by
    unfold place
    blk_ext [iblk, idx_in t]
  exact e.trans (cos_table m c _ d)

theorem sin_at (c : Dev nD) (t : Fin cfg0.N) (i : Fin 1024) (d : Fin 128) :
    iblk m c 4 t (ix2 i d) = sgn d.val * sinT (tok (place t i)).val ⟨d.val % 64, by omega⟩ * scale := by
  have e : iblk m c 4 t (ix2 i d) = V m c main_v70 (ix2 (place t i) d) := by
    unfold place
    blk_ext [iblk, idx_in t]
  exact e.trans (sin_table m c _ d)

end Cert.Kernel3Ideal.Q

end
-- ==== Proof.QArray.lean ====
/-
  The arrays that the query projection leaves, as functions of its arguments: the rotated queries by group, and the gates,
  with the tokens of each sequence by block and residue.
-/
module

public import proofs.«01_k».proof.Proof.QPoint
public import proofs.«01_k».proof.Proof.QInput

@[expose] public section

set_option maxRecDepth 16384

noncomputable section

namespace Cert.Kernel3Ideal.Q

open Idealize.ShloMosaic Idealize.ShloMosaic.TcCoe Idealize.SL.Sem Cert.Kernel3Ideal Cert.Kernel3Ideal.Gen Cert.ConvLayer Cert.Queries

variable (m : (ℓ : Loc nD τ sig) → Buf (Elt Ideal) ℓ)

/-- Token `i` of sequence `b`. -/
def nextOf (c : Dev nD) (b : Fin 2) (i : Fin 8192) : Row := fun k => m ((c : Thread nD τ).loc main_arg0) (ix3 b i k)
/-- The scale in front of the next layer, and its input projection. -/
def gOf (c : Dev nD) : Row := fun k => m ((c : Thread nD τ).loc main_arg1) (ix1 k)
def wOf (c : Dev nD) (k : Fin 1024) (n : Fin 4096) : EReal := m ((c : Thread nD τ).loc main_arg2) (ix2 k n)

/-- What the arrays hold. -/
def outQ (c : Dev nD) (g : Fin 3) (y : S2x2x8192x512.Idx) : EReal :=
  queryAt (nextOf m c (y 0) (tok (y 2))) (gOf m c) (wOf m c) g (y 1) (tok (y 2)).val (y 3)
def outZ (c : Dev nD) (y : S2x8192x1024.Idx) : EReal := gateAt (nextOf m c (y 0) (tok (y 1))) (gOf m c) (wOf m c) (y 2)

theorem hrow_eq (c : Dev nD) (t : Fin cfg0.N) (i : Fin 1024) :
    hrow (iblk m c 0 t) (iblk m c 1 t) i
      = rms (nextOf m c (seqNo t) (tok (place t i))) (gOf m c) := by
  unfold hrow
  rw [funext (g_at m c t)]
  unfold xrow
  rw [funext (x_at m c t i)]
  rfl

theorem w_eq (c : Dev nD) (t : Fin cfg0.N) : (fun k n => iblk m c 2 t (ix2 k n)) = wOf m c := funext fun k => funext fun n => wi_at m c t k n

theorem q_eq (c : Dev nD) (t : Fin cfg0.N) (g : Fin 3) (kh : Fin 2) (i : Fin 1024) (j : Fin 512) :
    qB (iblk m c 0 t) (iblk m c 1 t) (iblk m c 2 t) (iblk m c 3 t) (iblk m c 4 t) g kh i j
      = queryAt (nextOf m c (seqNo t) (tok (place t i))) (gOf m c) (wOf m c) g kh (tok (place t i)).val j := by
  unfold qB queryAt
  rw [hrow_eq, w_eq, funext (cos_at m c t i), funext (sin_at m c t i)]
  exact rot_eq _ _ _

theorem outQ_of (c : Dev nD) (g : Fin 3) (y : S2x2x8192x512.Idx) (b kh : Fin 2) (R : Fin 8192) (j : Fin 512) (h0 : b.val = (y 0).val)
    (h1 : kh.val = (y 1).val) (h2 : R.val = (y 2).val) (h3 : j.val = (y 3).val) :
    queryAt (nextOf m c b (tok R)) (gOf m c) (wOf m c) g kh (tok R).val j = outQ m c g y := by
  obtain rfl : b = y 0 := Fin.ext h0
  obtain rfl : kh = y 1 := Fin.ext h1
  obtain rfl : R = y 2 := Fin.ext h2
  obtain rfl : j = y 3 := Fin.ext h3
  rfl

theorem outZ_of (c : Dev nD) (y : S2x8192x1024.Idx) (b : Fin 2) (R : Fin 8192) (n : Fin 1024) (h0 : b.val = (y 0).val) (h1 : R.val = (y 1).val)
    (h2 : n.val = (y 2).val) : gateAt (nextOf m c b (tok R)) (gOf m c) (wOf m c) n = outZ m c y := by
  obtain rfl : b = y 0 := Fin.ext h0
  obtain rfl : R = y 1 := Fin.ext h1
  obtain rfl : n = y 2 := Fin.ext h2
  rfl

theorem z_eq (c : Dev nD) (t : Fin cfg0.N) (i : Fin 1024) (n : Fin 1024) :
    zG (iblk m c 0 t) (iblk m c 1 t) (iblk m c 2 t) (ix3 0 i n)
      = gateAt (nextOf m c (seqNo t) (tok (place t i))) (gOf m c) (wOf m c) n := by
  unfold zG gateAt
  rw [w_eq]
  exact congrArg (fun h => proj h (wOf m c) _) (hrow_eq m c t i)

theorem idx_out : ∀ t : Fin cfg0.N, win0_5.index t = ![t.val / 8, 0, t.val % 8, 0] ∧ win0_6.index t = ![t.val / 8, 0, t.val % 8, 0]
    ∧ win0_7.index t = ![t.val / 8, 0, t.val % 8, 0] ∧ win0_8.index t = ![t.val / 8, t.val % 8, 0] :=
  (by decide +kernel : ∀ t : Fin grid0.N, win0_5.index t = ![t.val / 8, 0, t.val % 8, 0] ∧ win0_6.index t = ![t.val / 8, 0, t.val % 8, 0]
    ∧ win0_7.index t = ![t.val / 8, 0, t.val % 8, 0] ∧ win0_8.index t = ![t.val / 8, t.val % 8, 0])

theorem q0_array (c : Dev nD) : (dats m 0 c).arrAt 5 cfg0.N = (outQ m c 0 : S2x2x8192x512.Idx → Elt Ideal .f32) := by
  refine (dats m 0 c).arrAt_eq_of_covers 5 _ (by decide +kernel) fun t hf y => ?_
  blk_simp
  rw [after0_5]
  obtain ⟨kh, i, j, rfl⟩ : ∃ (kh : Fin 2) (i : Fin 1024) (j : Fin 512), y = ix4 0 kh i j := ⟨y 1, y 2, y 3, by
    have := eq_ix4 y
    rw [show (0 : Fin 1) = y 0 from (Subsingleton.elim _ _)]; exact this⟩
  refine (out5 _ _ _ _ _ _).trans ((q_eq m c t 0 kh i j).trans ?_)
  refine outQ_of m c 0 _ _ _ _ _ ?_ ?_ ?_ ?_
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)

theorem q1_array (c : Dev nD) : (dats m 0 c).arrAt 6 cfg0.N = (outQ m c 1 : S2x2x8192x512.Idx → Elt Ideal .bf16) := by
  refine (dats m 0 c).arrAt_eq_of_covers 6 _ (by decide +kernel) fun t hf y => ?_
  blk_simp
  rw [after0_6]
  obtain ⟨kh, i, j, rfl⟩ : ∃ (kh : Fin 2) (i : Fin 1024) (j : Fin 512), y = ix4 0 kh i j := ⟨y 1, y 2, y 3, by
    have := eq_ix4 y
    rw [show (0 : Fin 1) = y 0 from (Subsingleton.elim _ _)]; exact this⟩
  refine (out6 _ _ _ _ _ _).trans ((q_eq m c t 1 kh i j).trans ?_)
  refine outQ_of m c 1 _ _ _ _ _ ?_ ?_ ?_ ?_
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)

theorem q2_array (c : Dev nD) : (dats m 0 c).arrAt 7 cfg0.N = (outQ m c 2 : S2x2x8192x512.Idx → Elt Ideal .bf16) := by
  refine (dats m 0 c).arrAt_eq_of_covers 7 _ (by decide +kernel) fun t hf y => ?_
  blk_simp
  rw [after0_7]
  obtain ⟨kh, i, j, rfl⟩ : ∃ (kh : Fin 2) (i : Fin 1024) (j : Fin 512), y = ix4 0 kh i j := ⟨y 1, y 2, y 3, by
    have := eq_ix4 y
    rw [show (0 : Fin 1) = y 0 from (Subsingleton.elim _ _)]; exact this⟩
  refine (out7 _ _ _ _ _ _).trans ((q_eq m c t 2 kh i j).trans ?_)
  refine outQ_of m c 2 _ _ _ _ _ ?_ ?_ ?_ ?_
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)

theorem z_array (c : Dev nD) : (dats m 0 c).arrAt 8 cfg0.N = (outZ m c : S2x8192x1024.Idx → Elt Ideal .bf16) := by
  refine (dats m 0 c).arrAt_eq_of_covers 8 _ (by decide +kernel) fun t hf y => ?_
  blk_simp
  rw [after0_8]
  obtain ⟨i, n, rfl⟩ : ∃ (i : Fin 1024) (n : Fin 1024), y = ix3 0 i n := ⟨y 1, y 2, by
    have := eq_ix3 y
    rw [show (0 : Fin 1) = y 0 from (Subsingleton.elim _ _)]; exact this⟩
  refine (out8 _ _ _ _ _ _).trans ((z_eq m c t i n).trans ?_)
  refine outZ_of m c _ _ _ _ ?_ ?_ ?_
  · blk_simp [idx_out t] <;> first | rfl | (dsimp only [place, seqNo]; omega)
  · blk_simp [idx_out t] <;> first | rfl | (dsimp only [place, seqNo]; omega)
  · blk_simp [idx_out t] <;> first | rfl | (dsimp only [place, seqNo]; omega)

end Cert.Kernel3Ideal.Q

end
-- ==== Proof.QRun.lean ====
/-
  A whole run of the query projection: the four arrays that it leaves, its arguments unchanged.
-/
module

public import proofs.«01_k».proof.Proof.QArray

@[expose] public section

set_option maxRecDepth 16384

noncomputable section

namespace Cert.Kernel3Ideal.Q

open Idealize.ShloMosaic Idealize.ShloMosaic.TcCoe Idealize.SL.Sem Cert.Kernel3Ideal Cert.Kernel3Ideal.Gen

variable (m : (ℓ : Loc nD τ sig) → Buf (Elt Ideal) ℓ)

set_option maxHeartbeats 2000000 in
theorem out_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v71_0) = (outQ m c 0 : S2x2x8192x512.Idx → Elt Ideal .f32)
      ∧ r.2.mem ((c.tc : Thread nD τ).loc main_v71_1) = (outQ m c 1 : S2x2x8192x512.Idx → Elt Ideal .bf16)
      ∧ r.2.mem ((c.tc : Thread nD τ).loc main_v71_2) = (outQ m c 2 : S2x2x8192x512.Idx → Elt Ideal .bf16)
      ∧ r.2.mem ((c.tc : Thread nD τ).loc main_v71_3) = (outZ m c : S2x8192x1024.Idx → Elt Ideal .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 5).trans (q0_array m c), ((h c).1 6).trans (q1_array m c),
      ((h c).1 7).trans (q2_array m c), ((h c).1 8).trans (z_array m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel3Ideal.Q

end
-- ==== Proof.QRef.lean ====
/-
  The reference's query projection, operation by operation, read at an index.
-/
module

public import proofs.«01_k».proof.Proof.RotSpec
public import proofs.«01_k».proof.Proof.Gen.Reference3Ideal.Read

@[expose] public section

set_option maxRecDepth 16384

noncomputable section

namespace Cert.Reference3Ideal.Q

open Idealize.ShloMosaic Cert.Reference3Ideal Cert.Reference3Ideal.Gen Cert.Reference3Ideal.Read Cert.ConvLayer Cert.Queries

variable (x0 : Vec Ideal S2x8192x1024 .f32) (x1 : Vec Ideal S1024 .f32) (x2 : Vec Ideal S1024x4096 .f32)

/-- Token `i` of sequence `b`. -/
abbrev nx (b : Fin 2) (i : Fin 8192) : Row := fun k => x0 (ix3 b i k)

theorem norm_at (b : Fin 2) (i : Fin 8192) (k : Fin 1024) :
    val_main_v12 (F := Ideal) x0 x1 (ix3 b i k) = rms (nx x0 b i) (fun k => x1 (ix1 k)) k := by
  pointwise [val_main_v0, val_main_cst, val_main_v1, val_main_v2, val_main_cst_0, val_main_v3, val_main_v4, val_main_cst_1, val_main_v5, val_main_v6,
    val_main_v7, val_main_v8, val_main_v9, val_main_v10, val_main_v11, val_main_v12]
  rfl

theorem proj_at (b : Fin 2) (i : Fin 8192) (n : Fin 4096) :
    val_main_v13 (F := Ideal) x0 x1 x2 (ix3 b i n) = proj (rms (nx x0 b i) (fun k => x1 (ix1 k))) (fun k n => x2 (ix2 k n)) n := by
  pointwise [val_main_v13]
  simp only [norm_at]
  rfl

theorem z_out (b : Fin 2) (R : Fin 8192) (n : Fin 1024) :
    val_main_v70 (F := Ideal) x0 x1 x2 (ix3 b R n) = gateAt (nx x0 b (tok R)) (fun k => x1 (ix1 k)) (fun k n => x2 (ix2 k n)) n := by
  pointwise [val_main_v55, val_main_v67, val_main_v68, val_main_v69, val_main_v70]
  exact proj_at x0 x1 x2 b (tok R) _

theorem angle_at (n : Fin 8192) (e : Fin 64) : val_main_v30 (F := Ideal) (ix2 n e) = num n.val * freq e := by
  pointwise [val_main_v16, val_main_v17, val_main_v18, val_main_cst_2, val_main_v19, val_main_v20, val_main_cst_3, val_main_v21, val_main_v22, val_main_cst_4,
    val_main_v23, val_main_v24, val_main_v25, val_main_v26, val_main_v27, val_main_v28, val_main_v29, val_main_v30]
  rw [← sitofp_num _ (by omega)]
  rfl

theorem cos_at (n : Fin 8192) (e : Fin 64) : val_main_v31 (F := Ideal) (ix2 n e) = cosT n.val e := by
  pointwise [val_main_v31]
  rw [angle_at]
  rfl

theorem sin_at (n : Fin 8192) (e : Fin 64) : val_main_v33 (F := Ideal) (ix2 n e) = sinT n.val e := by
  pointwise [val_main_v33]
  rw [angle_at]
  rfl

theorem head_at (b : Fin 2) (i : Fin 8192) (h : Fin 24) (d : Fin 128) :
    val_main_v15 (F := Ideal) x0 x1 x2 (ix4 b i h d) = val_main_v13 (F := Ideal) x0 x1 x2 (ix3 b i ⟨128 * h.val + d.val, by omega⟩) := by
  pointwise [val_main_v14, val_main_v15]
  exact congrArg (fun j => val_main_v13 (F := Ideal) x0 x1 x2 (ix3 b i j)) (Fin.ext (by show h.val * 128 + d.val = 128 * h.val + d.val; omega))

theorem rot_at (b : Fin 2) (i : Fin 8192) (h : Fin 24) (d : Fin 128) :
    val_main_v53 (F := Ideal) x0 x1 x2 (ix4 b i h d) = headAt (fun n => val_main_v13 (F := Ideal) x0 x1 x2 (ix3 b i n)) i.val h d := by
  pointwise [val_main_v32, val_main_v34, val_main_v35, val_main_v36, val_main_v37, val_main_v38, val_main_v39, val_main_v40, val_main_v41, val_main_v42,
    val_main_v43, val_main_v44, val_main_v45, val_main_v46, val_main_v47, val_main_v48, val_main_v49, val_main_v50, val_main_v51, val_main_cst_5, val_main_v52, val_main_v53]
  simp only [cos_at, sin_at, head_at]
  rfl

theorem flat_at (b : Fin 2) (i : Fin 8192) (g : Fin 3) (kh : Fin 2) (c : Fin 512) :
    val_main_v54 (F := Ideal) x0 x1 x2 (ix5 b i g kh c)
      = queryAt (nx x0 b i) (fun k => x1 (ix1 k)) (fun k n => x2 (ix2 k n)) g kh i.val c := by
  pointwise [val_main_v54]
  refine (rot_at x0 x1 x2 b i _ _).trans ((head_eq _ _ g kh c _ _ rfl rfl).trans ?_)
  simp only [proj_at]
  rfl

theorem perm_at (g : Fin 3) (b : Fin 2) (kh : Fin 2) (R : Fin 8192) (c : Fin 512) :
    val_main_v58 (F := Ideal) x0 x1 x2 (ix5 g b kh R c)
      = queryAt (nx x0 b (tok R)) (fun k => x1 (ix1 k)) (fun k n => x2 (ix2 k n)) g kh (tok R).val c := by
  pointwise [val_main_v56, val_main_v57, val_main_v58]
  exact flat_at x0 x1 x2 b (tok R) g kh c

theorem q0_out (b kh : Fin 2) (R : Fin 8192) (c : Fin 512) :
    val_main_v60 (F := Ideal) x0 x1 x2 (ix4 b kh R c)
      = queryAt (nx x0 b (tok R)) (fun k => x1 (ix1 k)) (fun k n => x2 (ix2 k n)) 0 kh (tok R).val c := by
  pointwise [val_main_v59, val_main_v60]
  exact perm_at x0 x1 x2 0 b kh R c

theorem q1_out (b kh : Fin 2) (R : Fin 8192) (c : Fin 512) :
    val_main_v63 (F := Ideal) x0 x1 x2 (ix4 b kh R c)
      = queryAt (nx x0 b (tok R)) (fun k => x1 (ix1 k)) (fun k n => x2 (ix2 k n)) 1 kh (tok R).val c := by
  pointwise [val_main_v61, val_main_v62, val_main_v63]
  exact perm_at x0 x1 x2 1 b kh R c

theorem q2_out (b kh : Fin 2) (R : Fin 8192) (c : Fin 512) :
    val_main_v66 (F := Ideal) x0 x1 x2 (ix4 b kh R c)
      = queryAt (nx x0 b (tok R)) (fun k => x1 (ix1 k)) (fun k n => x2 (ix2 k n)) 2 kh (tok R).val c := by
  pointwise [val_main_v64, val_main_v65, val_main_v66]
  exact perm_at x0 x1 x2 2 b kh R c

end Cert.Reference3Ideal.Q

end
-- ==== Proof.QClaim.lean ====
/-
  The query projection and its reference leave the same four arrays.
-/
module

public import proofs.«01_k».proof.Defs
public import proofs.«01_k».proof.Proof.QRun
public import proofs.«01_k».proof.Proof.QRef
public import proofs.«01_k».proof.Proof.Gen.Reference3Ideal.Run

@[expose] public section

set_option maxRecDepth 16384

noncomputable section

namespace Cert.QLayer

open Idealize.ShloMosaic Idealize.SL.Sem
open Cert.Kernel3Ideal.Q Cert.Reference3Ideal.Q Cert.Reference3Ideal.Read

variable (m : (ℓ : Loc Kernel3Ideal.nD Kernel3Ideal.τ Kernel3Ideal.sig) → Buf (Elt Ideal) ℓ) (c : Dev Kernel3Ideal.nD)

theorem ref_q0 {x0 : Vec Ideal Reference3Ideal.S2x8192x1024 .f32} {x1 : Vec Ideal Reference3Ideal.S1024 .f32} {x2 : Vec Ideal Reference3Ideal.S1024x4096 .f32}
    (h0 : x0 = m ((c.tc : Thread Kernel3Ideal.nD Kernel3Ideal.τ).loc Kernel3Ideal.main_arg0))
    (h1 : x1 = m ((c.tc : Thread Kernel3Ideal.nD Kernel3Ideal.τ).loc Kernel3Ideal.main_arg1))
    (h2 : x2 = m ((c.tc : Thread Kernel3Ideal.nD Kernel3Ideal.τ).loc Kernel3Ideal.main_arg2)) :
    val_main_v60 (F := Ideal) x0 x1 x2 = (outQ m c 0 : Kernel3Ideal.S2x2x8192x512.Idx → Elt Ideal .f32) := by
  subst h0 h1 h2
  funext y
  exact (congrArg _ (eq_ix4 y)).trans (q0_out _ _ _ (y 0) (y 1) (y 2) (y 3))

theorem ref_q1 {x0 : Vec Ideal Reference3Ideal.S2x8192x1024 .f32} {x1 : Vec Ideal Reference3Ideal.S1024 .f32} {x2 : Vec Ideal Reference3Ideal.S1024x4096 .f32}
    (h0 : x0 = m ((c.tc : Thread Kernel3Ideal.nD Kernel3Ideal.τ).loc Kernel3Ideal.main_arg0))
    (h1 : x1 = m ((c.tc : Thread Kernel3Ideal.nD Kernel3Ideal.τ).loc Kernel3Ideal.main_arg1))
    (h2 : x2 = m ((c.tc : Thread Kernel3Ideal.nD Kernel3Ideal.τ).loc Kernel3Ideal.main_arg2)) :
    val_main_v63 (F := Ideal) x0 x1 x2 = (outQ m c 1 : Kernel3Ideal.S2x2x8192x512.Idx → Elt Ideal .bf16) := by
  subst h0 h1 h2
  funext y
  exact (congrArg _ (eq_ix4 y)).trans (q1_out _ _ _ (y 0) (y 1) (y 2) (y 3))

theorem ref_q2 {x0 : Vec Ideal Reference3Ideal.S2x8192x1024 .f32} {x1 : Vec Ideal Reference3Ideal.S1024 .f32} {x2 : Vec Ideal Reference3Ideal.S1024x4096 .f32}
    (h0 : x0 = m ((c.tc : Thread Kernel3Ideal.nD Kernel3Ideal.τ).loc Kernel3Ideal.main_arg0))
    (h1 : x1 = m ((c.tc : Thread Kernel3Ideal.nD Kernel3Ideal.τ).loc Kernel3Ideal.main_arg1))
    (h2 : x2 = m ((c.tc : Thread Kernel3Ideal.nD Kernel3Ideal.τ).loc Kernel3Ideal.main_arg2)) :
    val_main_v66 (F := Ideal) x0 x1 x2 = (outQ m c 2 : Kernel3Ideal.S2x2x8192x512.Idx → Elt Ideal .bf16) := by
  subst h0 h1 h2
  funext y
  exact (congrArg _ (eq_ix4 y)).trans (q2_out _ _ _ (y 0) (y 1) (y 2) (y 3))

theorem ref_z {x0 : Vec Ideal Reference3Ideal.S2x8192x1024 .f32} {x1 : Vec Ideal Reference3Ideal.S1024 .f32} {x2 : Vec Ideal Reference3Ideal.S1024x4096 .f32}
    (h0 : x0 = m ((c.tc : Thread Kernel3Ideal.nD Kernel3Ideal.τ).loc Kernel3Ideal.main_arg0))
    (h1 : x1 = m ((c.tc : Thread Kernel3Ideal.nD Kernel3Ideal.τ).loc Kernel3Ideal.main_arg1))
    (h2 : x2 = m ((c.tc : Thread Kernel3Ideal.nD Kernel3Ideal.τ).loc Kernel3Ideal.main_arg2)) :
    val_main_v70 (F := Ideal) x0 x1 x2 = (outZ m c : Kernel3Ideal.S2x8192x1024.Idx → Elt Ideal .bf16) := by
  subst h0 h1 h2
  funext y
  exact (congrArg _ (eq_ix3 y)).trans (z_out _ _ _ (y 0) (y 1) (y 2))

theorem same [hKernel3Ideal : Cert.Kernel3Ideal.Facts] [hReference3Ideal : Cert.Reference3Ideal.Facts] :
    Cert.algebraic_Kernel3Ideal_Reference3Ideal := by
  intro m ρ m' ρ' _ hagree
  refine ⟨fun c => outQ m c 0, fun c => outQ m c 1, fun c => outQ m c 2, fun c => outZ m c, out_run m ρ,
    (θ_run Reference3Ideal.defs _ _).mono (fun r h c => ?_) (Cert.Reference3Ideal.Value.run m' ρ')⟩
  obtain ⟨a0, a1, a2⟩ := hagree c
  obtain ⟨r0, r1, r2, r3, args⟩ := h c
  exact ⟨r0.trans ((val_main_v60_eq m' c).trans (ref_q0 m c a0 a1 a2)), r1.trans ((val_main_v63_eq m' c).trans (ref_q1 m c a0 a1 a2)),
    r2.trans ((val_main_v66_eq m' c).trans (ref_q2 m c a0 a1 a2)), r3.trans ((val_main_v70_eq _ _ _).trans (ref_z m c a0 a1 a2)), args⟩

theorem ref_frame [hReference3Ideal : Cert.Reference3Ideal.Facts] : Cert.quiescent_Reference3Ideal := fun m ρ _ =>
  (θ_run Reference3Ideal.defs _ _).mono (fun r h => ⟨fun c => (h c).2.2.2.2, sem_eq_zero_of_no_sems (by decide) r.2⟩)
    (Cert.Reference3Ideal.Value.run m ρ)

end Cert.QLayer

end
-- ==== Proof.LastSlab.lean ====
/-
  The scratch slab of the last output projection. A tile's rows are ordered by residue mod 16; a column of 128 channels is
  written with stride 4 into one plane of the slab, read back in four runs of 128 rows, and written with stride 4 into the
  other plane, where its rows are in token order.
-/
module

public import proofs.«01_k».proof.Proof.Gen.Kernel4Ideal.Skeleton
public import Idealize.ShloMosaic.Lib.Pipeline.ValueKit

@[expose] public section

set_option maxRecDepth 16384

noncomputable section

namespace Cert.Kernel4Ideal.Last

open Idealize.ShloMosaic Cert.Kernel4Ideal Cert.Kernel4Ideal.Gen

/-- What has been written to the slab, last first. -/
abbrev Slab := List (View.Piece (Elt Ideal) S8x2x512x128 .f32)

/-- The two planes of a column. -/
abbrev planes (c : ℕ) (hc : c < 8) : Rect S8x2x512x128 :=
  Rect.unit ![c, 0, 0, 0] S1x2x512x128.size
    (fun a => by fin_cases a <;> simp <;> omega)

/-- Every fourth row of plane `p`, from row `o`: `n` of them. -/
abbrev comb (p o n : ℕ) (hp : p < 2) (ho : o + 4 * (n - 1) < 512) : Rect ⟨3, ![2, 512, 128]⟩ where
  off := ![p, o, 0]
  size := ![1, n, 128]
  stride := ![1, 4, 1]
  inb a := by fin_cases a <;> simp <;> omega
  stride_pos a := by fin_cases a <;> simp

/-- The same rows, of a column's block. -/
abbrev combUp (p o n : ℕ) (hp : p < 2) (ho : o + 4 * (n - 1) < 512) : Rect ⟨4, ![1, 2, 512, 128]⟩ :=
  (comb p o n hp ho).consLift ![1, 2, 512, 128] rfl (fun a => by fin_cases a <;> rfl)

/-- The same rows of a column, in the slab. -/
abbrev rowsAt (c p o n : ℕ) (hc : c < 8) (hp : p < 2) (ho : o + 4 * (n - 1) < 512) : Rect S8x2x512x128 :=
  (planes c hc).within (combUp p o n hp ho) (fun _ => rfl)

/-- A run of `n` rows of plane `p`, from row `o`, -/
abbrev run (p o n : ℕ) (hp : p < 2) (ho : o + n ≤ 512) : LoadRect ⟨3, ![2, 512, 128]⟩ :=
  (Rect.unit ![p, o, 0] ![1, n, 128] (fun a => by fin_cases a <;> simp <;> omega)).toLoadRect

/-- of a column's block, -/
abbrev runUp (p o n : ℕ) (hp : p < 2) (ho : o + n ≤ 512) : LoadRect ⟨4, ![1, 2, 512, 128]⟩ :=
  (run p o n hp ho).consLift ![1, 2, 512, 128] rfl (fun a => by fin_cases a <;> rfl)

/-- of a column, in the slab. -/
abbrev runAt (c p o n : ℕ) (hc : c < 8) (hp : p < 2) (ho : o + n ≤ 512) : LoadRect S8x2x512x128 :=
  (planes c hc).withinL (runUp p o n hp ho) (fun _ => rfl)

/-- `n` rows written with stride 4. -/
abbrev strip (c p o n : ℕ) (hc : c < 8) (hp : p < 2) (ho : o + 4 * (n - 1) < 512) (w : (⟨3, ![1, n, 128]⟩ : Shape).Idx → Elt Ideal .f32) :
    View.Piece (Elt Ideal) S8x2x512x128 .f32 :=
  ⟨rowsAt c p o n hc hp ho, Rect.payAlong (r := comb p o n hp ho) (R := combUp p o n hp ho) (Rect.numel_consLift _ _ _ _) w⟩

/-- `n` rows read back from the writes `L`. -/
abbrev back (v : View sig .tc .vmem S8x2x512x128 .f32) (L : Slab) (c p o n : ℕ) (hc : c < 8) (hp : p < 2) (ho : o + n ≤ 512) :
    (⟨3, ![1, n, 128]⟩ : Shape).Idx → Elt Ideal .f32 :=
  LoadRect.valAlong (lr := run p o n hp ho) (LR := runUp p o n hp ho) (LoadRect.numel_consLift _ _ _ _) (v.readCov L (runAt c p o n hc hp ho))

/-- The 32 rows of residue `j` of a tile, in the channels of a column. -/
abbrev cut (T : FVec Ideal S512x1024 .f32) (j c : ℕ) (hj : j < 16) (hc : c < 8) : FVec Ideal S1x32x128 .f32 :=
  shapeCast S1x32x128 (extractStridedSlice S32x128 ![32 * j, 128 * c] T
    ⟨rfl, fun a => by fin_cases a <;> simp <;> omega⟩) shapeCasts_S32x128_S1x32x128

/-- The first `n` residues written to plane 1. -/
def parts (T : FVec Ideal S512x1024 .f32) (c : ℕ) (hc : c < 8) (L : Slab) : ℕ → Slab
  | 0 => L
  | s + 1 => strip c 1 (128 * (s / 4 % 4) + s % 4) 32 hc (by omega) (by omega) (cut T (4 * (s % 4) + s / 4 % 4) c (by omega) hc) :: parts T c hc L s

/-- A run as it is copied: its own values. -/
abbrev recast (X : Vec Ideal S1x128x128 .f32) : Vec Ideal S1x128x128 .f32 :=
  shapeCast S1x128x128 (shapeCast S128x128 X shapeCasts_S1x128x128_S128x128) shapeCasts_S128x128_S1x128x128

/-- The first `n` runs copied to plane 0. -/
def copies (v : View sig .tc .vmem S8x2x512x128 .f32) (c : ℕ) (hc : c < 8) (L : Slab) : ℕ → Slab
  | 0 => L
  | s + 1 => strip c 0 (s % 4) 128 hc (by omega) (by omega)
      (recast (back v (copies v c hc L s) c 1 (128 * (s % 4)) 128 hc (by omega) (by omega))) :: copies v c hc L s

/-- A column after its writes. -/
abbrev colOf (v : View sig .tc .vmem S8x2x512x128 .f32) (T : FVec Ideal S512x1024 .f32) (c : ℕ) (hc : c < 8) (L : Slab) : Slab :=
  copies v c hc (parts T c hc L 16) 4

theorem cut_at (T : FVec Ideal S512x1024 .f32) (j c : ℕ) (hj : j < 16) (hc : c < 8) (k : Fin 32) (l : Fin 128) :
    cut T j c hj hc (ix3 0 k l) = T (ix2 ⟨32 * j + k.val, by omega⟩ ⟨128 * c + l.val, by omega⟩) := by
  unfold cut
  pointwise

theorem recast_at (X : Vec Ideal S1x128x128 .f32) (k l : Fin 128) : recast X (ix3 0 k l) = X (ix3 0 k l) := by
  unfold recast
  pointwise

/-- Where a strided row sits in the slab. -/
theorem rowsAt_at (c p o n : ℕ) (hc : c < 8) (hp : p < 2) (ho : o + 4 * (n - 1) < 512) (k : Fin n) (l : Fin 128) (i : Fin 512) (hi : i.val = o + 4 * k.val) :
    (planes c hc).emb ((combUp p o n hp ho).emb (fun a => Fin.cons (0 : Fin 1) (ix3 0 k l : (⟨3, ![1, n, 128]⟩ : Shape).Idx) a))
      = (ix4 ⟨c, hc⟩ ⟨p, hp⟩ i l : S8x2x512x128.Idx) := by
  funext a
  apply Fin.ext
  fin_cases a
  · show c + 1 * (0 + 1 * 0) = c; omega
  · show 0 + 1 * (p + 1 * 0) = p; omega
  · show 0 + 1 * (o + 4 * k.val) = i.val; omega
  · show 0 + 1 * (0 + 1 * l.val) = l.val; omega

/-- A row of the last write, -/
theorem strip_hit (c p o n : ℕ) (hc : c < 8) (hp : p < 2) (ho : o + 4 * (n - 1) < 512) (w : (⟨3, ![1, n, 128]⟩ : Shape).Idx → Elt Ideal .f32) (L : Slab)
    (k : Fin n) (l : Fin 128) (i : Fin 512) (hi : i.val = o + 4 * k.val) :
    View.canon (strip c p o n hc hp ho w :: L) (ix4 ⟨c, hc⟩ ⟨p, hp⟩ i l) = w (ix3 0 k l) :=
  (congrArg (View.canon (strip c p o n hc hp ho w :: L)) (rowsAt_at c p o n hc hp ho k l i hi).symm).trans
    ((View.canon_cons_within_emb (planes c hc) (combUp p o n hp ho) (fun _ => rfl) _ L _).trans
      (Rect.payAlong_consLift (comb p o n hp ho) ![1, 2, 512, 128] rfl (fun a => by fin_cases a <;> rfl) w _ _ _ (fun _ => rfl)))

/-- and a row that it does not touch. -/
theorem strip_miss (c p o n : ℕ) (hc : c < 8) (hp : p < 2) (ho : o + 4 * (n - 1) < 512) (w : (⟨3, ![1, n, 128]⟩ : Shape).Idx → Elt Ideal .f32) (L : Slab)
    (q : Fin 2) (i : Fin 512) (l : Fin 128) (h : q.val = p → ∀ k < n, i.val ≠ o + 4 * k) :
    View.canon (strip c p o n hc hp ho w :: L) (ix4 ⟨c, hc⟩ q i l) = View.canon L (ix4 ⟨c, hc⟩ q i l) := by
  refine View.canon_cons_of_not_mem _ _ fun hm => ?_
  have hm' := (LoadRect.mem_set _).1 hm
  obtain ⟨j1, b1, e1⟩ := hm' (1 : Fin 4)
  obtain ⟨j2, b2, e2⟩ := hm' (2 : Fin 4)
  have c1 : j1 < 1 := b1
  have d1 : q.val = 0 + p + 1 * j1 := e1
  have c2 : j2 < n := b2
  have d2 : i.val = 0 + o + 4 * j2 := e2
  exact h (by omega) j2 c2 (by omega)

/-- Plane 1 after the residues are written. -/
theorem parts_at (T : FVec Ideal S512x1024 .f32) (c : ℕ) (hc : c < 8) (L : Slab) (n : ℕ) (hn : n ≤ 16) (i : Fin 512) (l : Fin 128)
    (h : 4 * (i.val / 128) + i.val % 4 < n) :
    View.canon (parts T c hc L n) (ix4 ⟨c, hc⟩ 1 i l)
      = T (ix2 ⟨32 * (4 * (i.val % 4) + i.val / 128) + i.val % 128 / 4, by omega⟩ ⟨128 * c + l.val, by omega⟩) := by
  induction n with
  | zero => omega
  | succ s ih =>
    unfold parts
    by_cases e : 4 * (i.val / 128) + i.val % 4 = s
    · refine (strip_hit c 1 _ 32 hc _ _ _ _ ⟨i.val % 128 / 4, by omega⟩ l i (by dsimp only; omega)).trans ?_
      refine (cut_at T _ c _ hc _ l).trans ?_
      exact congrArg (fun a => T (ix2 a _)) (Fin.ext (by dsimp only; omega))
    · exact (strip_miss c 1 _ 32 hc _ _ _ _ 1 i l fun _ k hk => by omega).trans (ih (by omega) (by omega))

/-- A run read back. -/
theorem back_at (v : View sig .tc .vmem S8x2x512x128 .f32) (L : Slab) (c p o n : ℕ) (hc : c < 8) (hp : p < 2) (ho : o + n ≤ 512)
    (k : Fin n) (l : Fin 128) :
    back v L c p o n hc hp ho (ix3 0 k l) = View.canon L (ix4 ⟨c, hc⟩ ⟨p, hp⟩ ⟨o + k.val, by omega⟩ l) := by
  unfold back
  rw [View.readCov_eq_canon']
  have hx := Shape.reshapeEquiv_cons_one (d := ![1, n, 128]) ((run p o n hp ho).numel_consLift ![1, 2, 512, 128] rfl (fun a => by fin_cases a <;> rfl))
    (ix3 0 k l : (⟨3, ![1, n, 128]⟩ : Shape).Idx)
  refine congrArg (fun x => View.canon L ((runAt c p o n hc hp ho).idx x)) hx |>.trans (congrArg (View.canon L) ?_)
  funext a
  apply Fin.ext
  fin_cases a
  · show c + 0 + 1 * 0 = c; omega
  · show 0 + p + 1 * 0 = p; omega
  · show 0 + o + 1 * k.val = o + k.val; omega
  · show 0 + 0 + 1 * l.val = l.val; omega

/-- The copies leave plane 1 alone, -/
theorem copies_plane1 (v : View sig .tc .vmem S8x2x512x128 .f32) (c : ℕ) (hc : c < 8) (L : Slab) (n : ℕ) (i : Fin 512) (l : Fin 128) :
    View.canon (copies v c hc L n) (ix4 ⟨c, hc⟩ 1 i l) = View.canon L (ix4 ⟨c, hc⟩ 1 i l) := by
  induction n with
  | zero => rfl
  | succ s ih =>
    unfold copies
    exact (strip_miss c 0 _ 128 hc _ _ _ _ 1 i l fun h => absurd h (by decide)).trans ih

/-- and leave its rows in plane 0, four apart. -/
theorem copies_plane0 (v : View sig .tc .vmem S8x2x512x128 .f32) (c : ℕ) (hc : c < 8) (L : Slab) (n : ℕ) (hn : n ≤ 4) (i : Fin 512) (l : Fin 128)
    (h : i.val % 4 < n) :
    View.canon (copies v c hc L n) (ix4 ⟨c, hc⟩ 0 i l) = View.canon L (ix4 ⟨c, hc⟩ 1 ⟨128 * (i.val % 4) + i.val / 4, by omega⟩ l) := by
  induction n with
  | zero => omega
  | succ s ih =>
    unfold copies
    by_cases e : i.val % 4 = s
    · refine (strip_hit c 0 _ 128 hc _ _ _ _ ⟨i.val / 4, by omega⟩ l i (by dsimp only; omega)).trans ?_
      refine (recast_at _ _ l).trans ((back_at v _ c 1 (128 * (s % 4)) 128 hc _ _ _ l).trans ((copies_plane1 v c hc L s _ l).trans ?_))
      exact congrArg (fun a => View.canon L (ix4 ⟨c, hc⟩ 1 a l)) (Fin.ext (by dsimp only; omega))
    · exact (strip_miss c 0 _ 128 hc _ _ _ _ 0 i l fun _ k hk => by omega).trans (ih (by omega) (by omega))

/-- A column read back: row `i` is slot `32 (i mod 16) + i / 16` of the tile. -/
theorem col_at (v : View sig .tc .vmem S8x2x512x128 .f32) (T : FVec Ideal S512x1024 .f32) (c : ℕ) (hc : c < 8) (L : Slab) (i : Fin 512) (l : Fin 128) :
    back v (colOf v T c hc L) c 0 0 512 hc (by omega) (by omega) (ix3 0 i l)
      = T (ix2 ⟨32 * (i.val % 16) + i.val / 16, by omega⟩ ⟨128 * c + l.val, by omega⟩) := by
  refine (back_at v _ c 0 0 512 hc _ _ i l).trans ((copies_plane0 v c hc _ 4 le_rfl _ l (by dsimp only; omega)).trans
    ((parts_at T c hc L 16 le_rfl _ l (by dsimp only; omega)).trans ?_))
  have e : ∀ a b : ℕ, a < 4 → b < 128 → 32 * (4 * ((128 * a + b) % 4) + (128 * a + b) / 128) + (128 * a + b) % 128 / 4 = 32 * (4 * (b % 4) + a) + b / 4 :=
    fun a b _ _ => by omega
  refine congrArg (fun a => T (ix2 a _)) (Fin.ext ?_)
  dsimp only
  rw [Nat.zero_add, e _ _ (by omega) (by omega)]
  omega

end Cert.Kernel4Ideal.Last

end
-- ==== Proof.LastTiles.lean ====
/-
  The two tiles of 512 rows that a grid point of the last output projection puts in order.
-/
module

public import proofs.«01_k».proof.Proof.LastSlab
public import proofs.«01_k».proof.Proof.Gen.Kernel4Ideal.Frame.RunA

@[expose] public section

set_option maxRecDepth 16384

noncomputable section

namespace Cert.Kernel4Ideal.Last

open Idealize.ShloMosaic Cert.Kernel4Ideal Cert.Kernel4Ideal.Gen

variable (c : Dev nD) (arg2 : Memref sig .tc .vmem S1x1x16x64x1024 .bf16) (harg2 : arg2.IsWhole)
    (arg3 : Memref sig .tc .vmem S1x1x16x64x1024 .bf16) (harg3 : arg3.IsWhole) (arg4 : Memref sig .tc .vmem S1x1x16x64x1024 .f32) (harg4 : arg4.IsWhole)
    (arg5 : Memref sig .tc .vmem S1024x1024 .bf16) (harg5 : arg5.IsWhole) (arg6 : Memref sig .tc .vmem S1x1024 .f32) (harg6 : arg6.IsWhole)
    (x0 x1 : Vec Ideal S1x1x16x64x1024 .bf16) (x2 : Vec Ideal S1x1x16x64x1024 .f32) (x3 : Vec Ideal S1024x1024 .bf16) (x4 : Vec Ideal S1x1024 .f32)

/-- The two tiles. -/
def tileA : FVec Ideal S512x1024 .f32 :=
  k0_pay34 (kernelRun0_A.sl.r_4 c arg4 harg4 x2) (kernelRun0_A.sl.r_5 c arg2 harg2 arg3 harg3 arg5 harg5 x0 x1 x3) (kernelRun0_A.sl.r_6 c arg6 harg6 x4)
    (kernelRun0_A.sl.r_7 c arg2 harg2 arg3 harg3 arg5 harg5 x0 x1 x3)
def tileB : FVec Ideal S512x1024 .f32 := kernelRun0_A.sl.r_37 c arg2 harg2 arg3 harg3 arg4 harg4 arg5 harg5 arg6 harg6 x0 x1 x2 x3 x4

end Cert.Kernel4Ideal.Last

end
-- ==== Proof.LastBlock.lean ====
/-
  The arithmetic of the last output projection on a tile of 512 rows: sixteen residues of 32 rows each, stacked; the gated
  rows projected, normalised, and added to the stream.
-/
module

public import proofs.«01_k».proof.Proof.RotSpec
public import proofs.«01_k».proof.Proof.LastTiles

@[expose] public section

set_option maxRecDepth 16384

noncomputable section

namespace Cert.Kernel4Ideal.Last

open Idealize.ShloMosaic Cert.Kernel4Ideal Cert.Kernel4Ideal.Gen Cert.ConvLayer Cert.Queries

/-- The 32 rows of residue `r` of a block, from row `o` of the residue. -/
abbrev resid {e : EltTy} (X : Vec Ideal S1x1x16x64x1024 e) (o r : ℕ) (ho : o + 32 ≤ 64) (hr : r < 16) : Vec Ideal S32x1024 e :=
  shapeCast S32x1024 (View.ld X (Rect.unit ![0, 0, r, o, 0] S1x1x1x32x1024.size (fun a => by fin_cases a <;> simp <;> omega)))
    shapeCasts_S1x1x1x32x1024_S32x1024

/-- The residues of a block, stacked. -/
abbrev stack {e : EltTy} (X : Vec Ideal S1x1x16x64x1024 e) (o : ℕ) (ho : o + 32 ≤ 64) : Vec Ideal S512x1024 e :=
  concatenate S512x1024 0 [
    ⟨S32x1024, resid X o 0 ho (by omega)⟩,
    ⟨S32x1024, resid X o 1 ho (by omega)⟩,
    ⟨S32x1024, resid X o 2 ho (by omega)⟩,
    ⟨S32x1024, resid X o 3 ho (by omega)⟩,
    ⟨S32x1024, resid X o 4 ho (by omega)⟩,
    ⟨S32x1024, resid X o 5 ho (by omega)⟩,
    ⟨S32x1024, resid X o 6 ho (by omega)⟩,
    ⟨S32x1024, resid X o 7 ho (by omega)⟩,
    ⟨S32x1024, resid X o 8 ho (by omega)⟩,
    ⟨S32x1024, resid X o 9 ho (by omega)⟩,
    ⟨S32x1024, resid X o 10 ho (by omega)⟩,
    ⟨S32x1024, resid X o 11 ho (by omega)⟩,
    ⟨S32x1024, resid X o 12 ho (by omega)⟩,
    ⟨S32x1024, resid X o 13 ho (by omega)⟩,
    ⟨S32x1024, resid X o 14 ho (by omega)⟩,
    ⟨S32x1024, resid X o 15 ho (by omega)⟩]
    concatenates_S32x1024_S32x1024_S32x1024_S32x1024_S32x1024_S32x1024_S32x1024_S32x1024_S32x1024_S32x1024_S32x1024_S32x1024_S32x1024_S32x1024_S32x1024_S32x1024_S512x1024_d0

theorem resid_at {e : EltTy} (X : Vec Ideal S1x1x16x64x1024 e) (o r : ℕ) (ho : o + 32 ≤ 64) (hr : r < 16) (k : Fin 32) (n : Fin 1024) :
    resid X o r ho hr (ix2 k n) = X (ix5 0 0 ⟨r, hr⟩ ⟨o + k.val, by omega⟩ n) := by
  have e : ∀ Y : Vec Ideal S1x1x1x32x1024 e, shapeCast S32x1024 Y shapeCasts_S1x1x1x32x1024_S32x1024 (ix2 k n) = Y (ix5 0 0 0 k n) := fun Y => by pointwise
  refine (e _).trans (congrArg X ?_)
  funext a
  apply Fin.ext
  fin_cases a
  · rfl
  · rfl
  · show r + 1 * 0 = r; omega
  · show o + 1 * k.val = o + k.val; omega
  · show 0 + 1 * n.val = n.val; omega

theorem stack_at {e : EltTy} (X : Vec Ideal S1x1x16x64x1024 e) (o : ℕ) (ho : o + 32 ≤ 64) (q : Fin 512) (n : Fin 1024) :
    stack X o ho (ix2 q n) = X (ix5 0 0 ⟨q.val / 32, by omega⟩ ⟨o + q.val % 32, by omega⟩ n) := by
  have h := concatenate_ofFn_apply (t := S512x1024) (s₁ := S32x1024) 0 (fun r : Fin 16 => resid X o r.val ho r.isLt)
    concatenates_S32x1024_S32x1024_S32x1024_S32x1024_S32x1024_S32x1024_S32x1024_S32x1024_S32x1024_S32x1024_S32x1024_S32x1024_S32x1024_S32x1024_S32x1024_S32x1024_S512x1024_d0
    rfl 32 rfl (ix2 q n) ⟨q.val / 32, by omega⟩ rfl (ix2 ⟨q.val % 32, by omega⟩ n) rfl
    (fun b hb => by fin_cases b; exacts [absurd rfl hb, rfl])
  exact h.trans (resid_at X o _ ho _ _ n)

/-- The gated rows of a tile. -/
abbrev gatedBlk (o z : Vec Ideal S512x1024 .bf16) : FVec Ideal S512x1024 .bf16 :=
  truncf .bf16 (mulf (extf .f32 o bitsLt_bf16_f32) (mulf (extf .f32 z bitsLt_bf16_f32) (logistic (extf .f32 z bitsLt_bf16_f32)))) bitsLt_bf16_f32

/-- The gated rows, projected. -/
abbrev projBlk (o z : Vec Ideal S512x1024 .bf16) (w : Vec Ideal S1024x1024 .bf16) : FVec Ideal S512x1024 .f32 :=
  k0_pay31 (gatedBlk o z) w

/-- The next rows of a tile. -/
abbrev nextBlk (o z : Vec Ideal S512x1024 .bf16) (x : Vec Ideal S512x1024 .f32) (w : Vec Ideal S1024x1024 .bf16) (g : Vec Ideal S1x1024 .f32) :
    FVec Ideal S512x1024 .f32 :=
  k0_pay34 x (k0_pay31 (gatedBlk o z) w) (k0_pay32 g) (k0_pay33 (gatedBlk o z) w)

theorem nextBlk_at (o z : Vec Ideal S512x1024 .bf16) (x : Vec Ideal S512x1024 .f32) (w : Vec Ideal S1024x1024 .bf16) (g : Vec Ideal S1x1024 .f32)
    (q : Fin 512) (n : Fin 1024) :
    nextBlk o z x w g (ix2 q n)
      = nextRow (fun k => o (ix2 q k)) (fun k => z (ix2 q k)) (fun k => x (ix2 q k)) (fun k n => w (ix2 k n)) (fun k => g (ix2 0 k)) n := by
  unfold nextBlk gatedBlk
  pointwise [k0_pay34, k0_pay31, k0_pay32, k0_pay33]
  rfl

variable (c : Dev nD) (arg2 : Memref sig .tc .vmem S1x1x16x64x1024 .bf16) (harg2 : arg2.IsWhole)
    (arg3 : Memref sig .tc .vmem S1x1x16x64x1024 .bf16) (harg3 : arg3.IsWhole) (arg4 : Memref sig .tc .vmem S1x1x16x64x1024 .f32) (harg4 : arg4.IsWhole)
    (arg5 : Memref sig .tc .vmem S1024x1024 .bf16) (harg5 : arg5.IsWhole) (arg6 : Memref sig .tc .vmem S1x1024 .f32) (harg6 : arg6.IsWhole)
    (x0 x1 : Vec Ideal S1x1x16x64x1024 .bf16) (x2 : Vec Ideal S1x1x16x64x1024 .f32) (x3 : Vec Ideal S1024x1024 .bf16) (x4 : Vec Ideal S1x1024 .f32)

/-- The whole of a small operand. -/
abbrev wAll (w : Vec Ideal S1024x1024 .bf16) : Vec Ideal S1024x1024 .bf16 := View.ld w (Rect.unit ![0, 0] S1024x1024.size inb_S1024x1024_S1024x1024_0_0)
abbrev gAll (g : Vec Ideal S1x1024 .f32) : Vec Ideal S1x1024 .f32 := View.ld g (Rect.unit ![0, 0] S1x1024.size inb_S1x1024_S1x1024_0_0)

theorem tileA_eq : tileA c arg2 harg2 arg3 harg3 arg4 harg4 arg5 harg5 arg6 harg6 x0 x1 x2 x3 x4
    = nextBlk (stack (arg2.view.read (Elt Ideal) (harg2.unread x0)) 0 (by omega)) (stack (arg3.view.read (Elt Ideal) (harg3.unread x1)) 0 (by omega))
        (stack (arg4.view.read (Elt Ideal) (harg4.unread x2)) 0 (by omega)) (wAll (arg5.view.read (Elt Ideal) (harg5.unread x3)))
        (gAll (arg6.view.read (Elt Ideal) (harg6.unread x4))) := rfl

theorem tileB_eq : tileB c arg2 harg2 arg3 harg3 arg4 harg4 arg5 harg5 arg6 harg6 x0 x1 x2 x3 x4
    = nextBlk (stack (arg2.view.read (Elt Ideal) (harg2.unread x0)) 32 (by omega)) (stack (arg3.view.read (Elt Ideal) (harg3.unread x1)) 32 (by omega))
        (stack (arg4.view.read (Elt Ideal) (harg4.unread x2)) 32 (by omega)) (wAll (arg5.view.read (Elt Ideal) (harg5.unread x3)))
        (gAll (arg6.view.read (Elt Ideal) (harg6.unread x4))) := rfl

/-- A row of the block a point leaves: residue `r`, place `k`. -/
def rowOut (r : Fin 16) (k : Fin 64) : Row :=
  nextRow (fun n => x0 (ix5 0 0 r k n)) (fun n => x1 (ix5 0 0 r k n)) (fun n => x2 (ix5 0 0 r k n)) (fun k n => x3 (ix2 k n)) (fun k => x4 (ix2 0 k))

theorem next_stack (o : ℕ) (ho : o + 32 ≤ 64) (q : Fin 512) (n : Fin 1024) :
    nextBlk (stack x0 o ho) (stack x1 o ho) (stack x2 o ho) (wAll x3) (gAll x4) (ix2 q n)
      = rowOut x0 x1 x2 x3 x4 ⟨q.val / 32, by omega⟩ ⟨o + q.val % 32, by omega⟩ n := by
  have hw : ∀ k n : Fin 1024, wAll x3 (ix2 k n) = x3 (ix2 k n) := fun k n => congrArg x3 (by
    funext a; apply Fin.ext; fin_cases a
    · show 0 + 1 * k.val = k.val; omega
    · show 0 + 1 * n.val = n.val; omega)
  have hg : ∀ n : Fin 1024, gAll x4 (ix2 0 n) = x4 (ix2 0 n) := fun n => congrArg x4 (by
    funext a; apply Fin.ext; fin_cases a
    · rfl
    · show 0 + 1 * n.val = n.val; omega)
  refine (nextBlk_at _ _ _ _ _ q n).trans ?_
  unfold rowOut
  simp only [stack_at x0 o ho q, stack_at x1 o ho q, stack_at x2 o ho q, hw, hg]

theorem tileA_at (q : Fin 512) (n : Fin 1024) : tileA c arg2 harg2 arg3 harg3 arg4 harg4 arg5 harg5 arg6 harg6 x0 x1 x2 x3 x4 (ix2 q n)
    = rowOut x0 x1 x2 x3 x4 ⟨q.val / 32, by omega⟩ ⟨0 + q.val % 32, by omega⟩ n := by
  rw [tileA_eq, harg2.read_unread, harg3.read_unread, harg4.read_unread, harg5.read_unread, harg6.read_unread]
  exact next_stack x0 x1 x2 x3 x4 0 _ q n

theorem tileB_at (q : Fin 512) (n : Fin 1024) : tileB c arg2 harg2 arg3 harg3 arg4 harg4 arg5 harg5 arg6 harg6 x0 x1 x2 x3 x4 (ix2 q n)
    = rowOut x0 x1 x2 x3 x4 ⟨q.val / 32, by omega⟩ ⟨32 + q.val % 32, by omega⟩ n := by
  rw [tileB_eq, harg2.read_unread, harg3.read_unread, harg4.read_unread, harg5.read_unread, harg6.read_unread]
  exact next_stack x0 x1 x2 x3 x4 32 _ q n

end Cert.Kernel4Ideal.Last

end
-- ==== Proof.LastPoint.lean ====
/-
  The block that a grid point of the last output projection leaves: row `i` is row `i / 16` of residue `i mod 16`.
-/
module

public import proofs.«01_k».proof.Proof.LastBlock
public import proofs.«01_k».proof.Proof.Gen.Kernel4Ideal.Frame

@[expose] public section

set_option maxRecDepth 16384

noncomputable section

namespace Cert.Kernel4Ideal.Last

open Idealize.ShloMosaic Cert.Kernel4Ideal Cert.Kernel4Ideal.Gen Cert.ConvLayer Cert.Queries

/-- Eight columns read back, side by side. -/
abbrev wide (w0 w1 w2 w3 w4 w5 w6 w7 : Vec Ideal S1x512x128 .f32) : Vec Ideal S1x512x1024 .f32 :=
  k0_pay2 (shapeCast S512x128 w0 shapeCasts_S1x512x128_S512x128) (shapeCast S512x128 w1 shapeCasts_S1x512x128_S512x128)
    (shapeCast S512x128 w2 shapeCasts_S1x512x128_S512x128) (shapeCast S512x128 w3 shapeCasts_S1x512x128_S512x128)
    (shapeCast S512x128 w4 shapeCasts_S1x512x128_S512x128) (shapeCast S512x128 w5 shapeCasts_S1x512x128_S512x128)
    (shapeCast S512x128 w6 shapeCasts_S1x512x128_S512x128) w7

theorem wide_at (T : Fin 1024 → EReal) (w0 w1 w2 w3 w4 w5 w6 w7 : Vec Ideal S1x512x128 .f32) (i : Fin 512)
    (h : ∀ (c : Fin 8) (l : Fin 128), ![w0, w1, w2, w3, w4, w5, w6, w7] c (ix3 0 i l) = T ⟨128 * c.val + l.val, by omega⟩) (n : Fin 1024) :
    wide w0 w1 w2 w3 w4 w5 w6 w7 (ix3 0 i n) = T n := by
  have e := concatenate_ofFn_apply (t := S512x1024) (s₁ := S512x128) 1
    (fun c : Fin 8 => shapeCast S512x128 (![w0, w1, w2, w3, w4, w5, w6, w7] c) shapeCasts_S1x512x128_S512x128)
    concatenates_S512x128_S512x128_S512x128_S512x128_S512x128_S512x128_S512x128_S512x128_S512x1024_d1
    rfl 128 rfl (ix2 i n) ⟨n.val / 128, by omega⟩ rfl (ix2 i ⟨n.val % 128, by omega⟩) rfl
    (fun b hb => by fin_cases b; exacts [rfl, absurd rfl hb])
  have d : ∀ X : Vec Ideal S512x1024 .f32, shapeCast S1x512x1024 X shapeCasts_S512x1024_S1x512x1024 (ix3 0 i n) = X (ix2 i n) := fun X => by pointwise
  have s : ∀ (X : Vec Ideal S1x512x128 .f32) (l : Fin 128), shapeCast S512x128 X shapeCasts_S1x512x128_S512x128 (ix2 i l) = X (ix3 0 i l) :=
    fun X l => by pointwise
  refine (d _).trans (e.trans ((s _ _).trans ((h _ _).trans (congrArg T (Fin.ext ?_)))))
  dsimp only
  omega

variable (c : Dev nD) (i : grid0.Coords) (arg2 : Memref sig .tc .vmem S1x1x16x64x1024 .bf16) (harg2 : arg2.IsWhole)
    (arg3 : Memref sig .tc .vmem S1x1x16x64x1024 .bf16) (harg3 : arg3.IsWhole) (arg4 : Memref sig .tc .vmem S1x1x16x64x1024 .f32) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024x1024 .f32) (harg7 : arg7.IsWhole)
    (arg8 : Memref sig .tc .vmem S8x2x512x128 .f32) (harg8 : arg8.IsWhole)
    (x0 x1 : Vec Ideal S1x1x16x64x1024 .bf16) (x2 : Vec Ideal S1x1x16x64x1024 .f32) (x3 : Vec Ideal S1024x1024 .bf16) (x4 : Vec Ideal S1x1024 .f32)

/-- A column of a tile, read back from the slab after its writes. -/
abbrev colBack (v : View sig .tc .vmem S8x2x512x128 .f32) (T : FVec Ideal S512x1024 .f32) (k : ℕ) (hk : k < 8) (L : Slab) : Vec Ideal S1x512x128 .f32 :=
  back v (colOf v T k hk L) k 0 0 512 hk (by omega) (by omega)

/-- A tile after its eight columns were put in order: from what the slab held before each column. -/
abbrev sorted (v : View sig .tc .vmem S8x2x512x128 .f32) (T : FVec Ideal S512x1024 .f32) (L0 L1 L2 L3 L4 L5 L6 L7 : Slab) : Vec Ideal S1x512x1024 .f32 :=
  wide (colBack v T 0 (by omega) L0) (colBack v T 1 (by omega) L1) (colBack v T 2 (by omega) L2) (colBack v T 3 (by omega) L3)
    (colBack v T 4 (by omega) L4) (colBack v T 5 (by omega) L5) (colBack v T 6 (by omega) L6) (colBack v T 7 (by omega) L7)

theorem sorted_at (v : View sig .tc .vmem S8x2x512x128 .f32) (T : FVec Ideal S512x1024 .f32) (L0 L1 L2 L3 L4 L5 L6 L7 : Slab) (i : Fin 512) (n : Fin 1024) :
    sorted v T L0 L1 L2 L3 L4 L5 L6 L7 (ix3 0 i n) = T (ix2 ⟨32 * (i.val % 16) + i.val / 16, by omega⟩ n) := by
  refine wide_at (fun n => T (ix2 ⟨32 * (i.val % 16) + i.val / 16, by omega⟩ n)) _ _ _ _ _ _ _ _ i (fun k l => ?_) n
  fin_cases k
  exacts [col_at v T 0 _ L0 i l, col_at v T 1 _ L1 i l, col_at v T 2 _ L2 i l, col_at v T 3 _ L3 i l,
    col_at v T 4 _ L4 i l, col_at v T 5 _ L5 i l, col_at v T 6 _ L6 i l, col_at v T 7 _ L7 i l]

/-- What the slab held after `n` writes, column by column. -/
theorem pieces_eq : (kernelRun0_A (F := Ideal) c i arg2 harg2 arg3 harg3 arg4 harg4 arg5 harg5 arg6 harg6 arg7 harg7 arg8 harg8 x0 x1 x2 x3 x4).1
    = [⟨Rect.unit ![0, 512, 0] ![1, 512, 1024] (fun a => by fin_cases a <;> simp),
        sorted arg8.view (tileB c arg2 harg2 arg3 harg3 arg4 harg4 arg5 harg5 arg6 harg6 x0 x1 x2 x3 x4)
          (kernelRun0_A.sl.HS0_160 c arg2 harg2 arg3 harg3 arg4 harg4 arg5 harg5 arg6 harg6 arg8 x0 x1 x2 x3 x4)
          (kernelRun0_A.sl.HS0_180 c arg2 harg2 arg3 harg3 arg4 harg4 arg5 harg5 arg6 harg6 arg8 x0 x1 x2 x3 x4)
          (kernelRun0_A.sl.HS0_200 c arg2 harg2 arg3 harg3 arg4 harg4 arg5 harg5 arg6 harg6 arg8 x0 x1 x2 x3 x4)
          (kernelRun0_A.sl.HS0_220 c arg2 harg2 arg3 harg3 arg4 harg4 arg5 harg5 arg6 harg6 arg8 x0 x1 x2 x3 x4)
          (kernelRun0_A.sl.HS0_240 c arg2 harg2 arg3 harg3 arg4 harg4 arg5 harg5 arg6 harg6 arg8 x0 x1 x2 x3 x4)
          (kernelRun0_A.sl.HS0_260 c arg2 harg2 arg3 harg3 arg4 harg4 arg5 harg5 arg6 harg6 arg8 x0 x1 x2 x3 x4)
          (kernelRun0_A.sl.HS0_280 c arg2 harg2 arg3 harg3 arg4 harg4 arg5 harg5 arg6 harg6 arg8 x0 x1 x2 x3 x4)
          (kernelRun0_A.sl.HS0_300 c arg2 harg2 arg3 harg3 arg4 harg4 arg5 harg5 arg6 harg6 arg8 x0 x1 x2 x3 x4)⟩,
      ⟨Rect.unit ![0, 0, 0] ![1, 512, 1024] (fun a => by fin_cases a <;> simp),
        sorted arg8.view (tileA c arg2 harg2 arg3 harg3 arg4 harg4 arg5 harg5 arg6 harg6 x0 x1 x2 x3 x4)
          []
          (kernelRun0_A.sl.HS0_20 c arg2 harg2 arg3 harg3 arg4 harg4 arg5 harg5 arg6 harg6 arg8 x0 x1 x2 x3 x4)
          (kernelRun0_A.sl.HS0_40 c arg2 harg2 arg3 harg3 arg4 harg4 arg5 harg5 arg6 harg6 arg8 x0 x1 x2 x3 x4)
          (kernelRun0_A.sl.HS0_60 c arg2 harg2 arg3 harg3 arg4 harg4 arg5 harg5 arg6 harg6 arg8 x0 x1 x2 x3 x4)
          (kernelRun0_A.sl.HS0_80 c arg2 harg2 arg3 harg3 arg4 harg4 arg5 harg5 arg6 harg6 arg8 x0 x1 x2 x3 x4)
          (kernelRun0_A.sl.HS0_100 c arg2 harg2 arg3 harg3 arg4 harg4 arg5 harg5 arg6 harg6 arg8 x0 x1 x2 x3 x4)
          (kernelRun0_A.sl.HS0_120 c arg2 harg2 arg3 harg3 arg4 harg4 arg5 harg5 arg6 harg6 arg8 x0 x1 x2 x3 x4)
          (kernelRun0_A.sl.HS0_140 c arg2 harg2 arg3 harg3 arg4 harg4 arg5 harg5 arg6 harg6 arg8 x0 x1 x2 x3 x4)⟩] := rfl

/-- The rows a point leaves. -/
def outG (y : S1x1024x1024.Idx) : EReal :=
  rowOut x0 x1 x2 x3 x4 ⟨(y 1).val % 16, by omega⟩ ⟨(y 1).val / 16, by have : (y 1).val < 1024 := (y 1).isLt; omega⟩ (y 2)

theorem slot (a b : ℕ) (ha : a < 16) (hb : b < 32) : (32 * a + b) / 32 = a ∧ (32 * a + b) % 32 = b := by omega

theorem rowOut_congr {r r' : Fin 16} {k k' : Fin 64} {n n' : Fin 1024} (hr : r.val = r'.val) (hk : k.val = k'.val) (hn : n.val = n'.val) :
    rowOut x0 x1 x2 x3 x4 r k n = rowOut x0 x1 x2 x3 x4 r' k' n' := by
  rw [Fin.ext hr, Fin.ext hk, Fin.ext hn]

theorem piece_of (o : ℕ) (ho : o + 512 ≤ 1024) (inb) (w : Vec Ideal S1x512x1024 .f32)
    (h : ∀ (i : Fin 512) (n : Fin 1024), w (ix3 0 i n) = rowOut x0 x1 x2 x3 x4 ⟨(o + i.val) % 16, by omega⟩ ⟨(o + i.val) / 16, by omega⟩ n)
    (x : S1x512x1024.Idx) : w x = outG x0 x1 x2 x3 x4 ((Rect.unit (s := S1x1024x1024) ![0, o, 0] ![1, 512, 1024] inb).emb x) := by
  obtain ⟨a, i, n, rfl⟩ : ∃ a i n, x = ix3 a i n := ⟨x 0, x 1, x 2, eq_ix3 x⟩
  obtain rfl : a = 0 := Subsingleton.elim _ _
  exact (h i n).trans (rowOut_congr x0 x1 x2 x3 x4 (by show (o + i.val) % 16 = (o + 1 * i.val) % 16; omega)
    (by show (o + i.val) / 16 = (o + 1 * i.val) / 16; omega) (by show n.val = 0 + 1 * n.val; omega))

theorem out_eq (y : S1x1024x1024.Idx) :
    out0_A_5 (F := Ideal) c i arg2 harg2 arg3 harg3 arg4 harg4 arg5 harg5 arg6 harg6 arg7 harg7 arg8 harg8 x0 x1 x2 x3 x4 y = outG x0 x1 x2 x3 x4 y := by
  refine View.read_writes_apply_of_pieces VO0_5 _ (outG x0 x1 x2 x3 x4 : S1x1024x1024.Idx → Elt Ideal .f32) _ ?_ y
    (cover0_A_5 c i arg2 harg2 arg3 harg3 arg4 harg4 arg5 harg5 arg6 harg6 arg7 harg7 arg8 harg8 x0 x1 x2 x3 x4 y)
  rw [pieces_eq]
  intro p hp
  rcases List.mem_pair.1 hp with rfl | rfl
  · refine piece_of x0 x1 x2 x3 x4 512 (by omega) (fun a => by fin_cases a <;> simp) _ fun i n => ?_
    refine (sorted_at _ _ _ _ _ _ _ _ _ _ i n).trans ((tileB_at _ _ _ _ _ _ _ _ _ _ _ _ _ _ _ _ _ n).trans ?_)
    have e := slot (i.val % 16) (i.val / 16) (by omega) (by omega)
    exact rowOut_congr x0 x1 x2 x3 x4 (e.1.trans (by dsimp only; omega)) ((congrArg (32 + ·) e.2).trans (by dsimp only; omega)) rfl
  · refine piece_of x0 x1 x2 x3 x4 0 (by omega) (fun a => by fin_cases a <;> simp) _ fun i n => ?_
    refine (sorted_at _ _ _ _ _ _ _ _ _ _ i n).trans ((tileA_at _ _ _ _ _ _ _ _ _ _ _ _ _ _ _ _ _ n).trans ?_)
    have e := slot (i.val % 16) (i.val / 16) (by omega) (by omega)
    exact rowOut_congr x0 x1 x2 x3 x4 (e.1.trans (by dsimp only; omega)) ((congrArg (0 + ·) e.2).trans (by dsimp only; omega)) rfl

end Cert.Kernel4Ideal.Last

end
-- ==== Proof.LastPlace.lean ====
/-
  What the grid points of the last output projection read, as reads of the arguments: point `8 b + s` reads tokens
  `1024 s … 1024 s + 1023` of sequence `b`, by residue mod 16, and the whole weights.
-/
module

public import proofs.«01_k».proof.Proof.RotSpec
public import proofs.«01_k».proof.Proof.Gen.Kernel4Ideal.Frame.Runs
public import Idealize.ShloMosaic.Lib.Pipeline.ValueKit

@[expose] public section

set_option maxRecDepth 16384

noncomputable section

namespace Cert.Kernel4Ideal.Last

open Idealize.ShloMosaic Idealize.ShloMosaic.TcCoe Idealize.SL.Sem Cert.Kernel4Ideal Cert.Kernel4Ideal.Gen Cert.ConvLayer Cert.Queries

variable (m : (ℓ : Loc nD τ sig) → Buf (Elt Ideal) ℓ)

/-- Which blocks the input windows hold at a point. -/
theorem idx_in : ∀ t : Fin cfg0.N, win0_0.index t = ![t.val / 8, t.val % 8 / 2, 0, t.val % 2, 0] ∧ win0_1.index t = ![t.val / 8, t.val % 8 / 2, 0, t.val % 2, 0]
    ∧ win0_2.index t = ![t.val / 8, t.val % 8 / 2, 0, t.val % 2, 0] ∧ win0_3.index t = ![0, 0] ∧ win0_4.index t = ![0, 0] :=
  (by decide +kernel : ∀ t : Fin grid0.N, win0_0.index t = ![t.val / 8, t.val % 8 / 2, 0, t.val % 2, 0] ∧ win0_1.index t = ![t.val / 8, t.val % 8 / 2, 0, t.val % 2, 0]
    ∧ win0_2.index t = ![t.val / 8, t.val % 8 / 2, 0, t.val % 2, 0] ∧ win0_3.index t = ![0, 0] ∧ win0_4.index t = ![0, 0])

theorem point_lt (t : Fin cfg0.N) : t.val < 16 := t.isLt

/-- The sequence of a point, and the token of a row of its block. -/
def seqNo (t : Fin cfg0.N) : Fin 2 := ⟨t.val / 8, by have := point_lt t; omega⟩
def token (t : Fin cfg0.N) (i : Fin 1024) : Fin 8192 := ⟨1024 * (t.val % 8) + i.val, by omega⟩

/-- Where a row of a block of tokens sits in its array: the block's index times its size, plus its own coordinate. -/
theorem place_of (t : Fin cfg0.N) (x : S2x4x16x128x1024.Idx) (w : Fin 5 → ℕ) (hw : w = ![t.val / 8, t.val % 8 / 2, 0, t.val % 2, 0]) (r : Fin 16) (k : Fin 64) (n : Fin 1024)
    (h : ∀ a, (x a).val = w a * S1x1x16x64x1024.size a + ((ix5 0 0 r k n : S1x1x16x64x1024.Idx) a).val) :
    x = ix5 ⟨t.val / 8, by have := point_lt t; omega⟩ ⟨t.val % 8 / 2, by omega⟩ r ⟨64 * (t.val % 2) + k.val, by omega⟩ n := by
  subst hw
  funext a
  apply Fin.ext
  refine (h a).trans ?_
  fin_cases a
  · show t.val / 8 * 1 + 0 = t.val / 8; omega
  · show t.val % 8 / 2 * 1 + 0 = t.val % 8 / 2; omega
  · show 0 * 16 + r.val = r.val; omega
  · show t.val % 2 * 64 + k.val = 64 * (t.val % 2) + k.val; omega
  · show 0 * 1024 + n.val = n.val; omega

theorem o_block (c : Dev nD) (t : Fin cfg0.N) (r : Fin 16) (k : Fin 64) (n : Fin 1024) :
    iblk m c 0 t (ix5 0 0 r k n) = V m c main_v13 (ix5 ⟨t.val / 8, by have := point_lt t; omega⟩ ⟨t.val % 8 / 2, by omega⟩ r ⟨64 * (t.val % 2) + k.val, by omega⟩ n) := by
  refine congrArg (V m c main_v13) (?_ : (win0_0.rect t).emb (ix5 0 0 r k n) = _)
  exact place_of t _ (win0_0.index t) (idx_in t).1 r k n fun a => win0_0.rect_emb_val t _ a

theorem z_block (c : Dev nD) (t : Fin cfg0.N) (r : Fin 16) (k : Fin 64) (n : Fin 1024) :
    iblk m c 1 t (ix5 0 0 r k n) = V m c main_v14 (ix5 ⟨t.val / 8, by have := point_lt t; omega⟩ ⟨t.val % 8 / 2, by omega⟩ r ⟨64 * (t.val % 2) + k.val, by omega⟩ n) := by
  refine congrArg (V m c main_v14) (?_ : (win0_1.rect t).emb (ix5 0 0 r k n) = _)
  exact place_of t _ (win0_1.index t) (idx_in t).2.1 r k n fun a => win0_1.rect_emb_val t _ a

/-- Reading the third window's block of any array. -/
theorem x_read (a : S2x4x16x128x1024.Idx → Elt Ideal .f32) (t : Fin cfg0.N) (r : Fin 16) (k : Fin 64) (n : Fin 1024) :
    (win0_2.blk t).view.read (Elt Ideal) a (ix5 0 0 r k n)
      = a (ix5 ⟨t.val / 8, by have := point_lt t; omega⟩ ⟨t.val % 8 / 2, by omega⟩ r ⟨64 * (t.val % 2) + k.val, by omega⟩ n) := by
  refine congrArg a (?_ : (win0_2.rect t).emb (ix5 0 0 r k n) = _)
  exact place_of t _ (win0_2.index t) (idx_in t).2.2.1 r k n fun a => win0_2.rect_emb_val t _ a

theorem x_block (c : Dev nD) (t : Fin cfg0.N) (r : Fin 16) (k : Fin 64) (n : Fin 1024) :
    iblk m c 2 t (ix5 0 0 r k n) = V m c main_v15 (ix5 ⟨t.val / 8, by have := point_lt t; omega⟩ ⟨t.val % 8 / 2, by omega⟩ r ⟨64 * (t.val % 2) + k.val, by omega⟩ n) := by
  unfold iblk
  exact x_read (V m c main_v15) t r k n

end Cert.Kernel4Ideal.Last

end
-- ==== Proof.LastInput.lean ====
/-
  What the grid points of the last output projection read, as reads of the arguments: point `8 b + s` reads tokens
  `1024 s … 1024 s + 1023` of sequence `b`, by residue mod 16, and the whole weights.
-/
module

public import proofs.«01_k».proof.Proof.LastPlace
public import Idealize.ShloMosaic.Lib.Pipeline.ValueKit

@[expose] public section

set_option maxRecDepth 16384

noncomputable section

namespace Cert.Kernel4Ideal.Last

open Idealize.ShloMosaic Idealize.ShloMosaic.TcCoe Idealize.SL.Sem Cert.Kernel4Ideal Cert.Kernel4Ideal.Gen Cert.ConvLayer Cert.Queries

variable (m : (ℓ : Loc nD τ sig) → Buf (Elt Ideal) ℓ)

theorem radix (q r k : ℕ) (hr : r < 16) (hk : k < 128) :
    (q * 2048 + r * 128 + k) / 2048 * 2048 + (q * 2048 + r * 128 + k) % 128 * 16 + (q * 2048 + r * 128 + k) / 128 % 16 = 2048 * q + 16 * k + r := by
  have h1 : (q * 2048 + r * 128 + k) / 128 = 16 * q + r := by omega
  have h2 : (q * 2048 + r * 128 + k) % 128 = k := by omega
  have h3 : (q * 2048 + r * 128 + k) / 2048 = q := by omega
  rw [h1, h2, h3]
  omega

theorem v13_at (c : Dev nD) (b : Fin 2) (q : Fin 4) (r : Fin 16) (k : Fin 128) (n : Fin 1024) (j : Fin 8192) (hj : j.val = 2048 * q.val + 16 * k.val + r.val) :
    V m c main_v13 (ix5 b q r k n) = m ((c : Thread nD τ).loc main_arg0) (ix3 b j n) := by
  unfold V
  simp only [hostOps0, List.flatten_cons, List.flatten_nil, List.append_nil, List.cons_append, List.nil_append, StableHlo.TRef.unary, StableHlo.TRef.ternary]
  entry_read
  pointwise
  refine congrArg (fun a => m ((c : Thread nD τ).loc main_arg0) (ix3 b a n)) (Fin.ext ?_)
  exact (radix q.val r.val k.val r.isLt k.isLt).trans hj.symm

theorem v14_at (c : Dev nD) (b : Fin 2) (q : Fin 4) (r : Fin 16) (k : Fin 128) (n : Fin 1024) (j : Fin 8192) (hj : j.val = 2048 * q.val + 16 * k.val + r.val) :
    V m c main_v14 (ix5 b q r k n) = m ((c : Thread nD τ).loc main_arg1) (ix3 b j n) := by
  unfold V
  simp only [hostOps0, List.flatten_cons, List.flatten_nil, List.append_nil, List.cons_append, List.nil_append, StableHlo.TRef.unary, StableHlo.TRef.ternary]
  entry_read
  pointwise
  refine congrArg (fun a => m ((c : Thread nD τ).loc main_arg1) (ix3 b a n)) (Fin.ext ?_)
  exact (radix q.val r.val k.val r.isLt k.isLt).trans hj.symm

theorem v15_at (c : Dev nD) (b : Fin 2) (q : Fin 4) (r : Fin 16) (k : Fin 128) (n : Fin 1024) (j : Fin 8192) (hj : j.val = 2048 * q.val + 16 * k.val + r.val) :
    V m c main_v15 (ix5 b q r k n) = m ((c : Thread nD τ).loc main_arg2) (ix3 b j n) := by
  unfold V
  simp only [hostOps0, List.flatten_cons, List.flatten_nil, List.append_nil, List.cons_append, List.nil_append, StableHlo.TRef.unary, StableHlo.TRef.ternary]
  entry_read
  pointwise
  refine congrArg (fun a => m ((c : Thread nD τ).loc main_arg2) (ix3 b a n)) (Fin.ext ?_)
  dsimp only
  omega

theorem v11_at (c : Dev nD) (k n : Fin 1024) : V m c main_v11 (ix2 k n) = m ((c : Thread nD τ).loc main_arg3) (ix2 k n) := by
  unfold V
  simp only [hostOps0, List.flatten_cons, List.flatten_nil, List.append_nil, List.cons_append, List.nil_append, StableHlo.TRef.unary, StableHlo.TRef.ternary]
  entry_read
  pointwise

theorem v12_at (c : Dev nD) (k : Fin 1024) : V m c main_v12 (ix2 0 k) = m ((c : Thread nD τ).loc main_arg4) (ix1 k) := by
  unfold V
  simp only [hostOps0, List.flatten_cons, List.flatten_nil, List.append_nil, List.cons_append, List.nil_append, StableHlo.TRef.unary, StableHlo.TRef.ternary]
  entry_read
  pointwise

theorem o_at (c : Dev nD) (t : Fin cfg0.N) (r : Fin 16) (k : Fin 64) (n : Fin 1024) (i : Fin 1024) (hi : i.val = 16 * k.val + r.val) :
    iblk m c 0 t (ix5 0 0 r k n) = m ((c : Thread nD τ).loc main_arg0) (ix3 (seqNo t) (token t i) n) :=
  (o_block m c t r k n).trans (v13_at m c _ _ _ _ _ _ (by dsimp only [token]; omega))

theorem z_at (c : Dev nD) (t : Fin cfg0.N) (r : Fin 16) (k : Fin 64) (n : Fin 1024) (i : Fin 1024) (hi : i.val = 16 * k.val + r.val) :
    iblk m c 1 t (ix5 0 0 r k n) = m ((c : Thread nD τ).loc main_arg1) (ix3 (seqNo t) (token t i) n) :=
  (z_block m c t r k n).trans (v14_at m c _ _ _ _ _ _ (by dsimp only [token]; omega))

theorem x_at (c : Dev nD) (t : Fin cfg0.N) (r : Fin 16) (k : Fin 64) (n : Fin 1024) (i : Fin 1024) (hi : i.val = 16 * k.val + r.val) :
    iblk m c 2 t (ix5 0 0 r k n) = m ((c : Thread nD τ).loc main_arg2) (ix3 (seqNo t) (token t i) n) :=
  (x_block m c t r k n).trans (v15_at m c _ _ _ _ _ _ (by dsimp only [token]; omega))

theorem wo_at (c : Dev nD) (t : Fin cfg0.N) (k n : Fin 1024) :
    iblk m c 3 t (ix2 k n) = m ((c : Thread nD τ).loc main_arg3) (ix2 k n) := by
  have e : iblk m c 3 t (ix2 k n) = V m c main_v11 (ix2 k n) := by blk_ext [iblk, idx_in t]
  exact e.trans (v11_at m c k n)

theorem gp_at (c : Dev nD) (t : Fin cfg0.N) (k : Fin 1024) :
    iblk m c 4 t (ix2 0 k) = m ((c : Thread nD τ).loc main_arg4) (ix1 k) := by
  have e : iblk m c 4 t (ix2 0 k) = V m c main_v12 (ix2 0 k) := by blk_ext [iblk, idx_in t]
  exact e.trans (v12_at m c k)

end Cert.Kernel4Ideal.Last

end
-- ==== Proof.LastArray.lean ====
/-
  The array that the last output projection leaves, as a function of its arguments: the next stream, in token order.
-/
module

public import proofs.«01_k».proof.Proof.LastPoint
public import proofs.«01_k».proof.Proof.LastInput

@[expose] public section

set_option maxRecDepth 16384

noncomputable section

namespace Cert.Kernel4Ideal.Last

open Idealize.ShloMosaic Idealize.ShloMosaic.TcCoe Idealize.SL.Sem Cert.Kernel4Ideal Cert.Kernel4Ideal.Gen Cert.ConvLayer Cert.Queries

variable (m : (ℓ : Loc nD τ sig) → Buf (Elt Ideal) ℓ)

/-- The stream after the layer at token `i` of sequence `b`. -/
def lastOf (c : Dev nD) (b : Fin 2) (i : Fin 8192) : Row :=
  nextRow (fun k => m ((c : Thread nD τ).loc main_arg0) (ix3 b i k)) (fun k => m ((c : Thread nD τ).loc main_arg1) (ix3 b i k))
    (fun k => m ((c : Thread nD τ).loc main_arg2) (ix3 b i k)) (fun k n => m ((c : Thread nD τ).loc main_arg3) (ix2 k n))
    (fun k => m ((c : Thread nD τ).loc main_arg4) (ix1 k))

/-- What the array holds. -/
def outY (c : Dev nD) (y : S2x8192x1024.Idx) : EReal := lastOf m c (y 0) (y 1) (y 2)

theorem outY_of (c : Dev nD) (y : S2x8192x1024.Idx) (b : Fin 2) (i : Fin 8192) (n : Fin 1024) (h0 : b.val = (y 0).val) (h1 : i.val = (y 1).val)
    (h2 : n.val = (y 2).val) : lastOf m c b i n = outY m c y := by
  obtain rfl : b = y 0 := Fin.ext h0
  obtain rfl : i = y 1 := Fin.ext h1
  obtain rfl : n = y 2 := Fin.ext h2
  rfl

theorem row_eq (c : Dev nD) (t : Fin cfg0.N) (r : Fin 16) (k : Fin 64) (i : Fin 1024) (hi : i.val = 16 * k.val + r.val) :
    rowOut (iblk m c 0 t) (iblk m c 1 t) (iblk m c 2 t) (iblk m c 3 t) (iblk m c 4 t) r k = lastOf m c (seqNo t) (token t i) := by
  unfold rowOut lastOf
  rw [funext fun n => o_at m c t r k n i hi, funext fun n => z_at m c t r k n i hi, funext fun n => x_at m c t r k n i hi,
    funext fun k => funext fun n => wo_at m c t k n, funext fun k => gp_at m c t k]

theorem idx_out : ∀ t : Fin cfg0.N, win0_5.index t = ![t.val / 8, t.val % 8, 0] :=
  (by decide +kernel : ∀ t : Fin grid0.N, win0_5.index t = ![t.val / 8, t.val % 8, 0])

theorem outs_at (c : Dev nD) (t : Fin cfg0.N) (i : Fin 1024) (n : Fin 1024) :
    outsAt0 m c t (ix3 0 i n) = lastOf m c (seqNo t) (token t i) n := by
  unfold outsAt0
  refine (out_eq _ _ _ _ _ _ _ _ _ _ _ _ _ _ _ _ _ _ _ _ _ _).trans ?_
  exact congrFun (row_eq m c t ⟨i.val % 16, by omega⟩ ⟨i.val / 16, by omega⟩ i (by dsimp only; omega)) n

theorem y_array (c : Dev nD) : (dats m 0 c).arrAt 5 cfg0.N = (outY m c : S2x8192x1024.Idx → Elt Ideal .f32) := by
  refine (dats m 0 c).arrAt_eq_of_covers 5 _ (by decide +kernel) fun t hf y => ?_
  blk_simp
  rw [after0_5]
  obtain ⟨i, n, rfl⟩ : ∃ (i : Fin 1024) (n : Fin 1024), y = ix3 0 i n := ⟨y 1, y 2, by
    have := eq_ix3 y
    rw [show (0 : Fin 1) = y 0 from (Subsingleton.elim _ _)]; exact this⟩
  refine (outs_at m c t i n).trans ?_
  refine outY_of m c _ _ _ _ ?_ ?_ ?_
  · blk_simp [idx_out t] <;> first | rfl | (dsimp only [token, seqNo]; omega)
  · blk_simp [idx_out t] <;> first | rfl | (dsimp only [token, seqNo]; omega)
  · blk_simp [idx_out t] <;> first | rfl | (dsimp only [token, seqNo]; omega)

end Cert.Kernel4Ideal.Last

end
-- ==== Proof.LastRun.lean ====
/-
  A whole run of the last output projection: the stream that it leaves, its arguments unchanged.
-/
module

public import proofs.«01_k».proof.Proof.LastArray

@[expose] public section

set_option maxRecDepth 16384

noncomputable section

namespace Cert.Kernel4Ideal.Last

open Idealize.ShloMosaic Idealize.ShloMosaic.TcCoe Idealize.SL.Sem Cert.Kernel4Ideal Cert.Kernel4Ideal.Gen

variable (m : (ℓ : Loc nD τ sig) → Buf (Elt Ideal) ℓ)

set_option maxHeartbeats 2000000 in
theorem out_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = (outY m c : S2x8192x1024.Idx → Elt Ideal .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1 5).trans (y_array m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel4Ideal.Last

end
-- ==== Proof.LastRef.lean ====
/-
  The reference's last output projection, operation by operation, read at an index.
-/
module

public import proofs.«01_k».proof.Proof.RotSpec
public import proofs.«01_k».proof.Proof.Gen.Reference4Ideal.Read

@[expose] public section

set_option maxRecDepth 16384

noncomputable section

namespace Cert.Reference4Ideal.Last

open Idealize.ShloMosaic Cert.Reference4Ideal Cert.Reference4Ideal.Gen Cert.Reference4Ideal.Read Cert.ConvLayer Cert.Queries

variable (x0 x1 x2 : Vec Ideal S2x8192x1024 .f32) (x3 : Vec Ideal S1024x1024 .f32) (x4 : Vec Ideal S1024 .f32)

/-- Token `i` of sequence `b`, after the projection. -/
abbrev nx (b : Fin 2) (i : Fin 8192) : Row :=
  nextRow (fun k => x0 (ix3 b i k)) (fun k => x1 (ix3 b i k)) (fun k => x2 (ix3 b i k)) (fun k n => x3 (ix2 k n)) (fun k => x4 (ix1 k))

theorem gated_at (b : Fin 2) (i : Fin 8192) (k : Fin 1024) :
    val_main_v7 (F := Ideal) x0 x1 (ix3 b i k) = gated (fun k => x0 (ix3 b i k)) (fun k => x1 (ix3 b i k)) k := by
  pointwise [val_main_v0, val_main_v1, val_main_cst, val_main_v2, val_main_v3, val_main_cst_0, val_main_v4, val_main_v5, val_main_v6, val_main_v7]
  unfold gated Ideal.logistic
  rfl

theorem next_at (b : Fin 2) (i : Fin 8192) (n : Fin 1024) :
    val_main_v22 (F := Ideal) x0 x1 x2 x3 x4 (ix3 b i n) = nx x0 x1 x2 x3 x4 b i n := by
  have hdot : ∀ n, val_main_v8 (F := Ideal) x0 x1 x3 (ix3 b i n)
      = ∑ c, gated (fun k => x0 (ix3 b i k)) (fun k => x1 (ix3 b i k)) c * x3 (ix2 c n) := fun n => by
    pointwise [val_main_v8]
    simp only [gated_at]
  pointwise [val_main_v9, val_main_cst_1, val_main_v10, val_main_v11, val_main_cst_2, val_main_v12, val_main_v13, val_main_cst_3, val_main_v14, val_main_v15,
    val_main_v16, val_main_v17, val_main_v18, val_main_v19, val_main_v20, val_main_v21, val_main_v22]
  simp only [hdot]
  rfl

end Cert.Reference4Ideal.Last

end
-- ==== Proof.LastClaim.lean ====
/-
  The last output projection and its reference leave the same stream.
-/
module

public import proofs.«01_k».proof.Defs
public import proofs.«01_k».proof.Proof.LastRun
public import proofs.«01_k».proof.Proof.LastRef
public import proofs.«01_k».proof.Proof.Gen.Reference4Ideal.Run

@[expose] public section

set_option maxRecDepth 16384

noncomputable section

namespace Cert.LastLayer

open Idealize.ShloMosaic Idealize.SL.Sem
open Cert.Kernel4Ideal.Last Cert.Reference4Ideal.Last Cert.Reference4Ideal.Read

variable (m : (ℓ : Loc Kernel4Ideal.nD Kernel4Ideal.τ Kernel4Ideal.sig) → Buf (Elt Ideal) ℓ) (c : Dev Kernel4Ideal.nD)

theorem ref_y {x0 x1 x2 : Vec Ideal Reference4Ideal.S2x8192x1024 .f32} {x3 : Vec Ideal Reference4Ideal.S1024x1024 .f32} {x4 : Vec Ideal Reference4Ideal.S1024 .f32}
    (h0 : x0 = m ((c.tc : Thread Kernel4Ideal.nD Kernel4Ideal.τ).loc Kernel4Ideal.main_arg0))
    (h1 : x1 = m ((c.tc : Thread Kernel4Ideal.nD Kernel4Ideal.τ).loc Kernel4Ideal.main_arg1))
    (h2 : x2 = m ((c.tc : Thread Kernel4Ideal.nD Kernel4Ideal.τ).loc Kernel4Ideal.main_arg2))
    (h3 : x3 = m ((c.tc : Thread Kernel4Ideal.nD Kernel4Ideal.τ).loc Kernel4Ideal.main_arg3))
    (h4 : x4 = m ((c.tc : Thread Kernel4Ideal.nD Kernel4Ideal.τ).loc Kernel4Ideal.main_arg4)) :
    val_main_v22 (F := Ideal) x0 x1 x2 x3 x4 = (outY m c : Kernel4Ideal.S2x8192x1024.Idx → Elt Ideal .f32) := by
  subst h0 h1 h2 h3 h4
  funext y
  exact (congrArg _ (eq_ix3 y)).trans (next_at _ _ _ _ _ (y 0) (y 1) (y 2))

theorem same [hKernel4Ideal : Cert.Kernel4Ideal.Facts] [hReference4Ideal : Cert.Reference4Ideal.Facts] :
    Cert.algebraic_Kernel4Ideal_Reference4Ideal := by
  intro m ρ m' ρ' _ hagree
  refine ⟨fun c => outY m c, out_run m ρ,
    (θ_run Reference4Ideal.defs _ _).mono (fun r h c => ?_) (Cert.Reference4Ideal.Value.run m' ρ')⟩
  obtain ⟨a0, a1, a2, a3, a4⟩ := hagree c
  obtain ⟨r0, args⟩ := h c
  exact ⟨r0.trans ((val_main_v22_eq _ _ _ _ _).trans (ref_y m c a0 a1 a2 a3 a4)), args⟩

theorem ref_frame [hReference4Ideal : Cert.Reference4Ideal.Facts] : Cert.quiescent_Reference4Ideal := fun m ρ _ =>
  (θ_run Reference4Ideal.defs _ _).mono (fun r h => ⟨fun c => (h c).2, sem_eq_zero_of_no_sems (by decide) r.2⟩)
    (Cert.Reference4Ideal.Value.run m ρ)

end Cert.LastLayer

end
-- ==== Proof.lean ====
/-
  Every claim of the four calls, from the generated frames and the lemmas of `Proof/Conv*.lean`, `Proof/OutQ*.lean`,
  `Proof/Q*.lean` and `Proof/Last*.lean`.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.ConvClaim
public import proofs.«01_k».proof.Proof.OutQClaim
public import proofs.«01_k».proof.Proof.QClaim
public import proofs.«01_k».proof.Proof.LastClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m ρ _ => Cert.Kernel.Gen.frame m ρ, fun m ρ _ => Cert.KernelIdeal.Gen.frame m ρ, Cert.ConvLayer.ref_frame,
    fun m ρ _ => Cert.Kernel2.Gen.frame m ρ, fun m ρ _ => Cert.Kernel2Ideal.Gen.frame m ρ, Cert.OutQLayer.ref_frame,
    fun m ρ _ => Cert.Kernel3.Gen.frame m ρ, fun m ρ _ => Cert.Kernel3Ideal.Gen.frame m ρ, Cert.QLayer.ref_frame,
    fun m ρ _ => Cert.Kernel4.Gen.frame m ρ, fun m ρ _ => Cert.Kernel4Ideal.Gen.frame m ρ, Cert.LastLayer.ref_frame,
    trivial, Cert.ConvLayer.same, trivial, Cert.OutQLayer.same, trivial, Cert.QLayer.same, trivial, Cert.LastLayer.same⟩

end Cert.Proof

end
